-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v777) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x64 : Shape := ⟨2, ![256, 64]⟩
abbrev S120x64 : Shape := ⟨2, ![120, 64]⟩
abbrev S120 : Shape := ⟨1, ![120]⟩
abbrev S64x256 : Shape := ⟨2, ![64, 256]⟩
abbrev S120x1 : Shape := ⟨2, ![120, 1]⟩
abbrev S120x256 : Shape := ⟨2, ![120, 256]⟩
abbrev S16x8x256 : Shape := ⟨3, ![16, 8, 256]⟩
abbrev S2x64x8x128 : Shape := ⟨4, ![2, 64, 8, 128]⟩
abbrev S64x128 : Shape := ⟨2, ![64, 128]⟩
abbrev S120x128 : Shape := ⟨2, ![120, 128]⟩
abbrev S16x8x128 : Shape := ⟨3, ![16, 8, 128]⟩
abbrev S1x64x8x128 : Shape := ⟨4, ![1, 64, 8, 128]⟩
abbrev S8x128 : Shape := ⟨2, ![8, 128]⟩
abbrev S1x128 : Shape := ⟨2, ![1, 128]⟩
abbrev S1x8x128 : Shape := ⟨3, ![1, 8, 128]⟩
abbrev S1x1x8x128 : Shape := ⟨4, ![1, 1, 8, 128]⟩
abbrev S256x120 : Shape := ⟨2, ![256, 120]⟩
abbrev S16x8x32x8 : Shape := ⟨4, ![16, 8, 32, 8]⟩
abbrev S32x8x8x16 : Shape := ⟨4, ![32, 8, 8, 16]⟩
abbrev S32x64x16 : Shape := ⟨3, ![32, 64, 16]⟩
abbrev S32x64x128 : Shape := ⟨3, ![32, 64, 128]⟩
abbrev S2x64x1024 : Shape := ⟨3, ![2, 64, 1024]⟩
abbrev S_ : Shape := ⟨0, ![]⟩
abbrev S1 : Shape := ⟨1, ![1]⟩
abbrev S256x256 : Shape := ⟨2, ![256, 256]⟩
abbrev S8x64x128 : Shape := ⟨3, ![8, 64, 128]⟩
abbrev S1x64x1024 : Shape := ⟨3, ![1, 64, 1024]⟩
abbrev S8x8x64x128 : Shape := ⟨4, ![8, 8, 64, 128]⟩
abbrev S64x1024 : Shape := ⟨2, ![64, 1024]⟩
abbrev S128x1024 : Shape := ⟨2, ![128, 1024]⟩
abbrev S16x1024 : Shape := ⟨2, ![16, 1024]⟩
abbrev S1x64x128 : Shape := ⟨3, ![1, 64, 128]⟩
abbrev S1x1x64x128 : Shape := ⟨4, ![1, 1, 64, 128]⟩
abbrev S8x8x128 : Shape := ⟨3, ![8, 8, 128]⟩
abbrev S4x8x128 : Shape := ⟨3, ![4, 8, 128]⟩
abbrev S2x8x128 : Shape := ⟨3, ![2, 8, 128]⟩
abbrev S256 : Shape := ⟨1, ![256]⟩
abbrev S256x1 : Shape := ⟨2, ![256, 1]⟩
abbrev S1x256 : Shape := ⟨2, ![1, 256]⟩

abbrev nBuf : Space → Nat
  | .hbm => 38
  | .vmem => 22
  | .smem => 1
  | _ => 0

abbrev bufTy : (tb : Table) → Fin (tcTables nBuf tb) → BufTy
  | .hbm, ⟨0, _⟩ => ⟨S256x64, .f32⟩
  | .hbm, ⟨1, _⟩ => ⟨S120x64, .f32⟩
  | .hbm, ⟨2, _⟩ => ⟨S120, .f32⟩
  | .hbm, ⟨3, _⟩ => ⟨S64x256, .f32⟩
  | .hbm, ⟨4, _⟩ => ⟨S120x1, .f32⟩
  | .hbm, ⟨5, _⟩ => ⟨S120x256, .f32⟩
  | .hbm, ⟨6, _⟩ => ⟨S16x8x256, .f32⟩
  | .hbm, ⟨7, _⟩ => ⟨S16x8x256, .f32⟩
  | .hbm, ⟨8, _⟩ => ⟨S2x64x8x128, .bf16⟩
  | .hbm, ⟨9, _⟩ => ⟨S256x120, .f32⟩
  | .hbm, ⟨10, _⟩ => ⟨S16x8x32x8, .f32⟩
  | .hbm, ⟨11, _⟩ => ⟨S32x8x8x16, .f32⟩
  | .hbm, ⟨12, _⟩ => ⟨S16x8x32x8, .f32⟩
  | .hbm, ⟨13, _⟩ => ⟨S32x8x8x16, .f32⟩
  | .hbm, ⟨14, _⟩ => ⟨S32x64x16, .f32⟩
  | .hbm, ⟨15, _⟩ => ⟨S32x64x16, .f32⟩
  | .hbm, ⟨16, _⟩ => ⟨S32x64x16, .bf16⟩
  | .hbm, ⟨17, _⟩ => ⟨S32x64x16, .f32⟩
  | .hbm, ⟨18, _⟩ => ⟨S32x64x16, .f32⟩
  | .hbm, ⟨19, _⟩ => ⟨S32x64x16, .bf16⟩
  | .hbm, ⟨20, _⟩ => ⟨S32x64x16, .bf16⟩
  | .hbm, ⟨21, _⟩ => ⟨S32x64x16, .f32⟩
  | .hbm, ⟨22, _⟩ => ⟨S32x64x16, .f32⟩
  | .hbm, ⟨23, _⟩ => ⟨S32x64x16, .bf16⟩
  | .hbm, ⟨24, _⟩ => ⟨S32x64x128, .bf16⟩
  | .hbm, ⟨25, _⟩ => ⟨S2x64x1024, .bf16⟩
  | .hbm, ⟨26, _⟩ => ⟨S_, .i32⟩
  | .hbm, ⟨27, _⟩ => ⟨S1, .i32⟩
  | .hbm, ⟨28, _⟩ => ⟨S256x256, .f32⟩
  | .hbm, ⟨29, _⟩ => ⟨S256, .i32⟩
  | .hbm, ⟨30, _⟩ => ⟨S256x1, .i32⟩
  | .hbm, ⟨31, _⟩ => ⟨S256, .i32⟩
  | .hbm, ⟨32, _⟩ => ⟨S1x256, .i32⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S256x256, .f32⟩
  | .hbm, ⟨37, _⟩ => ⟨S256x256, .f32⟩
  | .local _ .vmem, ⟨0, _⟩ => ⟨S64x128, .f32⟩
  | .local _ .vmem, ⟨1, _⟩ => ⟨S64x128, .f32⟩
  | .local _ .vmem, ⟨2, _⟩ => ⟨S120x64, .f32⟩
  | .local _ .vmem, ⟨3, _⟩ => ⟨S120x1, .f32⟩
  | .local _ .vmem, ⟨4, _⟩ => ⟨S120x128, .f32⟩
  | .local _ .vmem, ⟨5, _⟩ => ⟨S120x128, .f32⟩
  | .local _ .vmem, ⟨6, _⟩ => ⟨S16x8x128, .f32⟩
  | .local _ .vmem, ⟨7, _⟩ => ⟨S16x8x128, .f32⟩
  | .local _ .vmem, ⟨8, _⟩ => ⟨S16x8x128, .f32⟩
  | .local _ .vmem, ⟨9, _⟩ => ⟨S16x8x128, .f32⟩
  | .local _ .vmem, ⟨10, _⟩ => ⟨S1x64x8x128, .bf16⟩
  | .local _ .vmem, ⟨11, _⟩ => ⟨S1x64x8x128, .bf16⟩
  | .local _ .vmem, ⟨12, _⟩ => ⟨S120x128, .f32⟩
  | .local _ .vmem, ⟨13, _⟩ => ⟨S120x128, .f32⟩
  | .local _ .vmem, ⟨14, _⟩ => ⟨S8x64x128, .bf16⟩
  | .local _ .vmem, ⟨15, _⟩ => ⟨S8x64x128, .bf16⟩
  | .local _ .vmem, ⟨16, _⟩ => ⟨S1x64x1024, .bf16⟩
  | .local _ .vmem, ⟨17, _⟩ => ⟨S1x64x1024, .bf16⟩
  | .local _ .vmem, ⟨18, _⟩ => ⟨S64x128, .f32⟩
  | .local _ .vmem, ⟨19, _⟩ => ⟨S64x128, .f32⟩
  | .local _ .vmem, ⟨20, _⟩ => ⟨S8x8x64x128, .f32⟩
  | .local _ .vmem, ⟨21, _⟩ => ⟨S8x8x64x128, .f32⟩
  | .local _ .smem, ⟨0, _⟩ => ⟨S1, .i32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S120x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 4], ![false, false]⟩

def k1_cond1 (i : grid1.Coords) : BitVec 1 :=
  let arg1 : BitVec 32 := BitVec.ofNat 32 (i 1).val
  let c8_i32 : BitVec 32 := 8#32
  let v12 : BitVec 32 := Scalar.muli arg1 c8_i32
  let c0_i32 : BitVec 32 := 0#32
  let v13 : BitVec 32 := Scalar.addi v12 c0_i32
  let c8_i32_2 : BitVec 32 := 8#32
  let v14 : BitVec 32 := Scalar.muli v13 c8_i32_2
  let arg0 : BitVec 32 := BitVec.ofNat 32 (i 0).val
  let c1_i32 : BitVec 32 := 1#32
  let v15 : BitVec 32 := Scalar.addi arg0 c1_i32
  let c128_i32 : BitVec 32 := 128#32
  let v16 : BitVec 32 := Scalar.muli v15 c128_i32
  let v17 : BitVec 1 := Scalar.cmpi .slt v14 v16
  let v18 : BitVec 32 := Scalar.extui v17
  let c0_i32_3 : BitVec 32 := 0#32
  let v19 : BitVec 1 := Scalar.cmpi .ne v18 c0_i32_3
  v19

def k1_off1 (v129 : BitVec 32) (c1_i32_111 : BitVec 32) : Fin 4 → Nat :=
  let c0_112 : Index := 0#32
  let v264 : BitVec 32 := Scalar.addi v129 c1_i32_111
  let v265 : Index := Scalar.indexCast v264
  let c0_113 : Index := 0#32
  let c0_114 : Index := 0#32
  ![0, v265.toNat, 0, 0]

def k1_chk1 (i : grid1.Coords) (v129 : BitVec 32) : Prop :=
  (∀ (k1_h1 : k1_cond1 i = 1#1), ∀ (r : Fin 7), ∀ a, (k1_off1 v129 (BitVec.ofNat 32 (1 + r.val))) a + S1x1x64x128.size a ≤ S8x8x64x128.size a)
theorem k1_off1_inb : ∀ (i : grid1.Coords) (v129 : BitVec 32) (k1_hw1 : k1_chk1 i v129), ∀ (k1_h1 : k1_cond1 i = 1#1), ∀ (r : Fin 7), ∀ a, (k1_off1 v129 (BitVec.ofNat 32 (1 + r.val))) a + S1x1x64x128.size a ≤ S8x8x64x128.size a := fun i v129 k1_hw1 k1_h1 r => k1_hw1 k1_h1 r

def k1_cond2 (i : grid1.Coords) : BitVec 1 :=
  let arg1 : BitVec 32 := BitVec.ofNat 32 (i 1).val
  let c8_i32_4 : BitVec 32 := 8#32
  let v20 : BitVec 32 := Scalar.muli arg1 c8_i32_4
  let c1_i32_5 : BitVec 32 := 1#32
  let v21 : BitVec 32 := Scalar.addi v20 c1_i32_5
  let c8_i32_6 : BitVec 32 := 8#32
  let v22 : BitVec 32 := Scalar.muli v21 c8_i32_6
  let arg0 : BitVec 32 := BitVec.ofNat 32 (i 0).val
  let c1_i32_7 : BitVec 32 := 1#32
  let v23 : BitVec 32 := Scalar.addi arg0 c1_i32_7
  let c128_i32_8 : BitVec 32 := 128#32
  let v24 : BitVec 32 := Scalar.muli v23 c128_i32_8
  let v25 : BitVec 1 := Scalar.cmpi .slt v22 v24
  let v26 : BitVec 32 := Scalar.extui v25
  let c0_i32_9 : BitVec 32 := 0#32
  let v27 : BitVec 1 := Scalar.cmpi .ne v26 c0_i32_9
  v27

def k1_off2 (v129 : BitVec 32) (c1_i32_111 : BitVec 32) : Fin 4 → Nat :=
  let c1_112 : Index := 1#32
  let v264 : BitVec 32 := Scalar.addi v129 c1_i32_111
  let v265 : Index := Scalar.indexCast v264
  let c0_113 : Index := 0#32
  let c0_114 : Index := 0#32
  ![1, v265.toNat, 0, 0]

def k1_chk2 (i : grid1.Coords) (v129 : BitVec 32) : Prop :=
  (∀ (k1_h2 : k1_cond2 i = 1#1), ∀ (r : Fin 7), ∀ a, (k1_off2 v129 (BitVec.ofNat 32 (1 + r.val))) a + S1x1x64x128.size a ≤ S8x8x64x128.size a)
theorem k1_off2_inb : ∀ (i : grid1.Coords) (v129 : BitVec 32) (k1_hw2 : k1_chk2 i v129), ∀ (k1_h2 : k1_cond2 i = 1#1), ∀ (r : Fin 7), ∀ a, (k1_off2 v129 (BitVec.ofNat 32 (1 + r.val))) a + S1x1x64x128.size a ≤ S8x8x64x128.size a := fun i v129 k1_hw2 k1_h2 r => k1_hw2 k1_h2 r

def k1_cond3 (i : grid1.Coords) : BitVec 1 :=
  let arg1 : BitVec 32 := BitVec.ofNat 32 (i 1).val
  let c8_i32_10 : BitVec 32 := 8#32
  let v28 : BitVec 32 := Scalar.muli arg1 c8_i32_10
  let c2_i32 : BitVec 32 := 2#32
  let v29 : BitVec 32 := Scalar.addi v28 c2_i32
  let c8_i32_11 : BitVec 32 := 8#32
  let v30 : BitVec 32 := Scalar.muli v29 c8_i32_11
  let arg0 : BitVec 32 := BitVec.ofNat 32 (i 0).val
  let c1_i32_12 : BitVec 32 := 1#32
  let v31 : BitVec 32 := Scalar.addi arg0 c1_i32_12
  let c128_i32_13 : BitVec 32 := 128#32
  let v32 : BitVec 32 := Scalar.muli v31 c128_i32_13
  let v33 : BitVec 1 := Scalar.cmpi .slt v30 v32
  let v34 : BitVec 32 := Scalar.extui v33
  let c0_i32_14 : BitVec 32 := 0#32
  let v35 : BitVec 1 := Scalar.cmpi .ne v34 c0_i32_14
  v35

def k1_off3 (v129 : BitVec 32) (c1_i32_111 : BitVec 32) : Fin 4 → Nat :=
  let c2_112 : Index := 2#32
  let v264 : BitVec 32 := Scalar.addi v129 c1_i32_111
  let v265 : Index := Scalar.indexCast v264
  let c0_113 : Index := 0#32
  let c0_114 : Index := 0#32
  ![2, v265.toNat, 0, 0]

def k1_chk3 (i : grid1.Coords) (v129 : BitVec 32) : Prop :=
  (∀ (k1_h3 : k1_cond3 i = 1#1), ∀ (r : Fin 7), ∀ a, (k1_off3 v129 (BitVec.ofNat 32 (1 + r.val))) a + S1x1x64x128.size a ≤ S8x8x64x128.size a)
theorem k1_off3_inb : ∀ (i : grid1.Coords) (v129 : BitVec 32) (k1_hw3 : k1_chk3 i v129), ∀ (k1_h3 : k1_cond3 i = 1#1), ∀ (r : Fin 7), ∀ a, (k1_off3 v129 (BitVec.ofNat 32 (1 + r.val))) a + S1x1x64x128.size a ≤ S8x8x64x128.size a := fun i v129 k1_hw3 k1_h3 r => k1_hw3 k1_h3 r

def k1_cond4 (i : grid1.Coords) : BitVec 1 :=
  let arg1 : BitVec 32 := BitVec.ofNat 32 (i 1).val
  let c8_i32_15 : BitVec 32 := 8#32
  let v36 : BitVec 32 := Scalar.muli arg1 c8_i32_15
  let c3_i32 : BitVec 32 := 3#32
  let v37 : BitVec 32 := Scalar.addi v36 c3_i32
  let c8_i32_16 : BitVec 32 := 8#32
  let v38 : BitVec 32 := Scalar.muli v37 c8_i32_16
  let arg0 : BitVec 32 := BitVec.ofNat 32 (i 0).val
  let c1_i32_17 : BitVec 32 := 1#32
  let v39 : BitVec 32 := Scalar.addi arg0 c1_i32_17
  let c128_i32_18 : BitVec 32 := 128#32
  let v40 : BitVec 32 := Scalar.muli v39 c128_i32_18
  let v41 : BitVec 1 := Scalar.cmpi .slt v38 v40
  let v42 : BitVec 32 := Scalar.extui v41
  let c0_i32_19 : BitVec 32 := 0#32
  let v43 : BitVec 1 := Scalar.cmpi .ne v42 c0_i32_19
  v43

def k1_off4 (v129 : BitVec 32) (c1_i32_111 : BitVec 32) : Fin 4 → Nat :=
  let c3_112 : Index := 3#32
  let v264 : BitVec 32 := Scalar.addi v129 c1_i32_111
  let v265 : Index := Scalar.indexCast v264
  let c0_113 : Index := 0#32
  let c0_114 : Index := 0#32
  ![3, v265.toNat, 0, 0]

def k1_chk4 (i : grid1.Coords) (v129 : BitVec 32) : Prop :=
  (∀ (k1_h4 : k1_cond4 i = 1#1), ∀ (r : Fin 7), ∀ a, (k1_off4 v129 (BitVec.ofNat 32 (1 + r.val))) a + S1x1x64x128.size a ≤ S8x8x64x128.size a)
theorem k1_off4_inb : ∀ (i : grid1.Coords) (v129 : BitVec 32) (k1_hw4 : k1_chk4 i v129), ∀ (k1_h4 : k1_cond4 i = 1#1), ∀ (r : Fin 7), ∀ a, (k1_off4 v129 (BitVec.ofNat 32 (1 + r.val))) a + S1x1x64x128.size a ≤ S8x8x64x128.size a := fun i v129 k1_hw4 k1_h4 r => k1_hw4 k1_h4 r

def k1_cond5 (i : grid1.Coords) : BitVec 1 :=
  let arg1 : BitVec 32 := BitVec.ofNat 32 (i 1).val
  let c8_i32_20 : BitVec 32 := 8#32
  let v44 : BitVec 32 := Scalar.muli arg1 c8_i32_20
  let c4_i32 : BitVec 32 := 4#32
  let v45 : BitVec 32 := Scalar.addi v44 c4_i32
  let c8_i32_21 : BitVec 32 := 8#32
  let v46 : BitVec 32 := Scalar.muli v45 c8_i32_21
  let arg0 : BitVec 32 := BitVec.ofNat 32 (i 0).val
  let c1_i32_22 : BitVec 32 := 1#32
  let v47 : BitVec 32 := Scalar.addi arg0 c1_i32_22
  let c128_i32_23 : BitVec 32 := 128#32
  let v48 : BitVec 32 := Scalar.muli v47 c128_i32_23
  let v49 : BitVec 1 := Scalar.cmpi .slt v46 v48
  let v50 : BitVec 32 := Scalar.extui v49
  let c0_i32_24 : BitVec 32 := 0#32
  let v51 : BitVec 1 := Scalar.cmpi .ne v50 c0_i32_24
  v51

def k1_off5 (v129 : BitVec 32) (c1_i32_111 : BitVec 32) : Fin 4 → Nat :=
  let c4_112 : Index := 4#32
  let v264 : BitVec 32 := Scalar.addi v129 c1_i32_111
  let v265 : Index := Scalar.indexCast v264
  let c0_113 : Index := 0#32
  let c0_114 : Index := 0#32
  ![4, v265.toNat, 0, 0]

def k1_chk5 (i : grid1.Coords) (v129 : BitVec 32) : Prop :=
  (∀ (k1_h5 : k1_cond5 i = 1#1), ∀ (r : Fin 7), ∀ a, (k1_off5 v129 (BitVec.ofNat 32 (1 + r.val))) a + S1x1x64x128.size a ≤ S8x8x64x128.size a)
theorem k1_off5_inb : ∀ (i : grid1.Coords) (v129 : BitVec 32) (k1_hw5 : k1_chk5 i v129), ∀ (k1_h5 : k1_cond5 i = 1#1), ∀ (r : Fin 7), ∀ a, (k1_off5 v129 (BitVec.ofNat 32 (1 + r.val))) a + S1x1x64x128.size a ≤ S8x8x64x128.size a := fun i v129 k1_hw5 k1_h5 r => k1_hw5 k1_h5 r

def k1_cond6 (i : grid1.Coords) : BitVec 1 :=
  let arg1 : BitVec 32 := BitVec.ofNat 32 (i 1).val
  let c8_i32_25 : BitVec 32 := 8#32
  let v52 : BitVec 32 := Scalar.muli arg1 c8_i32_25
  let c5_i32 : BitVec 32 := 5#32
  let v53 : BitVec 32 := Scalar.addi v52 c5_i32
  let c8_i32_26 : BitVec 32 := 8#32
  let v54 : BitVec 32 := Scalar.muli v53 c8_i32_26
  let arg0 : BitVec 32 := BitVec.ofNat 32 (i 0).val
  let c1_i32_27 : BitVec 32 := 1#32
  let v55 : BitVec 32 := Scalar.addi arg0 c1_i32_27
  let c128_i32_28 : BitVec 32 := 128#32
  let v56 : BitVec 32 := Scalar.muli v55 c128_i32_28
  let v57 : BitVec 1 := Scalar.cmpi .slt v54 v56
  let v58 : BitVec 32 := Scalar.extui v57
  let c0_i32_29 : BitVec 32 := 0#32
  let v59 : BitVec 1 := Scalar.cmpi .ne v58 c0_i32_29
  v59

def k1_off6 (v129 : BitVec 32) (c1_i32_111 : BitVec 32) : Fin 4 → Nat :=
  let c5_112 : Index := 5#32
  let v264 : BitVec 32 := Scalar.addi v129 c1_i32_111
  let v265 : Index := Scalar.indexCast v264
  let c0_113 : Index := 0#32
  let c0_114 : Index := 0#32
  ![5, v265.toNat, 0, 0]

def k1_chk6 (i : grid1.Coords) (v129 : BitVec 32) : Prop :=
  (∀ (k1_h6 : k1_cond6 i = 1#1), ∀ (r : Fin 7), ∀ a, (k1_off6 v129 (BitVec.ofNat 32 (1 + r.val))) a + S1x1x64x128.size a ≤ S8x8x64x128.size a)
theorem k1_off6_inb : ∀ (i : grid1.Coords) (v129 : BitVec 32) (k1_hw6 : k1_chk6 i v129), ∀ (k1_h6 : k1_cond6 i = 1#1), ∀ (r : Fin 7), ∀ a, (k1_off6 v129 (BitVec.ofNat 32 (1 + r.val))) a + S1x1x64x128.size a ≤ S8x8x64x128.size a := fun i v129 k1_hw6 k1_h6 r => k1_hw6 k1_h6 r

def k1_cond7 (i : grid1.Coords) : BitVec 1 :=
  let arg1 : BitVec 32 := BitVec.ofNat 32 (i 1).val
  let c8_i32_30 : BitVec 32 := 8#32
  let v60 : BitVec 32 := Scalar.muli arg1 c8_i32_30
  let c6_i32 : BitVec 32 := 6#32
  let v61 : BitVec 32 := Scalar.addi v60 c6_i32
  let c8_i32_31 : BitVec 32 := 8#32
  let v62 : BitVec 32 := Scalar.muli v61 c8_i32_31
  let arg0 : BitVec 32 := BitVec.ofNat 32 (i 0).val
  let c1_i32_32 : BitVec 32 := 1#32
  let v63 : BitVec 32 := Scalar.addi arg0 c1_i32_32
  let c128_i32_33 : BitVec 32 := 128#32
  let v64 : BitVec 32 := Scalar.muli v63 c128_i32_33
  let v65 : BitVec 1 := Scalar.cmpi .slt v62 v64
  let v66 : BitVec 32 := Scalar.extui v65
  let c0_i32_34 : BitVec 32 := 0#32
  let v67 : BitVec 1 := Scalar.cmpi .ne v66 c0_i32_34
  v67

def k1_off7 (v129 : BitVec 32) (c1_i32_111 : BitVec 32) : Fin 4 → Nat :=
  let c6_112 : Index := 6#32
  let v264 : BitVec 32 := Scalar.addi v129 c1_i32_111
  let v265 : Index := Scalar.indexCast v264
  let c0_113 : Index := 0#32
  let c0_114 : Index := 0#32
  ![6, v265.toNat, 0, 0]

def k1_chk7 (i : grid1.Coords) (v129 : BitVec 32) : Prop :=
  (∀ (k1_h7 : k1_cond7 i = 1#1), ∀ (r : Fin 7), ∀ a, (k1_off7 v129 (BitVec.ofNat 32 (1 + r.val))) a + S1x1x64x128.size a ≤ S8x8x64x128.size a)
theorem k1_off7_inb : ∀ (i : grid1.Coords) (v129 : BitVec 32) (k1_hw7 : k1_chk7 i v129), ∀ (k1_h7 : k1_cond7 i = 1#1), ∀ (r : Fin 7), ∀ a, (k1_off7 v129 (BitVec.ofNat 32 (1 + r.val))) a + S1x1x64x128.size a ≤ S8x8x64x128.size a := fun i v129 k1_hw7 k1_h7 r => k1_hw7 k1_h7 r

def k1_cond8 (i : grid1.Coords) : BitVec 1 :=
  let arg1 : BitVec 32 := BitVec.ofNat 32 (i 1).val
  let c8_i32_35 : BitVec 32 := 8#32
  let v68 : BitVec 32 := Scalar.muli arg1 c8_i32_35
  let c7_i32 : BitVec 32 := 7#32
  let v69 : BitVec 32 := Scalar.addi v68 c7_i32
  let c8_i32_36 : BitVec 32 := 8#32
  let v70 : BitVec 32 := Scalar.muli v69 c8_i32_36
  let arg0 : BitVec 32 := BitVec.ofNat 32 (i 0).val
  let c1_i32_37 : BitVec 32 := 1#32
  let v71 : BitVec 32 := Scalar.addi arg0 c1_i32_37
  let c128_i32_38 : BitVec 32 := 128#32
  let v72 : BitVec 32 := Scalar.muli v71 c128_i32_38
  let v73 : BitVec 1 := Scalar.cmpi .slt v70 v72
  let v74 : BitVec 32 := Scalar.extui v73
  let c0_i32_39 : BitVec 32 := 0#32
  let v75 : BitVec 1 := Scalar.cmpi .ne v74 c0_i32_39
  v75

def k1_off8 (v129 : BitVec 32) (c1_i32_111 : BitVec 32) : Fin 4 → Nat :=
  let c7_112 : Index := 7#32
  let v264 : BitVec 32 := Scalar.addi v129 c1_i32_111
  let v265 : Index := Scalar.indexCast v264
  let c0_113 : Index := 0#32
  let c0_114 : Index := 0#32
  ![7, v265.toNat, 0, 0]

def k1_chk8 (i : grid1.Coords) (v129 : BitVec 32) : Prop :=
  (∀ (k1_h8 : k1_cond8 i = 1#1), ∀ (r : Fin 7), ∀ a, (k1_off8 v129 (BitVec.ofNat 32 (1 + r.val))) a + S1x1x64x128.size a ≤ S8x8x64x128.size a)
theorem k1_off8_inb : ∀ (i : grid1.Coords) (v129 : BitVec 32) (k1_hw8 : k1_chk8 i v129), ∀ (k1_h8 : k1_cond8 i = 1#1), ∀ (r : Fin 7), ∀ a, (k1_off8 v129 (BitVec.ofNat 32 (1 + r.val))) a + S1x1x64x128.size a ≤ S8x8x64x128.size a := fun i v129 k1_hw8 k1_h8 r => k1_hw8 k1_h8 r

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S8x64x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x64x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S256x64 : Shape := ⟨2, ![256, 64]⟩
abbrev S120x64 : Shape := ⟨2, ![120, 64]⟩
abbrev S120 : Shape := ⟨1, ![120]⟩
abbrev S64x120 : Shape := ⟨2, ![64, 120]⟩
abbrev S256x120 : Shape := ⟨2, ![256, 120]⟩
abbrev S1x120 : Shape := ⟨2, ![1, 120]⟩
abbrev S_ : Shape := ⟨0, ![]⟩
abbrev S256x60x2 : Shape := ⟨3, ![256, 60, 2]⟩
abbrev S256x60x1 : Shape := ⟨3, ![256, 60, 1]⟩
abbrev S256x60 : Shape := ⟨2, ![256, 60]⟩
abbrev S16x16 : Shape := ⟨2, ![16, 16]⟩
abbrev S256x16x16 : Shape := ⟨3, ![256, 16, 16]⟩
abbrev S256x8 : Shape := ⟨2, ![256, 8]⟩
abbrev S256x8x1 : Shape := ⟨3, ![256, 8, 1]⟩
abbrev S256x8x2x16 : Shape := ⟨4, ![256, 8, 2, 16]⟩
abbrev S256x8x1x16 : Shape := ⟨4, ![256, 8, 1, 16]⟩
abbrev S256x8x16 : Shape := ⟨3, ![256, 8, 16]⟩
abbrev S256x0x16 : Shape := ⟨3, ![256, 0, 16]⟩
abbrev S256x7 : Shape := ⟨2, ![256, 7]⟩
abbrev S256x7x1 : Shape := ⟨3, ![256, 7, 1]⟩
abbrev S256x14x16 : Shape := ⟨3, ![256, 14, 16]⟩
abbrev S256x7x2x16 : Shape := ⟨4, ![256, 7, 2, 16]⟩
abbrev S256x7x1x16 : Shape := ⟨4, ![256, 7, 1, 16]⟩
abbrev S256x7x16 : Shape := ⟨3, ![256, 7, 16]⟩
abbrev S256x1x16 : Shape := ⟨3, ![256, 1, 16]⟩
abbrev S256x16x8 : Shape := ⟨3, ![256, 16, 8]⟩
abbrev S256x8x256x8 : Shape := ⟨4, ![256, 8, 256, 8]⟩
abbrev S256x256x8x8 : Shape := ⟨4, ![256, 256, 8, 8]⟩
abbrev S255 : Shape := ⟨1, ![255]⟩
abbrev S255x1 : Shape := ⟨2, ![255, 1]⟩
abbrev S8 : Shape := ⟨1, ![8]⟩
abbrev S1x8 : Shape := ⟨2, ![1, 8]⟩
abbrev S255x8 : Shape := ⟨2, ![255, 8]⟩
abbrev S65536x8x8 : Shape := ⟨3, ![65536, 8, 8]⟩
abbrev S255x65536x8 : Shape := ⟨3, ![255, 65536, 8]⟩
abbrev S65536x255x8 : Shape := ⟨3, ![65536, 255, 8]⟩
abbrev S65536x255x1 : Shape := ⟨3, ![65536, 255, 1]⟩
abbrev S65536x255 : Shape := ⟨2, ![65536, 255]⟩
abbrev S1x255 : Shape := ⟨2, ![1, 255]⟩
abbrev S65536 : Shape := ⟨1, ![65536]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 799
  | .vmem => 0
  | .smem => 0
  | _ => 0

abbrev hbmTy0_0 (i : Nat) : BufTy := match i % 128 with
  | 0 => ⟨S256x64, .f32⟩
  | 1 => ⟨S120x64, .f32⟩
  | 2 => ⟨S120, .f32⟩
  | 3 => ⟨S64x120, .f32⟩
  | 4 => ⟨S256x120, .f32⟩
  | 5 => ⟨S1x120, .f32⟩
  | 6 => ⟨S256x120, .f32⟩
  | 7 => ⟨S256x120, .f32⟩
  | 8 => ⟨S256x120, .f32⟩
  | 9 => ⟨S256x120, .f32⟩
  | 10 => ⟨S_, .f32⟩
  | 11 => ⟨S256x120, .f32⟩
  | 12 => ⟨S256x120, .f32⟩
  | 13 => ⟨S_, .f32⟩
  | 14 => ⟨S256x120, .f32⟩
  | 15 => ⟨S256x120, .f32⟩
  | 16 => ⟨S256x60x2, .f32⟩
  | 17 => ⟨S256x60x1, .f32⟩
  | 18 => ⟨S256x60, .f32⟩
  | 19 => ⟨S_, .f32⟩
  | 20 => ⟨S256x60, .f32⟩
  | 21 => ⟨S256x60, .f32⟩
  | 22 => ⟨S256x60x1, .f32⟩
  | 23 => ⟨S256x60, .f32⟩
  | 24 => ⟨S_, .f32⟩
  | 25 => ⟨S256x60, .f32⟩
  | 26 => ⟨S256x60, .f32⟩
  | 27 => ⟨S256x60, .f32⟩
  | 28 => ⟨S256x60, .f32⟩
  | 29 => ⟨S256x60, .f32⟩
  | 30 => ⟨S256x60, .f32⟩
  | 31 => ⟨S16x16, .i32⟩
  | 32 => ⟨S16x16, .i32⟩
  | 33 => ⟨S_, .i32⟩
  | 34 => ⟨S16x16, .i32⟩
  | 35 => ⟨S16x16, .i32⟩
  | 36 => ⟨S16x16, .i1⟩
  | 37 => ⟨S16x16, .f32⟩
  | 38 => ⟨S256x16x16, .f32⟩
  | 39 => ⟨S_, .f32⟩
  | 40 => ⟨S256x16x16, .f32⟩
  | 41 => ⟨S256x8, .f32⟩
  | 42 => ⟨S256x8x1, .f32⟩
  | 43 => ⟨S256x8, .f32⟩
  | 44 => ⟨S256x8x1, .f32⟩
  | 45 => ⟨S256x8, .f32⟩
  | 46 => ⟨S256x8x1, .f32⟩
  | 47 => ⟨S256x8, .f32⟩
  | 48 => ⟨S256x8x1, .f32⟩
  | 49 => ⟨S256x8x2x16, .f32⟩
  | 50 => ⟨S256x8x2x16, .f32⟩
  | 51 => ⟨S256x8x1x16, .f32⟩
  | 52 => ⟨S256x8x16, .f32⟩
  | 53 => ⟨S256x8x1x16, .f32⟩
  | 54 => ⟨S256x8x16, .f32⟩
  | 55 => ⟨S256x8x1x16, .f32⟩
  | 56 => ⟨S256x8x16, .f32⟩
  | 57 => ⟨S256x8x1x16, .f32⟩
  | 58 => ⟨S256x8x16, .f32⟩
  | 59 => ⟨S256x8x1, .f32⟩
  | 60 => ⟨S256x8x16, .f32⟩
  | 61 => ⟨S256x8x16, .f32⟩
  | 62 => ⟨S256x8x1, .f32⟩
  | 63 => ⟨S256x8x16, .f32⟩
  | 64 => ⟨S256x8x16, .f32⟩
  | 65 => ⟨S256x8x16, .f32⟩
  | 66 => ⟨S256x8x16, .f32⟩
  | 67 => ⟨S256x8x16, .f32⟩
  | 68 => ⟨S256x8x16, .f32⟩
  | 69 => ⟨S256x8x1, .f32⟩
  | 70 => ⟨S256x8x16, .f32⟩
  | 71 => ⟨S256x8x16, .f32⟩
  | 72 => ⟨S256x8x1, .f32⟩
  | 73 => ⟨S256x8x16, .f32⟩
  | 74 => ⟨S256x8x16, .f32⟩
  | 75 => ⟨S256x8x16, .f32⟩
  | 76 => ⟨S256x8x16, .f32⟩
  | 77 => ⟨S256x8x16, .f32⟩
  | 78 => ⟨S256x8x16, .f32⟩
  | 79 => ⟨S256x8x1x16, .f32⟩
  | 80 => ⟨S256x8x1x16, .f32⟩
  | 81 => ⟨S256x8x2x16, .f32⟩
  | 82 => ⟨S256x16x16, .f32⟩
  | 83 => ⟨S256x8x1, .f32⟩
  | 84 => ⟨S256x8x16, .f32⟩
  | 85 => ⟨S256x8x16, .f32⟩
  | 86 => ⟨S256x8x1, .f32⟩
  | 87 => ⟨S256x8x16, .f32⟩
  | 88 => ⟨S256x8x16, .f32⟩
  | 89 => ⟨S256x8x16, .f32⟩
  | 90 => ⟨S256x8x16, .f32⟩
  | 91 => ⟨S256x8x16, .f32⟩
  | 92 => ⟨S256x8x16, .f32⟩
  | 93 => ⟨S256x8x1, .f32⟩
  | 94 => ⟨S256x8x16, .f32⟩
  | 95 => ⟨S256x8x16, .f32⟩
  | 96 => ⟨S256x8x1, .f32⟩
  | 97 => ⟨S256x8x16, .f32⟩
  | 98 => ⟨S256x8x16, .f32⟩
  | 99 => ⟨S256x8x16, .f32⟩
  | 100 => ⟨S256x8x16, .f32⟩
  | 101 => ⟨S256x8x16, .f32⟩
  | 102 => ⟨S256x8x16, .f32⟩
  | 103 => ⟨S256x8x1x16, .f32⟩
  | 104 => ⟨S256x8x1x16, .f32⟩
  | 105 => ⟨S256x8x2x16, .f32⟩
  | 106 => ⟨S256x16x16, .f32⟩
  | 107 => ⟨S256x0x16, .f32⟩
  | 108 => ⟨S256x0x16, .f32⟩
  | 109 => ⟨S256x16x16, .f32⟩
  | 110 => ⟨S256x0x16, .f32⟩
  | 111 => ⟨S256x0x16, .f32⟩
  | 112 => ⟨S256x16x16, .f32⟩
  | 113 => ⟨S256x7, .f32⟩
  | 114 => ⟨S256x7x1, .f32⟩
  | 115 => ⟨S256x7, .f32⟩
  | 116 => ⟨S256x7x1, .f32⟩
  | 117 => ⟨S256x7, .f32⟩
  | 118 => ⟨S256x7x1, .f32⟩
  | 119 => ⟨S256x7, .f32⟩
  | 120 => ⟨S256x7x1, .f32⟩
  | 121 => ⟨S256x14x16, .f32⟩
  | 122 => ⟨S256x7x2x16, .f32⟩
  | 123 => ⟨S256x14x16, .f32⟩
  | 124 => ⟨S256x7x2x16, .f32⟩
  | 125 => ⟨S256x7x1x16, .f32⟩
  | 126 => ⟨S256x7x16, .f32⟩
  | 127 => ⟨S256x7x1x16, .f32⟩
  | _ => ⟨S256x64, .f32⟩

abbrev hbmTy0_1 (i : Nat) : BufTy := match i % 128 with
  | 0 => ⟨S256x7x16, .f32⟩
  | 1 => ⟨S256x7x1x16, .f32⟩
  | 2 => ⟨S256x7x16, .f32⟩
  | 3 => ⟨S256x7x1x16, .f32⟩
  | 4 => ⟨S256x7x16, .f32⟩
  | 5 => ⟨S256x7x1, .f32⟩
  | 6 => ⟨S256x7x16, .f32⟩
  | 7 => ⟨S256x7x16, .f32⟩
  | 8 => ⟨S256x7x1, .f32⟩
  | 9 => ⟨S256x7x16, .f32⟩
  | 10 => ⟨S256x7x16, .f32⟩
  | 11 => ⟨S256x7x16, .f32⟩
  | 12 => ⟨S256x7x16, .f32⟩
  | 13 => ⟨S256x7x16, .f32⟩
  | 14 => ⟨S256x7x16, .f32⟩
  | 15 => ⟨S256x7x1, .f32⟩
  | 16 => ⟨S256x7x16, .f32⟩
  | 17 => ⟨S256x7x16, .f32⟩
  | 18 => ⟨S256x7x1, .f32⟩
  | 19 => ⟨S256x7x16, .f32⟩
  | 20 => ⟨S256x7x16, .f32⟩
  | 21 => ⟨S256x7x16, .f32⟩
  | 22 => ⟨S256x7x16, .f32⟩
  | 23 => ⟨S256x7x16, .f32⟩
  | 24 => ⟨S256x7x16, .f32⟩
  | 25 => ⟨S256x7x1x16, .f32⟩
  | 26 => ⟨S256x7x1x16, .f32⟩
  | 27 => ⟨S256x7x2x16, .f32⟩
  | 28 => ⟨S256x14x16, .f32⟩
  | 29 => ⟨S256x7x1, .f32⟩
  | 30 => ⟨S256x7x16, .f32⟩
  | 31 => ⟨S256x7x16, .f32⟩
  | 32 => ⟨S256x7x1, .f32⟩
  | 33 => ⟨S256x7x16, .f32⟩
  | 34 => ⟨S256x7x16, .f32⟩
  | 35 => ⟨S256x7x16, .f32⟩
  | 36 => ⟨S256x7x16, .f32⟩
  | 37 => ⟨S256x7x16, .f32⟩
  | 38 => ⟨S256x7x16, .f32⟩
  | 39 => ⟨S256x7x1, .f32⟩
  | 40 => ⟨S256x7x16, .f32⟩
  | 41 => ⟨S256x7x16, .f32⟩
  | 42 => ⟨S256x7x1, .f32⟩
  | 43 => ⟨S256x7x16, .f32⟩
  | 44 => ⟨S256x7x16, .f32⟩
  | 45 => ⟨S256x7x16, .f32⟩
  | 46 => ⟨S256x7x16, .f32⟩
  | 47 => ⟨S256x7x16, .f32⟩
  | 48 => ⟨S256x7x16, .f32⟩
  | 49 => ⟨S256x7x1x16, .f32⟩
  | 50 => ⟨S256x7x1x16, .f32⟩
  | 51 => ⟨S256x7x2x16, .f32⟩
  | 52 => ⟨S256x14x16, .f32⟩
  | 53 => ⟨S256x1x16, .f32⟩
  | 54 => ⟨S256x1x16, .f32⟩
  | 55 => ⟨S256x16x16, .f32⟩
  | 56 => ⟨S256x1x16, .f32⟩
  | 57 => ⟨S256x1x16, .f32⟩
  | 58 => ⟨S256x16x16, .f32⟩
  | 59 => ⟨S256x8, .f32⟩
  | 60 => ⟨S256x8x1, .f32⟩
  | 61 => ⟨S256x8, .f32⟩
  | 62 => ⟨S256x8x1, .f32⟩
  | 63 => ⟨S256x8, .f32⟩
  | 64 => ⟨S256x8x1, .f32⟩
  | 65 => ⟨S256x8, .f32⟩
  | 66 => ⟨S256x8x1, .f32⟩
  | 67 => ⟨S256x8x2x16, .f32⟩
  | 68 => ⟨S256x8x2x16, .f32⟩
  | 69 => ⟨S256x8x1x16, .f32⟩
  | 70 => ⟨S256x8x16, .f32⟩
  | 71 => ⟨S256x8x1x16, .f32⟩
  | 72 => ⟨S256x8x16, .f32⟩
  | 73 => ⟨S256x8x1x16, .f32⟩
  | 74 => ⟨S256x8x16, .f32⟩
  | 75 => ⟨S256x8x1x16, .f32⟩
  | 76 => ⟨S256x8x16, .f32⟩
  | 77 => ⟨S256x8x1, .f32⟩
  | 78 => ⟨S256x8x16, .f32⟩
  | 79 => ⟨S256x8x16, .f32⟩
  | 80 => ⟨S256x8x1, .f32⟩
  | 81 => ⟨S256x8x16, .f32⟩
  | 82 => ⟨S256x8x16, .f32⟩
  | 83 => ⟨S256x8x16, .f32⟩
  | 84 => ⟨S256x8x16, .f32⟩
  | 85 => ⟨S256x8x16, .f32⟩
  | 86 => ⟨S256x8x16, .f32⟩
  | 87 => ⟨S256x8x1, .f32⟩
  | 88 => ⟨S256x8x16, .f32⟩
  | 89 => ⟨S256x8x16, .f32⟩
  | 90 => ⟨S256x8x1, .f32⟩
  | 91 => ⟨S256x8x16, .f32⟩
  | 92 => ⟨S256x8x16, .f32⟩
  | 93 => ⟨S256x8x16, .f32⟩
  | 94 => ⟨S256x8x16, .f32⟩
  | 95 => ⟨S256x8x16, .f32⟩
  | 96 => ⟨S256x8x16, .f32⟩
  | 97 => ⟨S256x8x1x16, .f32⟩
  | 98 => ⟨S256x8x1x16, .f32⟩
  | 99 => ⟨S256x8x2x16, .f32⟩
  | 100 => ⟨S256x16x16, .f32⟩
  | 101 => ⟨S256x8x1, .f32⟩
  | 102 => ⟨S256x8x16, .f32⟩
  | 103 => ⟨S256x8x16, .f32⟩
  | 104 => ⟨S256x8x1, .f32⟩
  | 105 => ⟨S256x8x16, .f32⟩
  | 106 => ⟨S256x8x16, .f32⟩
  | 107 => ⟨S256x8x16, .f32⟩
  | 108 => ⟨S256x8x16, .f32⟩
  | 109 => ⟨S256x8x16, .f32⟩
  | 110 => ⟨S256x8x16, .f32⟩
  | 111 => ⟨S256x8x1, .f32⟩
  | 112 => ⟨S256x8x16, .f32⟩
  | 113 => ⟨S256x8x16, .f32⟩
  | 114 => ⟨S256x8x1, .f32⟩
  | 115 => ⟨S256x8x16, .f32⟩
  | 116 => ⟨S256x8x16, .f32⟩
  | 117 => ⟨S256x8x16, .f32⟩
  | 118 => ⟨S256x8x16, .f32⟩
  | 119 => ⟨S256x8x16, .f32⟩
  | 120 => ⟨S256x8x16, .f32⟩
  | 121 => ⟨S256x8x1x16, .f32⟩
  | 122 => ⟨S256x8x1x16, .f32⟩
  | 123 => ⟨S256x8x2x16, .f32⟩
  | 124 => ⟨S256x16x16, .f32⟩
  | 125 => ⟨S256x0x16, .f32⟩
  | 126 => ⟨S256x0x16, .f32⟩
  | 127 => ⟨S256x16x16, .f32⟩
  | _ => ⟨S256x64, .f32⟩

abbrev hbmTy0_2 (i : Nat) : BufTy := match i % 128 with
  | 0 => ⟨S256x0x16, .f32⟩
  | 1 => ⟨S256x0x16, .f32⟩
  | 2 => ⟨S256x16x16, .f32⟩
  | 3 => ⟨S256x7, .f32⟩
  | 4 => ⟨S256x7x1, .f32⟩
  | 5 => ⟨S256x7, .f32⟩
  | 6 => ⟨S256x7x1, .f32⟩
  | 7 => ⟨S256x7, .f32⟩
  | 8 => ⟨S256x7x1, .f32⟩
  | 9 => ⟨S256x7, .f32⟩
  | 10 => ⟨S256x7x1, .f32⟩
  | 11 => ⟨S256x14x16, .f32⟩
  | 12 => ⟨S256x7x2x16, .f32⟩
  | 13 => ⟨S256x14x16, .f32⟩
  | 14 => ⟨S256x7x2x16, .f32⟩
  | 15 => ⟨S256x7x1x16, .f32⟩
  | 16 => ⟨S256x7x16, .f32⟩
  | 17 => ⟨S256x7x1x16, .f32⟩
  | 18 => ⟨S256x7x16, .f32⟩
  | 19 => ⟨S256x7x1x16, .f32⟩
  | 20 => ⟨S256x7x16, .f32⟩
  | 21 => ⟨S256x7x1x16, .f32⟩
  | 22 => ⟨S256x7x16, .f32⟩
  | 23 => ⟨S256x7x1, .f32⟩
  | 24 => ⟨S256x7x16, .f32⟩
  | 25 => ⟨S256x7x16, .f32⟩
  | 26 => ⟨S256x7x1, .f32⟩
  | 27 => ⟨S256x7x16, .f32⟩
  | 28 => ⟨S256x7x16, .f32⟩
  | 29 => ⟨S256x7x16, .f32⟩
  | 30 => ⟨S256x7x16, .f32⟩
  | 31 => ⟨S256x7x16, .f32⟩
  | 32 => ⟨S256x7x16, .f32⟩
  | 33 => ⟨S256x7x1, .f32⟩
  | 34 => ⟨S256x7x16, .f32⟩
  | 35 => ⟨S256x7x16, .f32⟩
  | 36 => ⟨S256x7x1, .f32⟩
  | 37 => ⟨S256x7x16, .f32⟩
  | 38 => ⟨S256x7x16, .f32⟩
  | 39 => ⟨S256x7x16, .f32⟩
  | 40 => ⟨S256x7x16, .f32⟩
  | 41 => ⟨S256x7x16, .f32⟩
  | 42 => ⟨S256x7x16, .f32⟩
  | 43 => ⟨S256x7x1x16, .f32⟩
  | 44 => ⟨S256x7x1x16, .f32⟩
  | 45 => ⟨S256x7x2x16, .f32⟩
  | 46 => ⟨S256x14x16, .f32⟩
  | 47 => ⟨S256x7x1, .f32⟩
  | 48 => ⟨S256x7x16, .f32⟩
  | 49 => ⟨S256x7x16, .f32⟩
  | 50 => ⟨S256x7x1, .f32⟩
  | 51 => ⟨S256x7x16, .f32⟩
  | 52 => ⟨S256x7x16, .f32⟩
  | 53 => ⟨S256x7x16, .f32⟩
  | 54 => ⟨S256x7x16, .f32⟩
  | 55 => ⟨S256x7x16, .f32⟩
  | 56 => ⟨S256x7x16, .f32⟩
  | 57 => ⟨S256x7x1, .f32⟩
  | 58 => ⟨S256x7x16, .f32⟩
  | 59 => ⟨S256x7x16, .f32⟩
  | 60 => ⟨S256x7x1, .f32⟩
  | 61 => ⟨S256x7x16, .f32⟩
  | 62 => ⟨S256x7x16, .f32⟩
  | 63 => ⟨S256x7x16, .f32⟩
  | 64 => ⟨S256x7x16, .f32⟩
  | 65 => ⟨S256x7x16, .f32⟩
  | 66 => ⟨S256x7x16, .f32⟩
  | 67 => ⟨S256x7x1x16, .f32⟩
  | 68 => ⟨S256x7x1x16, .f32⟩
  | 69 => ⟨S256x7x2x16, .f32⟩
  | 70 => ⟨S256x14x16, .f32⟩
  | 71 => ⟨S256x1x16, .f32⟩
  | 72 => ⟨S256x1x16, .f32⟩
  | 73 => ⟨S256x16x16, .f32⟩
  | 74 => ⟨S256x1x16, .f32⟩
  | 75 => ⟨S256x1x16, .f32⟩
  | 76 => ⟨S256x16x16, .f32⟩
  | 77 => ⟨S256x8, .f32⟩
  | 78 => ⟨S256x8x1, .f32⟩
  | 79 => ⟨S256x8, .f32⟩
  | 80 => ⟨S256x8x1, .f32⟩
  | 81 => ⟨S256x8, .f32⟩
  | 82 => ⟨S256x8x1, .f32⟩
  | 83 => ⟨S256x8, .f32⟩
  | 84 => ⟨S256x8x1, .f32⟩
  | 85 => ⟨S256x8x2x16, .f32⟩
  | 86 => ⟨S256x8x2x16, .f32⟩
  | 87 => ⟨S256x8x1x16, .f32⟩
  | 88 => ⟨S256x8x16, .f32⟩
  | 89 => ⟨S256x8x1x16, .f32⟩
  | 90 => ⟨S256x8x16, .f32⟩
  | 91 => ⟨S256x8x1x16, .f32⟩
  | 92 => ⟨S256x8x16, .f32⟩
  | 93 => ⟨S256x8x1x16, .f32⟩
  | 94 => ⟨S256x8x16, .f32⟩
  | 95 => ⟨S256x8x1, .f32⟩
  | 96 => ⟨S256x8x16, .f32⟩
  | 97 => ⟨S256x8x16, .f32⟩
  | 98 => ⟨S256x8x1, .f32⟩
  | 99 => ⟨S256x8x16, .f32⟩
  | 100 => ⟨S256x8x16, .f32⟩
  | 101 => ⟨S256x8x16, .f32⟩
  | 102 => ⟨S256x8x16, .f32⟩
  | 103 => ⟨S256x8x16, .f32⟩
  | 104 => ⟨S256x8x16, .f32⟩
  | 105 => ⟨S256x8x1, .f32⟩
  | 106 => ⟨S256x8x16, .f32⟩
  | 107 => ⟨S256x8x16, .f32⟩
  | 108 => ⟨S256x8x1, .f32⟩
  | 109 => ⟨S256x8x16, .f32⟩
  | 110 => ⟨S256x8x16, .f32⟩
  | 111 => ⟨S256x8x16, .f32⟩
  | 112 => ⟨S256x8x16, .f32⟩
  | 113 => ⟨S256x8x16, .f32⟩
  | 114 => ⟨S256x8x16, .f32⟩
  | 115 => ⟨S256x8x1x16, .f32⟩
  | 116 => ⟨S256x8x1x16, .f32⟩
  | 117 => ⟨S256x8x2x16, .f32⟩
  | 118 => ⟨S256x16x16, .f32⟩
  | 119 => ⟨S256x8x1, .f32⟩
  | 120 => ⟨S256x8x16, .f32⟩
  | 121 => ⟨S256x8x16, .f32⟩
  | 122 => ⟨S256x8x1, .f32⟩
  | 123 => ⟨S256x8x16, .f32⟩
  | 124 => ⟨S256x8x16, .f32⟩
  | 125 => ⟨S256x8x16, .f32⟩
  | 126 => ⟨S256x8x16, .f32⟩
  | 127 => ⟨S256x8x16, .f32⟩
  | _ => ⟨S256x64, .f32⟩

abbrev hbmTy0_3 (i : Nat) : BufTy := match i % 128 with
  | 0 => ⟨S256x8x16, .f32⟩
  | 1 => ⟨S256x8x1, .f32⟩
  | 2 => ⟨S256x8x16, .f32⟩
  | 3 => ⟨S256x8x16, .f32⟩
  | 4 => ⟨S256x8x1, .f32⟩
  | 5 => ⟨S256x8x16, .f32⟩
  | 6 => ⟨S256x8x16, .f32⟩
  | 7 => ⟨S256x8x16, .f32⟩
  | 8 => ⟨S256x8x16, .f32⟩
  | 9 => ⟨S256x8x16, .f32⟩
  | 10 => ⟨S256x8x16, .f32⟩
  | 11 => ⟨S256x8x1x16, .f32⟩
  | 12 => ⟨S256x8x1x16, .f32⟩
  | 13 => ⟨S256x8x2x16, .f32⟩
  | 14 => ⟨S256x16x16, .f32⟩
  | 15 => ⟨S256x0x16, .f32⟩
  | 16 => ⟨S256x0x16, .f32⟩
  | 17 => ⟨S256x16x16, .f32⟩
  | 18 => ⟨S256x0x16, .f32⟩
  | 19 => ⟨S256x0x16, .f32⟩
  | 20 => ⟨S256x16x16, .f32⟩
  | 21 => ⟨S256x7, .f32⟩
  | 22 => ⟨S256x7x1, .f32⟩
  | 23 => ⟨S256x7, .f32⟩
  | 24 => ⟨S256x7x1, .f32⟩
  | 25 => ⟨S256x7, .f32⟩
  | 26 => ⟨S256x7x1, .f32⟩
  | 27 => ⟨S256x7, .f32⟩
  | 28 => ⟨S256x7x1, .f32⟩
  | 29 => ⟨S256x14x16, .f32⟩
  | 30 => ⟨S256x7x2x16, .f32⟩
  | 31 => ⟨S256x14x16, .f32⟩
  | 32 => ⟨S256x7x2x16, .f32⟩
  | 33 => ⟨S256x7x1x16, .f32⟩
  | 34 => ⟨S256x7x16, .f32⟩
  | 35 => ⟨S256x7x1x16, .f32⟩
  | 36 => ⟨S256x7x16, .f32⟩
  | 37 => ⟨S256x7x1x16, .f32⟩
  | 38 => ⟨S256x7x16, .f32⟩
  | 39 => ⟨S256x7x1x16, .f32⟩
  | 40 => ⟨S256x7x16, .f32⟩
  | 41 => ⟨S256x7x1, .f32⟩
  | 42 => ⟨S256x7x16, .f32⟩
  | 43 => ⟨S256x7x16, .f32⟩
  | 44 => ⟨S256x7x1, .f32⟩
  | 45 => ⟨S256x7x16, .f32⟩
  | 46 => ⟨S256x7x16, .f32⟩
  | 47 => ⟨S256x7x16, .f32⟩
  | 48 => ⟨S256x7x16, .f32⟩
  | 49 => ⟨S256x7x16, .f32⟩
  | 50 => ⟨S256x7x16, .f32⟩
  | 51 => ⟨S256x7x1, .f32⟩
  | 52 => ⟨S256x7x16, .f32⟩
  | 53 => ⟨S256x7x16, .f32⟩
  | 54 => ⟨S256x7x1, .f32⟩
  | 55 => ⟨S256x7x16, .f32⟩
  | 56 => ⟨S256x7x16, .f32⟩
  | 57 => ⟨S256x7x16, .f32⟩
  | 58 => ⟨S256x7x16, .f32⟩
  | 59 => ⟨S256x7x16, .f32⟩
  | 60 => ⟨S256x7x16, .f32⟩
  | 61 => ⟨S256x7x1x16, .f32⟩
  | 62 => ⟨S256x7x1x16, .f32⟩
  | 63 => ⟨S256x7x2x16, .f32⟩
  | 64 => ⟨S256x14x16, .f32⟩
  | 65 => ⟨S256x7x1, .f32⟩
  | 66 => ⟨S256x7x16, .f32⟩
  | 67 => ⟨S256x7x16, .f32⟩
  | 68 => ⟨S256x7x1, .f32⟩
  | 69 => ⟨S256x7x16, .f32⟩
  | 70 => ⟨S256x7x16, .f32⟩
  | 71 => ⟨S256x7x16, .f32⟩
  | 72 => ⟨S256x7x16, .f32⟩
  | 73 => ⟨S256x7x16, .f32⟩
  | 74 => ⟨S256x7x16, .f32⟩
  | 75 => ⟨S256x7x1, .f32⟩
  | 76 => ⟨S256x7x16, .f32⟩
  | 77 => ⟨S256x7x16, .f32⟩
  | 78 => ⟨S256x7x1, .f32⟩
  | 79 => ⟨S256x7x16, .f32⟩
  | 80 => ⟨S256x7x16, .f32⟩
  | 81 => ⟨S256x7x16, .f32⟩
  | 82 => ⟨S256x7x16, .f32⟩
  | 83 => ⟨S256x7x16, .f32⟩
  | 84 => ⟨S256x7x16, .f32⟩
  | 85 => ⟨S256x7x1x16, .f32⟩
  | 86 => ⟨S256x7x1x16, .f32⟩
  | 87 => ⟨S256x7x2x16, .f32⟩
  | 88 => ⟨S256x14x16, .f32⟩
  | 89 => ⟨S256x1x16, .f32⟩
  | 90 => ⟨S256x1x16, .f32⟩
  | 91 => ⟨S256x16x16, .f32⟩
  | 92 => ⟨S256x1x16, .f32⟩
  | 93 => ⟨S256x1x16, .f32⟩
  | 94 => ⟨S256x16x16, .f32⟩
  | 95 => ⟨S256x8, .f32⟩
  | 96 => ⟨S256x8x1, .f32⟩
  | 97 => ⟨S256x8, .f32⟩
  | 98 => ⟨S256x8x1, .f32⟩
  | 99 => ⟨S256x8, .f32⟩
  | 100 => ⟨S256x8x1, .f32⟩
  | 101 => ⟨S256x8, .f32⟩
  | 102 => ⟨S256x8x1, .f32⟩
  | 103 => ⟨S256x8x2x16, .f32⟩
  | 104 => ⟨S256x8x2x16, .f32⟩
  | 105 => ⟨S256x8x1x16, .f32⟩
  | 106 => ⟨S256x8x16, .f32⟩
  | 107 => ⟨S256x8x1x16, .f32⟩
  | 108 => ⟨S256x8x16, .f32⟩
  | 109 => ⟨S256x8x1x16, .f32⟩
  | 110 => ⟨S256x8x16, .f32⟩
  | 111 => ⟨S256x8x1x16, .f32⟩
  | 112 => ⟨S256x8x16, .f32⟩
  | 113 => ⟨S256x8x1, .f32⟩
  | 114 => ⟨S256x8x16, .f32⟩
  | 115 => ⟨S256x8x16, .f32⟩
  | 116 => ⟨S256x8x1, .f32⟩
  | 117 => ⟨S256x8x16, .f32⟩
  | 118 => ⟨S256x8x16, .f32⟩
  | 119 => ⟨S256x8x16, .f32⟩
  | 120 => ⟨S256x8x16, .f32⟩
  | 121 => ⟨S256x8x16, .f32⟩
  | 122 => ⟨S256x8x16, .f32⟩
  | 123 => ⟨S256x8x1, .f32⟩
  | 124 => ⟨S256x8x16, .f32⟩
  | 125 => ⟨S256x8x16, .f32⟩
  | 126 => ⟨S256x8x1, .f32⟩
  | 127 => ⟨S256x8x16, .f32⟩
  | _ => ⟨S256x64, .f32⟩

abbrev hbmTy0_4 (i : Nat) : BufTy := match i % 128 with
  | 0 => ⟨S256x8x16, .f32⟩
  | 1 => ⟨S256x8x16, .f32⟩
  | 2 => ⟨S256x8x16, .f32⟩
  | 3 => ⟨S256x8x16, .f32⟩
  | 4 => ⟨S256x8x16, .f32⟩
  | 5 => ⟨S256x8x1x16, .f32⟩
  | 6 => ⟨S256x8x1x16, .f32⟩
  | 7 => ⟨S256x8x2x16, .f32⟩
  | 8 => ⟨S256x16x16, .f32⟩
  | 9 => ⟨S256x8x1, .f32⟩
  | 10 => ⟨S256x8x16, .f32⟩
  | 11 => ⟨S256x8x16, .f32⟩
  | 12 => ⟨S256x8x1, .f32⟩
  | 13 => ⟨S256x8x16, .f32⟩
  | 14 => ⟨S256x8x16, .f32⟩
  | 15 => ⟨S256x8x16, .f32⟩
  | 16 => ⟨S256x8x16, .f32⟩
  | 17 => ⟨S256x8x16, .f32⟩
  | 18 => ⟨S256x8x16, .f32⟩
  | 19 => ⟨S256x8x1, .f32⟩
  | 20 => ⟨S256x8x16, .f32⟩
  | 21 => ⟨S256x8x16, .f32⟩
  | 22 => ⟨S256x8x1, .f32⟩
  | 23 => ⟨S256x8x16, .f32⟩
  | 24 => ⟨S256x8x16, .f32⟩
  | 25 => ⟨S256x8x16, .f32⟩
  | 26 => ⟨S256x8x16, .f32⟩
  | 27 => ⟨S256x8x16, .f32⟩
  | 28 => ⟨S256x8x16, .f32⟩
  | 29 => ⟨S256x8x1x16, .f32⟩
  | 30 => ⟨S256x8x1x16, .f32⟩
  | 31 => ⟨S256x8x2x16, .f32⟩
  | 32 => ⟨S256x16x16, .f32⟩
  | 33 => ⟨S256x0x16, .f32⟩
  | 34 => ⟨S256x0x16, .f32⟩
  | 35 => ⟨S256x16x16, .f32⟩
  | 36 => ⟨S256x0x16, .f32⟩
  | 37 => ⟨S256x0x16, .f32⟩
  | 38 => ⟨S256x16x16, .f32⟩
  | 39 => ⟨S256x7, .f32⟩
  | 40 => ⟨S256x7x1, .f32⟩
  | 41 => ⟨S256x7, .f32⟩
  | 42 => ⟨S256x7x1, .f32⟩
  | 43 => ⟨S256x7, .f32⟩
  | 44 => ⟨S256x7x1, .f32⟩
  | 45 => ⟨S256x7, .f32⟩
  | 46 => ⟨S256x7x1, .f32⟩
  | 47 => ⟨S256x14x16, .f32⟩
  | 48 => ⟨S256x7x2x16, .f32⟩
  | 49 => ⟨S256x14x16, .f32⟩
  | 50 => ⟨S256x7x2x16, .f32⟩
  | 51 => ⟨S256x7x1x16, .f32⟩
  | 52 => ⟨S256x7x16, .f32⟩
  | 53 => ⟨S256x7x1x16, .f32⟩
  | 54 => ⟨S256x7x16, .f32⟩
  | 55 => ⟨S256x7x1x16, .f32⟩
  | 56 => ⟨S256x7x16, .f32⟩
  | 57 => ⟨S256x7x1x16, .f32⟩
  | 58 => ⟨S256x7x16, .f32⟩
  | 59 => ⟨S256x7x1, .f32⟩
  | 60 => ⟨S256x7x16, .f32⟩
  | 61 => ⟨S256x7x16, .f32⟩
  | 62 => ⟨S256x7x1, .f32⟩
  | 63 => ⟨S256x7x16, .f32⟩
  | 64 => ⟨S256x7x16, .f32⟩
  | 65 => ⟨S256x7x16, .f32⟩
  | 66 => ⟨S256x7x16, .f32⟩
  | 67 => ⟨S256x7x16, .f32⟩
  | 68 => ⟨S256x7x16, .f32⟩
  | 69 => ⟨S256x7x1, .f32⟩
  | 70 => ⟨S256x7x16, .f32⟩
  | 71 => ⟨S256x7x16, .f32⟩
  | 72 => ⟨S256x7x1, .f32⟩
  | 73 => ⟨S256x7x16, .f32⟩
  | 74 => ⟨S256x7x16, .f32⟩
  | 75 => ⟨S256x7x16, .f32⟩
  | 76 => ⟨S256x7x16, .f32⟩
  | 77 => ⟨S256x7x16, .f32⟩
  | 78 => ⟨S256x7x16, .f32⟩
  | 79 => ⟨S256x7x1x16, .f32⟩
  | 80 => ⟨S256x7x1x16, .f32⟩
  | 81 => ⟨S256x7x2x16, .f32⟩
  | 82 => ⟨S256x14x16, .f32⟩
  | 83 => ⟨S256x7x1, .f32⟩
  | 84 => ⟨S256x7x16, .f32⟩
  | 85 => ⟨S256x7x16, .f32⟩
  | 86 => ⟨S256x7x1, .f32⟩
  | 87 => ⟨S256x7x16, .f32⟩
  | 88 => ⟨S256x7x16, .f32⟩
  | 89 => ⟨S256x7x16, .f32⟩
  | 90 => ⟨S256x7x16, .f32⟩
  | 91 => ⟨S256x7x16, .f32⟩
  | 92 => ⟨S256x7x16, .f32⟩
  | 93 => ⟨S256x7x1, .f32⟩
  | 94 => ⟨S256x7x16, .f32⟩
  | 95 => ⟨S256x7x16, .f32⟩
  | 96 => ⟨S256x7x1, .f32⟩
  | 97 => ⟨S256x7x16, .f32⟩
  | 98 => ⟨S256x7x16, .f32⟩
  | 99 => ⟨S256x7x16, .f32⟩
  | 100 => ⟨S256x7x16, .f32⟩
  | 101 => ⟨S256x7x16, .f32⟩
  | 102 => ⟨S256x7x16, .f32⟩
  | 103 => ⟨S256x7x1x16, .f32⟩
  | 104 => ⟨S256x7x1x16, .f32⟩
  | 105 => ⟨S256x7x2x16, .f32⟩
  | 106 => ⟨S256x14x16, .f32⟩
  | 107 => ⟨S256x1x16, .f32⟩
  | 108 => ⟨S256x1x16, .f32⟩
  | 109 => ⟨S256x16x16, .f32⟩
  | 110 => ⟨S256x1x16, .f32⟩
  | 111 => ⟨S256x1x16, .f32⟩
  | 112 => ⟨S256x16x16, .f32⟩
  | 113 => ⟨S256x16x8, .f32⟩
  | 114 => ⟨S256x16x8, .f32⟩
  | 115 => ⟨S256x8x256x8, .f32⟩
  | 116 => ⟨S256x256x8x8, .f32⟩
  | 117 => ⟨S256x8x256x8, .f32⟩
  | 118 => ⟨S256x256x8x8, .f32⟩
  | 119 => ⟨S256x256x8x8, .f32⟩
  | 120 => ⟨S256x8x256x8, .f32⟩
  | 121 => ⟨S256x256x8x8, .f32⟩
  | 122 => ⟨S256x8x256x8, .f32⟩
  | 123 => ⟨S256x256x8x8, .f32⟩
  | 124 => ⟨S256x256x8x8, .f32⟩
  | 125 => ⟨S255, .i32⟩
  | 126 => ⟨S_, .i32⟩
  | 127 => ⟨S255, .i32⟩
  | _ => ⟨S256x64, .f32⟩

abbrev hbmTy0_5 (i : Nat) : BufTy := match i % 128 with
  | 0 => ⟨S255, .i32⟩
  | 1 => ⟨S255x1, .i32⟩
  | 2 => ⟨S8, .i32⟩
  | 3 => ⟨S1x8, .i32⟩
  | 4 => ⟨S255x8, .i32⟩
  | 5 => ⟨S255x8, .i32⟩
  | 6 => ⟨S255x8, .i32⟩
  | 7 => ⟨S_, .i32⟩
  | 8 => ⟨S255x8, .i32⟩
  | 9 => ⟨S255x8, .i32⟩
  | 10 => ⟨S_, .i32⟩
  | 11 => ⟨S255, .i32⟩
  | 12 => ⟨S_, .i32⟩
  | 13 => ⟨S255, .i32⟩
  | 14 => ⟨S255, .i32⟩
  | 15 => ⟨S_, .i32⟩
  | 16 => ⟨S255, .i32⟩
  | 17 => ⟨S255, .i32⟩
  | 18 => ⟨S_, .i32⟩
  | 19 => ⟨S255, .i32⟩
  | 20 => ⟨S255, .i32⟩
  | 21 => ⟨S_, .i32⟩
  | 22 => ⟨S255, .i32⟩
  | 23 => ⟨S255, .i32⟩
  | 24 => ⟨S255, .f32⟩
  | 25 => ⟨S255x8, .f32⟩
  | 26 => ⟨S65536x8x8, .f32⟩
  | 27 => ⟨S255x65536x8, .f32⟩
  | 28 => ⟨S65536x255x8, .f32⟩
  | 29 => ⟨S65536x8x8, .f32⟩
  | 30 => ⟨S255x65536x8, .f32⟩
  | 31 => ⟨S65536x255x8, .f32⟩
  | 32 => ⟨S65536x255x1, .f32⟩
  | 33 => ⟨S65536x255, .f32⟩
  | 34 => ⟨S65536x255x1, .f32⟩
  | 35 => ⟨S65536x255, .f32⟩
  | 36 => ⟨S65536x255x1, .f32⟩
  | 37 => ⟨S65536x255, .f32⟩
  | 38 => ⟨S65536x255, .f32⟩
  | 39 => ⟨S65536x255x1, .f32⟩
  | 40 => ⟨S65536x255, .f32⟩
  | 41 => ⟨S65536x255, .f32⟩
  | 42 => ⟨S65536x255, .f32⟩
  | 43 => ⟨S65536x255x1, .f32⟩
  | 44 => ⟨S65536x255, .f32⟩
  | 45 => ⟨S65536x255, .f32⟩
  | 46 => ⟨S65536x255x1, .f32⟩
  | 47 => ⟨S65536x255, .f32⟩
  | 48 => ⟨S65536x255, .f32⟩
  | 49 => ⟨S65536x255, .f32⟩
  | 50 => ⟨S65536x255x1, .f32⟩
  | 51 => ⟨S65536x255, .f32⟩
  | 52 => ⟨S65536x255, .f32⟩
  | 53 => ⟨S65536x255x1, .f32⟩
  | 54 => ⟨S65536x255, .f32⟩
  | 55 => ⟨S65536x255, .f32⟩
  | 56 => ⟨S65536x255, .f32⟩
  | 57 => ⟨S65536x255x1, .f32⟩
  | 58 => ⟨S65536x255, .f32⟩
  | 59 => ⟨S65536x255, .f32⟩
  | 60 => ⟨S65536x255x1, .f32⟩
  | 61 => ⟨S65536x255, .f32⟩
  | 62 => ⟨S65536x255, .f32⟩
  | 63 => ⟨S65536x255, .f32⟩
  | 64 => ⟨S65536x255x1, .f32⟩
  | 65 => ⟨S65536x255, .f32⟩
  | 66 => ⟨S65536x255, .f32⟩
  | 67 => ⟨S65536x255x1, .f32⟩
  | 68 => ⟨S65536x255, .f32⟩
  | 69 => ⟨S65536x255, .f32⟩
  | 70 => ⟨S65536x255, .f32⟩
  | 71 => ⟨S65536x255x1, .f32⟩
  | 72 => ⟨S65536x255, .f32⟩
  | 73 => ⟨S65536x255, .f32⟩
  | 74 => ⟨S65536x255x1, .f32⟩
  | 75 => ⟨S65536x255, .f32⟩
  | 76 => ⟨S65536x255, .f32⟩
  | 77 => ⟨S65536x255, .f32⟩
  | 78 => ⟨S65536x255x1, .f32⟩
  | 79 => ⟨S65536x255, .f32⟩
  | 80 => ⟨S65536x255, .f32⟩
  | 81 => ⟨S65536x255x1, .f32⟩
  | 82 => ⟨S65536x255, .f32⟩
  | 83 => ⟨S65536x255, .f32⟩
  | 84 => ⟨S65536x255, .f32⟩
  | 85 => ⟨S65536x255x1, .f32⟩
  | 86 => ⟨S65536x255, .f32⟩
  | 87 => ⟨S65536x255, .f32⟩
  | 88 => ⟨S65536x255x1, .f32⟩
  | 89 => ⟨S65536x255, .f32⟩
  | 90 => ⟨S65536x255, .f32⟩
  | 91 => ⟨S65536x255, .f32⟩
  | 92 => ⟨S65536x255x1, .f32⟩
  | 93 => ⟨S65536x255, .f32⟩
  | 94 => ⟨S65536x255, .f32⟩
  | 95 => ⟨S65536x255x1, .f32⟩
  | 96 => ⟨S65536x255, .f32⟩
  | 97 => ⟨S65536x255, .f32⟩
  | 98 => ⟨S65536x255, .f32⟩
  | 99 => ⟨S65536x255x1, .f32⟩
  | 100 => ⟨S65536x255, .f32⟩
  | 101 => ⟨S65536x255, .f32⟩
  | 102 => ⟨S65536x255x1, .f32⟩
  | 103 => ⟨S65536x255, .f32⟩
  | 104 => ⟨S65536x255, .f32⟩
  | 105 => ⟨S65536x255, .f32⟩
  | 106 => ⟨S65536x255x1, .f32⟩
  | 107 => ⟨S65536x255, .f32⟩
  | 108 => ⟨S65536x255, .f32⟩
  | 109 => ⟨S65536x255x1, .f32⟩
  | 110 => ⟨S65536x255, .f32⟩
  | 111 => ⟨S65536x255, .f32⟩
  | 112 => ⟨S65536x255, .f32⟩
  | 113 => ⟨S65536x255x1, .f32⟩
  | 114 => ⟨S65536x255, .f32⟩
  | 115 => ⟨S65536x255, .f32⟩
  | 116 => ⟨S65536x255x1, .f32⟩
  | 117 => ⟨S65536x255, .f32⟩
  | 118 => ⟨S65536x255, .f32⟩
  | 119 => ⟨S65536x255, .f32⟩
  | 120 => ⟨S65536x255x1, .f32⟩
  | 121 => ⟨S65536x255, .f32⟩
  | 122 => ⟨S65536x255, .f32⟩
  | 123 => ⟨S65536x255x1, .f32⟩
  | 124 => ⟨S65536x255, .f32⟩
  | 125 => ⟨S65536x255, .f32⟩
  | 126 => ⟨S65536x255, .f32⟩
  | 127 => ⟨S65536x255x1, .f32⟩
  | _ => ⟨S256x64, .f32⟩

abbrev hbmTy0_6 (i : Nat) : BufTy := match i % 128 with
  | 0 => ⟨S65536x255, .f32⟩
  | 1 => ⟨S65536x255, .f32⟩
  | 2 => ⟨S65536x255x1, .f32⟩
  | 3 => ⟨S65536x255, .f32⟩
  | 4 => ⟨S65536x255, .f32⟩
  | 5 => ⟨S65536x255, .f32⟩
  | 6 => ⟨S1x255, .f32⟩
  | 7 => ⟨S65536x255, .f32⟩
  | 8 => ⟨S65536x255, .f32⟩
  | 9 => ⟨S_, .f32⟩
  | 10 => ⟨S65536, .f32⟩
  | 11 => ⟨S1x255, .f32⟩
  | 12 => ⟨S65536x255, .f32⟩
  | 13 => ⟨S65536x255, .f32⟩
  | 14 => ⟨S_, .f32⟩
  | 15 => ⟨S65536, .f32⟩
  | 16 => ⟨S65536, .f32⟩
  | 17 => ⟨S65536, .f32⟩
  | 18 => ⟨S65536, .f32⟩
  | 19 => ⟨S256x256, .f32⟩
  | 20 => ⟨S256, .i32⟩
  | 21 => ⟨S256x1, .i32⟩
  | 22 => ⟨S256, .i32⟩
  | 23 => ⟨S1x256, .i32⟩
  | 24 => ⟨S256x256, .i32⟩
  | 25 => ⟨S256x256, .i32⟩
  | 26 => ⟨S256x256, .i1⟩
  | 27 => ⟨S_, .f32⟩
  | 28 => ⟨S_, .f32⟩
  | 29 => ⟨S256x256, .f32⟩
  | 30 => ⟨S256x256, .f32⟩
  | _ => ⟨S256x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S256x64, .f32⟩

abbrev bufTy : (tb : Table) → Fin (tcTables nBuf tb) → BufTy
  | .hbm, ⟨i, _⟩ => hbmTy i
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩
abbrev main_v274 : Ref sig .tc := ⟨.hbm, 283, rfl⟩
abbrev main_v275 : Ref sig .tc := ⟨.hbm, 284, rfl⟩
abbrev main_v276 : Ref sig .tc := ⟨.hbm, 285, rfl⟩
abbrev main_v277 : Ref sig .tc := ⟨.hbm, 286, rfl⟩
abbrev main_v278 : Ref sig .tc := ⟨.hbm, 287, rfl⟩
abbrev main_v279 : Ref sig .tc := ⟨.hbm, 288, rfl⟩
abbrev main_v280 : Ref sig .tc := ⟨.hbm, 289, rfl⟩
abbrev main_v281 : Ref sig .tc := ⟨.hbm, 290, rfl⟩
abbrev main_v282 : Ref sig .tc := ⟨.hbm, 291, rfl⟩
abbrev main_v283 : Ref sig .tc := ⟨.hbm, 292, rfl⟩
abbrev main_v284 : Ref sig .tc := ⟨.hbm, 293, rfl⟩
abbrev main_v285 : Ref sig .tc := ⟨.hbm, 294, rfl⟩
abbrev main_v286 : Ref sig .tc := ⟨.hbm, 295, rfl⟩
abbrev main_v287 : Ref sig .tc := ⟨.hbm, 296, rfl⟩
abbrev main_v288 : Ref sig .tc := ⟨.hbm, 297, rfl⟩
abbrev main_v289 : Ref sig .tc := ⟨.hbm, 298, rfl⟩
abbrev main_v290 : Ref sig .tc := ⟨.hbm, 299, rfl⟩
abbrev main_v291 : Ref sig .tc := ⟨.hbm, 300, rfl⟩
abbrev main_v292 : Ref sig .tc := ⟨.hbm, 301, rfl⟩
abbrev main_v293 : Ref sig .tc := ⟨.hbm, 302, rfl⟩
abbrev main_v294 : Ref sig .tc := ⟨.hbm, 303, rfl⟩
abbrev main_v295 : Ref sig .tc := ⟨.hbm, 304, rfl⟩
abbrev main_v296 : Ref sig .tc := ⟨.hbm, 305, rfl⟩
abbrev main_v297 : Ref sig .tc := ⟨.hbm, 306, rfl⟩
abbrev main_v298 : Ref sig .tc := ⟨.hbm, 307, rfl⟩
abbrev main_v299 : Ref sig .tc := ⟨.hbm, 308, rfl⟩
abbrev main_v300 : Ref sig .tc := ⟨.hbm, 309, rfl⟩
abbrev main_v301 : Ref sig .tc := ⟨.hbm, 310, rfl⟩
abbrev main_v302 : Ref sig .tc := ⟨.hbm, 311, rfl⟩
abbrev main_v303 : Ref sig .tc := ⟨.hbm, 312, rfl⟩
abbrev main_v304 : Ref sig .tc := ⟨.hbm, 313, rfl⟩
abbrev main_v305 : Ref sig .tc := ⟨.hbm, 314, rfl⟩
abbrev main_v306 : Ref sig .tc := ⟨.hbm, 315, rfl⟩
abbrev main_v307 : Ref sig .tc := ⟨.hbm, 316, rfl⟩
abbrev main_v308 : Ref sig .tc := ⟨.hbm, 317, rfl⟩
abbrev main_v309 : Ref sig .tc := ⟨.hbm, 318, rfl⟩
abbrev main_v310 : Ref sig .tc := ⟨.hbm, 319, rfl⟩
abbrev main_v311 : Ref sig .tc := ⟨.hbm, 320, rfl⟩
abbrev main_v312 : Ref sig .tc := ⟨.hbm, 321, rfl⟩
abbrev main_v313 : Ref sig .tc := ⟨.hbm, 322, rfl⟩
abbrev main_v314 : Ref sig .tc := ⟨.hbm, 323, rfl⟩
abbrev main_v315 : Ref sig .tc := ⟨.hbm, 324, rfl⟩
abbrev main_v316 : Ref sig .tc := ⟨.hbm, 325, rfl⟩
abbrev main_v317 : Ref sig .tc := ⟨.hbm, 326, rfl⟩
abbrev main_v318 : Ref sig .tc := ⟨.hbm, 327, rfl⟩
abbrev main_v319 : Ref sig .tc := ⟨.hbm, 328, rfl⟩
abbrev main_v320 : Ref sig .tc := ⟨.hbm, 329, rfl⟩
abbrev main_v321 : Ref sig .tc := ⟨.hbm, 330, rfl⟩
abbrev main_v322 : Ref sig .tc := ⟨.hbm, 331, rfl⟩
abbrev main_v323 : Ref sig .tc := ⟨.hbm, 332, rfl⟩
abbrev main_v324 : Ref sig .tc := ⟨.hbm, 333, rfl⟩
abbrev main_v325 : Ref sig .tc := ⟨.hbm, 334, rfl⟩
abbrev main_v326 : Ref sig .tc := ⟨.hbm, 335, rfl⟩
abbrev main_v327 : Ref sig .tc := ⟨.hbm, 336, rfl⟩
abbrev main_v328 : Ref sig .tc := ⟨.hbm, 337, rfl⟩
abbrev main_v329 : Ref sig .tc := ⟨.hbm, 338, rfl⟩
abbrev main_v330 : Ref sig .tc := ⟨.hbm, 339, rfl⟩
abbrev main_v331 : Ref sig .tc := ⟨.hbm, 340, rfl⟩
abbrev main_v332 : Ref sig .tc := ⟨.hbm, 341, rfl⟩
abbrev main_v333 : Ref sig .tc := ⟨.hbm, 342, rfl⟩
abbrev main_v334 : Ref sig .tc := ⟨.hbm, 343, rfl⟩
abbrev main_v335 : Ref sig .tc := ⟨.hbm, 344, rfl⟩
abbrev main_v336 : Ref sig .tc := ⟨.hbm, 345, rfl⟩
abbrev main_v337 : Ref sig .tc := ⟨.hbm, 346, rfl⟩
abbrev main_v338 : Ref sig .tc := ⟨.hbm, 347, rfl⟩
abbrev main_v339 : Ref sig .tc := ⟨.hbm, 348, rfl⟩
abbrev main_v340 : Ref sig .tc := ⟨.hbm, 349, rfl⟩
abbrev main_v341 : Ref sig .tc := ⟨.hbm, 350, rfl⟩
abbrev main_v342 : Ref sig .tc := ⟨.hbm, 351, rfl⟩
abbrev main_v343 : Ref sig .tc := ⟨.hbm, 352, rfl⟩
abbrev main_v344 : Ref sig .tc := ⟨.hbm, 353, rfl⟩
abbrev main_v345 : Ref sig .tc := ⟨.hbm, 354, rfl⟩
abbrev main_v346 : Ref sig .tc := ⟨.hbm, 355, rfl⟩
abbrev main_v347 : Ref sig .tc := ⟨.hbm, 356, rfl⟩
abbrev main_v348 : Ref sig .tc := ⟨.hbm, 357, rfl⟩
abbrev main_v349 : Ref sig .tc := ⟨.hbm, 358, rfl⟩
abbrev main_v350 : Ref sig .tc := ⟨.hbm, 359, rfl⟩
abbrev main_v351 : Ref sig .tc := ⟨.hbm, 360, rfl⟩
abbrev main_v352 : Ref sig .tc := ⟨.hbm, 361, rfl⟩
abbrev main_v353 : Ref sig .tc := ⟨.hbm, 362, rfl⟩
abbrev main_v354 : Ref sig .tc := ⟨.hbm, 363, rfl⟩
abbrev main_v355 : Ref sig .tc := ⟨.hbm, 364, rfl⟩
abbrev main_v356 : Ref sig .tc := ⟨.hbm, 365, rfl⟩
abbrev main_v357 : Ref sig .tc := ⟨.hbm, 366, rfl⟩
abbrev main_v358 : Ref sig .tc := ⟨.hbm, 367, rfl⟩
abbrev main_v359 : Ref sig .tc := ⟨.hbm, 368, rfl⟩
abbrev main_v360 : Ref sig .tc := ⟨.hbm, 369, rfl⟩
abbrev main_v361 : Ref sig .tc := ⟨.hbm, 370, rfl⟩
abbrev main_v362 : Ref sig .tc := ⟨.hbm, 371, rfl⟩
abbrev main_v363 : Ref sig .tc := ⟨.hbm, 372, rfl⟩
abbrev main_v364 : Ref sig .tc := ⟨.hbm, 373, rfl⟩
abbrev main_v365 : Ref sig .tc := ⟨.hbm, 374, rfl⟩
abbrev main_v366 : Ref sig .tc := ⟨.hbm, 375, rfl⟩
abbrev main_v367 : Ref sig .tc := ⟨.hbm, 376, rfl⟩
abbrev main_v368 : Ref sig .tc := ⟨.hbm, 377, rfl⟩
abbrev main_v369 : Ref sig .tc := ⟨.hbm, 378, rfl⟩
abbrev main_v370 : Ref sig .tc := ⟨.hbm, 379, rfl⟩
abbrev main_v371 : Ref sig .tc := ⟨.hbm, 380, rfl⟩
abbrev main_v372 : Ref sig .tc := ⟨.hbm, 381, rfl⟩
abbrev main_v373 : Ref sig .tc := ⟨.hbm, 382, rfl⟩
abbrev main_v374 : Ref sig .tc := ⟨.hbm, 383, rfl⟩
abbrev main_v375 : Ref sig .tc := ⟨.hbm, 384, rfl⟩
abbrev main_v376 : Ref sig .tc := ⟨.hbm, 385, rfl⟩
abbrev main_v377 : Ref sig .tc := ⟨.hbm, 386, rfl⟩
abbrev main_v378 : Ref sig .tc := ⟨.hbm, 387, rfl⟩
abbrev main_v379 : Ref sig .tc := ⟨.hbm, 388, rfl⟩
abbrev main_v380 : Ref sig .tc := ⟨.hbm, 389, rfl⟩
abbrev main_v381 : Ref sig .tc := ⟨.hbm, 390, rfl⟩
abbrev main_v382 : Ref sig .tc := ⟨.hbm, 391, rfl⟩
abbrev main_v383 : Ref sig .tc := ⟨.hbm, 392, rfl⟩
abbrev main_v384 : Ref sig .tc := ⟨.hbm, 393, rfl⟩
abbrev main_v385 : Ref sig .tc := ⟨.hbm, 394, rfl⟩
abbrev main_v386 : Ref sig .tc := ⟨.hbm, 395, rfl⟩
abbrev main_v387 : Ref sig .tc := ⟨.hbm, 396, rfl⟩
abbrev main_v388 : Ref sig .tc := ⟨.hbm, 397, rfl⟩
abbrev main_v389 : Ref sig .tc := ⟨.hbm, 398, rfl⟩
abbrev main_v390 : Ref sig .tc := ⟨.hbm, 399, rfl⟩
abbrev main_v391 : Ref sig .tc := ⟨.hbm, 400, rfl⟩
abbrev main_v392 : Ref sig .tc := ⟨.hbm, 401, rfl⟩
abbrev main_v393 : Ref sig .tc := ⟨.hbm, 402, rfl⟩
abbrev main_v394 : Ref sig .tc := ⟨.hbm, 403, rfl⟩
abbrev main_v395 : Ref sig .tc := ⟨.hbm, 404, rfl⟩
abbrev main_v396 : Ref sig .tc := ⟨.hbm, 405, rfl⟩
abbrev main_v397 : Ref sig .tc := ⟨.hbm, 406, rfl⟩
abbrev main_v398 : Ref sig .tc := ⟨.hbm, 407, rfl⟩
abbrev main_v399 : Ref sig .tc := ⟨.hbm, 408, rfl⟩
abbrev main_v400 : Ref sig .tc := ⟨.hbm, 409, rfl⟩
abbrev main_v401 : Ref sig .tc := ⟨.hbm, 410, rfl⟩
abbrev main_v402 : Ref sig .tc := ⟨.hbm, 411, rfl⟩
abbrev main_v403 : Ref sig .tc := ⟨.hbm, 412, rfl⟩
abbrev main_v404 : Ref sig .tc := ⟨.hbm, 413, rfl⟩
abbrev main_v405 : Ref sig .tc := ⟨.hbm, 414, rfl⟩
abbrev main_v406 : Ref sig .tc := ⟨.hbm, 415, rfl⟩
abbrev main_v407 : Ref sig .tc := ⟨.hbm, 416, rfl⟩
abbrev main_v408 : Ref sig .tc := ⟨.hbm, 417, rfl⟩
abbrev main_v409 : Ref sig .tc := ⟨.hbm, 418, rfl⟩
abbrev main_v410 : Ref sig .tc := ⟨.hbm, 419, rfl⟩
abbrev main_v411 : Ref sig .tc := ⟨.hbm, 420, rfl⟩
abbrev main_v412 : Ref sig .tc := ⟨.hbm, 421, rfl⟩
abbrev main_v413 : Ref sig .tc := ⟨.hbm, 422, rfl⟩
abbrev main_v414 : Ref sig .tc := ⟨.hbm, 423, rfl⟩
abbrev main_v415 : Ref sig .tc := ⟨.hbm, 424, rfl⟩
abbrev main_v416 : Ref sig .tc := ⟨.hbm, 425, rfl⟩
abbrev main_v417 : Ref sig .tc := ⟨.hbm, 426, rfl⟩
abbrev main_v418 : Ref sig .tc := ⟨.hbm, 427, rfl⟩
abbrev main_v419 : Ref sig .tc := ⟨.hbm, 428, rfl⟩
abbrev main_v420 : Ref sig .tc := ⟨.hbm, 429, rfl⟩
abbrev main_v421 : Ref sig .tc := ⟨.hbm, 430, rfl⟩
abbrev main_v422 : Ref sig .tc := ⟨.hbm, 431, rfl⟩
abbrev main_v423 : Ref sig .tc := ⟨.hbm, 432, rfl⟩
abbrev main_v424 : Ref sig .tc := ⟨.hbm, 433, rfl⟩
abbrev main_v425 : Ref sig .tc := ⟨.hbm, 434, rfl⟩
abbrev main_v426 : Ref sig .tc := ⟨.hbm, 435, rfl⟩
abbrev main_v427 : Ref sig .tc := ⟨.hbm, 436, rfl⟩
abbrev main_v428 : Ref sig .tc := ⟨.hbm, 437, rfl⟩
abbrev main_v429 : Ref sig .tc := ⟨.hbm, 438, rfl⟩
abbrev main_v430 : Ref sig .tc := ⟨.hbm, 439, rfl⟩
abbrev main_v431 : Ref sig .tc := ⟨.hbm, 440, rfl⟩
abbrev main_v432 : Ref sig .tc := ⟨.hbm, 441, rfl⟩
abbrev main_v433 : Ref sig .tc := ⟨.hbm, 442, rfl⟩
abbrev main_v434 : Ref sig .tc := ⟨.hbm, 443, rfl⟩
abbrev main_v435 : Ref sig .tc := ⟨.hbm, 444, rfl⟩
abbrev main_v436 : Ref sig .tc := ⟨.hbm, 445, rfl⟩
abbrev main_v437 : Ref sig .tc := ⟨.hbm, 446, rfl⟩
abbrev main_v438 : Ref sig .tc := ⟨.hbm, 447, rfl⟩
abbrev main_v439 : Ref sig .tc := ⟨.hbm, 448, rfl⟩
abbrev main_v440 : Ref sig .tc := ⟨.hbm, 449, rfl⟩
abbrev main_v441 : Ref sig .tc := ⟨.hbm, 450, rfl⟩
abbrev main_v442 : Ref sig .tc := ⟨.hbm, 451, rfl⟩
abbrev main_v443 : Ref sig .tc := ⟨.hbm, 452, rfl⟩
abbrev main_v444 : Ref sig .tc := ⟨.hbm, 453, rfl⟩
abbrev main_v445 : Ref sig .tc := ⟨.hbm, 454, rfl⟩
abbrev main_v446 : Ref sig .tc := ⟨.hbm, 455, rfl⟩
abbrev main_v447 : Ref sig .tc := ⟨.hbm, 456, rfl⟩
abbrev main_v448 : Ref sig .tc := ⟨.hbm, 457, rfl⟩
abbrev main_v449 : Ref sig .tc := ⟨.hbm, 458, rfl⟩
abbrev main_v450 : Ref sig .tc := ⟨.hbm, 459, rfl⟩
abbrev main_v451 : Ref sig .tc := ⟨.hbm, 460, rfl⟩
abbrev main_v452 : Ref sig .tc := ⟨.hbm, 461, rfl⟩
abbrev main_v453 : Ref sig .tc := ⟨.hbm, 462, rfl⟩
abbrev main_v454 : Ref sig .tc := ⟨.hbm, 463, rfl⟩
abbrev main_v455 : Ref sig .tc := ⟨.hbm, 464, rfl⟩
abbrev main_v456 : Ref sig .tc := ⟨.hbm, 465, rfl⟩
abbrev main_v457 : Ref sig .tc := ⟨.hbm, 466, rfl⟩
abbrev main_v458 : Ref sig .tc := ⟨.hbm, 467, rfl⟩
abbrev main_v459 : Ref sig .tc := ⟨.hbm, 468, rfl⟩
abbrev main_v460 : Ref sig .tc := ⟨.hbm, 469, rfl⟩
abbrev main_v461 : Ref sig .tc := ⟨.hbm, 470, rfl⟩
abbrev main_v462 : Ref sig .tc := ⟨.hbm, 471, rfl⟩
abbrev main_v463 : Ref sig .tc := ⟨.hbm, 472, rfl⟩
abbrev main_v464 : Ref sig .tc := ⟨.hbm, 473, rfl⟩
abbrev main_v465 : Ref sig .tc := ⟨.hbm, 474, rfl⟩
abbrev main_v466 : Ref sig .tc := ⟨.hbm, 475, rfl⟩
abbrev main_v467 : Ref sig .tc := ⟨.hbm, 476, rfl⟩
abbrev main_v468 : Ref sig .tc := ⟨.hbm, 477, rfl⟩
abbrev main_v469 : Ref sig .tc := ⟨.hbm, 478, rfl⟩
abbrev main_v470 : Ref sig .tc := ⟨.hbm, 479, rfl⟩
abbrev main_v471 : Ref sig .tc := ⟨.hbm, 480, rfl⟩
abbrev main_v472 : Ref sig .tc := ⟨.hbm, 481, rfl⟩
abbrev main_v473 : Ref sig .tc := ⟨.hbm, 482, rfl⟩
abbrev main_v474 : Ref sig .tc := ⟨.hbm, 483, rfl⟩
abbrev main_v475 : Ref sig .tc := ⟨.hbm, 484, rfl⟩
abbrev main_v476 : Ref sig .tc := ⟨.hbm, 485, rfl⟩
abbrev main_v477 : Ref sig .tc := ⟨.hbm, 486, rfl⟩
abbrev main_v478 : Ref sig .tc := ⟨.hbm, 487, rfl⟩
abbrev main_v479 : Ref sig .tc := ⟨.hbm, 488, rfl⟩
abbrev main_v480 : Ref sig .tc := ⟨.hbm, 489, rfl⟩
abbrev main_v481 : Ref sig .tc := ⟨.hbm, 490, rfl⟩
abbrev main_v482 : Ref sig .tc := ⟨.hbm, 491, rfl⟩
abbrev main_v483 : Ref sig .tc := ⟨.hbm, 492, rfl⟩
abbrev main_v484 : Ref sig .tc := ⟨.hbm, 493, rfl⟩
abbrev main_v485 : Ref sig .tc := ⟨.hbm, 494, rfl⟩
abbrev main_v486 : Ref sig .tc := ⟨.hbm, 495, rfl⟩
abbrev main_v487 : Ref sig .tc := ⟨.hbm, 496, rfl⟩
abbrev main_v488 : Ref sig .tc := ⟨.hbm, 497, rfl⟩
abbrev main_v489 : Ref sig .tc := ⟨.hbm, 498, rfl⟩
abbrev main_v490 : Ref sig .tc := ⟨.hbm, 499, rfl⟩
abbrev main_v491 : Ref sig .tc := ⟨.hbm, 500, rfl⟩
abbrev main_v492 : Ref sig .tc := ⟨.hbm, 501, rfl⟩
abbrev main_v493 : Ref sig .tc := ⟨.hbm, 502, rfl⟩
abbrev main_v494 : Ref sig .tc := ⟨.hbm, 503, rfl⟩
abbrev main_v495 : Ref sig .tc := ⟨.hbm, 504, rfl⟩
abbrev main_v496 : Ref sig .tc := ⟨.hbm, 505, rfl⟩
abbrev main_v497 : Ref sig .tc := ⟨.hbm, 506, rfl⟩
abbrev main_v498 : Ref sig .tc := ⟨.hbm, 507, rfl⟩
abbrev main_v499 : Ref sig .tc := ⟨.hbm, 508, rfl⟩
abbrev main_v500 : Ref sig .tc := ⟨.hbm, 509, rfl⟩
abbrev main_v501 : Ref sig .tc := ⟨.hbm, 510, rfl⟩
abbrev main_v502 : Ref sig .tc := ⟨.hbm, 511, rfl⟩
abbrev main_v503 : Ref sig .tc := ⟨.hbm, 512, rfl⟩
abbrev main_v504 : Ref sig .tc := ⟨.hbm, 513, rfl⟩
abbrev main_v505 : Ref sig .tc := ⟨.hbm, 514, rfl⟩
abbrev main_v506 : Ref sig .tc := ⟨.hbm, 515, rfl⟩
abbrev main_v507 : Ref sig .tc := ⟨.hbm, 516, rfl⟩
abbrev main_v508 : Ref sig .tc := ⟨.hbm, 517, rfl⟩
abbrev main_v509 : Ref sig .tc := ⟨.hbm, 518, rfl⟩
abbrev main_v510 : Ref sig .tc := ⟨.hbm, 519, rfl⟩
abbrev main_v511 : Ref sig .tc := ⟨.hbm, 520, rfl⟩
abbrev main_v512 : Ref sig .tc := ⟨.hbm, 521, rfl⟩
abbrev main_v513 : Ref sig .tc := ⟨.hbm, 522, rfl⟩
abbrev main_v514 : Ref sig .tc := ⟨.hbm, 523, rfl⟩
abbrev main_v515 : Ref sig .tc := ⟨.hbm, 524, rfl⟩
abbrev main_v516 : Ref sig .tc := ⟨.hbm, 525, rfl⟩
abbrev main_v517 : Ref sig .tc := ⟨.hbm, 526, rfl⟩
abbrev main_v518 : Ref sig .tc := ⟨.hbm, 527, rfl⟩
abbrev main_v519 : Ref sig .tc := ⟨.hbm, 528, rfl⟩
abbrev main_v520 : Ref sig .tc := ⟨.hbm, 529, rfl⟩
abbrev main_v521 : Ref sig .tc := ⟨.hbm, 530, rfl⟩
abbrev main_v522 : Ref sig .tc := ⟨.hbm, 531, rfl⟩
abbrev main_v523 : Ref sig .tc := ⟨.hbm, 532, rfl⟩
abbrev main_v524 : Ref sig .tc := ⟨.hbm, 533, rfl⟩
abbrev main_v525 : Ref sig .tc := ⟨.hbm, 534, rfl⟩
abbrev main_v526 : Ref sig .tc := ⟨.hbm, 535, rfl⟩
abbrev main_v527 : Ref sig .tc := ⟨.hbm, 536, rfl⟩
abbrev main_v528 : Ref sig .tc := ⟨.hbm, 537, rfl⟩
abbrev main_v529 : Ref sig .tc := ⟨.hbm, 538, rfl⟩
abbrev main_v530 : Ref sig .tc := ⟨.hbm, 539, rfl⟩
abbrev main_v531 : Ref sig .tc := ⟨.hbm, 540, rfl⟩
abbrev main_v532 : Ref sig .tc := ⟨.hbm, 541, rfl⟩
abbrev main_v533 : Ref sig .tc := ⟨.hbm, 542, rfl⟩
abbrev main_v534 : Ref sig .tc := ⟨.hbm, 543, rfl⟩
abbrev main_v535 : Ref sig .tc := ⟨.hbm, 544, rfl⟩
abbrev main_v536 : Ref sig .tc := ⟨.hbm, 545, rfl⟩
abbrev main_v537 : Ref sig .tc := ⟨.hbm, 546, rfl⟩
abbrev main_v538 : Ref sig .tc := ⟨.hbm, 547, rfl⟩
abbrev main_v539 : Ref sig .tc := ⟨.hbm, 548, rfl⟩
abbrev main_v540 : Ref sig .tc := ⟨.hbm, 549, rfl⟩
abbrev main_v541 : Ref sig .tc := ⟨.hbm, 550, rfl⟩
abbrev main_v542 : Ref sig .tc := ⟨.hbm, 551, rfl⟩
abbrev main_v543 : Ref sig .tc := ⟨.hbm, 552, rfl⟩
abbrev main_v544 : Ref sig .tc := ⟨.hbm, 553, rfl⟩
abbrev main_v545 : Ref sig .tc := ⟨.hbm, 554, rfl⟩
abbrev main_v546 : Ref sig .tc := ⟨.hbm, 555, rfl⟩
abbrev main_v547 : Ref sig .tc := ⟨.hbm, 556, rfl⟩
abbrev main_v548 : Ref sig .tc := ⟨.hbm, 557, rfl⟩
abbrev main_v549 : Ref sig .tc := ⟨.hbm, 558, rfl⟩
abbrev main_v550 : Ref sig .tc := ⟨.hbm, 559, rfl⟩
abbrev main_v551 : Ref sig .tc := ⟨.hbm, 560, rfl⟩
abbrev main_v552 : Ref sig .tc := ⟨.hbm, 561, rfl⟩
abbrev main_v553 : Ref sig .tc := ⟨.hbm, 562, rfl⟩
abbrev main_v554 : Ref sig .tc := ⟨.hbm, 563, rfl⟩
abbrev main_v555 : Ref sig .tc := ⟨.hbm, 564, rfl⟩
abbrev main_v556 : Ref sig .tc := ⟨.hbm, 565, rfl⟩
abbrev main_v557 : Ref sig .tc := ⟨.hbm, 566, rfl⟩
abbrev main_v558 : Ref sig .tc := ⟨.hbm, 567, rfl⟩
abbrev main_v559 : Ref sig .tc := ⟨.hbm, 568, rfl⟩
abbrev main_v560 : Ref sig .tc := ⟨.hbm, 569, rfl⟩
abbrev main_v561 : Ref sig .tc := ⟨.hbm, 570, rfl⟩
abbrev main_v562 : Ref sig .tc := ⟨.hbm, 571, rfl⟩
abbrev main_v563 : Ref sig .tc := ⟨.hbm, 572, rfl⟩
abbrev main_v564 : Ref sig .tc := ⟨.hbm, 573, rfl⟩
abbrev main_v565 : Ref sig .tc := ⟨.hbm, 574, rfl⟩
abbrev main_v566 : Ref sig .tc := ⟨.hbm, 575, rfl⟩
abbrev main_v567 : Ref sig .tc := ⟨.hbm, 576, rfl⟩
abbrev main_v568 : Ref sig .tc := ⟨.hbm, 577, rfl⟩
abbrev main_v569 : Ref sig .tc := ⟨.hbm, 578, rfl⟩
abbrev main_v570 : Ref sig .tc := ⟨.hbm, 579, rfl⟩
abbrev main_v571 : Ref sig .tc := ⟨.hbm, 580, rfl⟩
abbrev main_v572 : Ref sig .tc := ⟨.hbm, 581, rfl⟩
abbrev main_v573 : Ref sig .tc := ⟨.hbm, 582, rfl⟩
abbrev main_v574 : Ref sig .tc := ⟨.hbm, 583, rfl⟩
abbrev main_v575 : Ref sig .tc := ⟨.hbm, 584, rfl⟩
abbrev main_v576 : Ref sig .tc := ⟨.hbm, 585, rfl⟩
abbrev main_v577 : Ref sig .tc := ⟨.hbm, 586, rfl⟩
abbrev main_v578 : Ref sig .tc := ⟨.hbm, 587, rfl⟩
abbrev main_v579 : Ref sig .tc := ⟨.hbm, 588, rfl⟩
abbrev main_v580 : Ref sig .tc := ⟨.hbm, 589, rfl⟩
abbrev main_v581 : Ref sig .tc := ⟨.hbm, 590, rfl⟩
abbrev main_v582 : Ref sig .tc := ⟨.hbm, 591, rfl⟩
abbrev main_v583 : Ref sig .tc := ⟨.hbm, 592, rfl⟩
abbrev main_v584 : Ref sig .tc := ⟨.hbm, 593, rfl⟩
abbrev main_v585 : Ref sig .tc := ⟨.hbm, 594, rfl⟩
abbrev main_v586 : Ref sig .tc := ⟨.hbm, 595, rfl⟩
abbrev main_v587 : Ref sig .tc := ⟨.hbm, 596, rfl⟩
abbrev main_v588 : Ref sig .tc := ⟨.hbm, 597, rfl⟩
abbrev main_v589 : Ref sig .tc := ⟨.hbm, 598, rfl⟩
abbrev main_v590 : Ref sig .tc := ⟨.hbm, 599, rfl⟩
abbrev main_v591 : Ref sig .tc := ⟨.hbm, 600, rfl⟩
abbrev main_v592 : Ref sig .tc := ⟨.hbm, 601, rfl⟩
abbrev main_v593 : Ref sig .tc := ⟨.hbm, 602, rfl⟩
abbrev main_v594 : Ref sig .tc := ⟨.hbm, 603, rfl⟩
abbrev main_v595 : Ref sig .tc := ⟨.hbm, 604, rfl⟩
abbrev main_v596 : Ref sig .tc := ⟨.hbm, 605, rfl⟩
abbrev main_v597 : Ref sig .tc := ⟨.hbm, 606, rfl⟩
abbrev main_v598 : Ref sig .tc := ⟨.hbm, 607, rfl⟩
abbrev main_v599 : Ref sig .tc := ⟨.hbm, 608, rfl⟩
abbrev main_v600 : Ref sig .tc := ⟨.hbm, 609, rfl⟩
abbrev main_v601 : Ref sig .tc := ⟨.hbm, 610, rfl⟩
abbrev main_v602 : Ref sig .tc := ⟨.hbm, 611, rfl⟩
abbrev main_v603 : Ref sig .tc := ⟨.hbm, 612, rfl⟩
abbrev main_v604 : Ref sig .tc := ⟨.hbm, 613, rfl⟩
abbrev main_v605 : Ref sig .tc := ⟨.hbm, 614, rfl⟩
abbrev main_v606 : Ref sig .tc := ⟨.hbm, 615, rfl⟩
abbrev main_v607 : Ref sig .tc := ⟨.hbm, 616, rfl⟩
abbrev main_v608 : Ref sig .tc := ⟨.hbm, 617, rfl⟩
abbrev main_v609 : Ref sig .tc := ⟨.hbm, 618, rfl⟩
abbrev main_v610 : Ref sig .tc := ⟨.hbm, 619, rfl⟩
abbrev main_v611 : Ref sig .tc := ⟨.hbm, 620, rfl⟩
abbrev main_v612 : Ref sig .tc := ⟨.hbm, 621, rfl⟩
abbrev main_v613 : Ref sig .tc := ⟨.hbm, 622, rfl⟩
abbrev main_v614 : Ref sig .tc := ⟨.hbm, 623, rfl⟩
abbrev main_v615 : Ref sig .tc := ⟨.hbm, 624, rfl⟩
abbrev main_v616 : Ref sig .tc := ⟨.hbm, 625, rfl⟩
abbrev main_v617 : Ref sig .tc := ⟨.hbm, 626, rfl⟩
abbrev main_v618 : Ref sig .tc := ⟨.hbm, 627, rfl⟩
abbrev main_v619 : Ref sig .tc := ⟨.hbm, 628, rfl⟩
abbrev main_v620 : Ref sig .tc := ⟨.hbm, 629, rfl⟩
abbrev main_v621 : Ref sig .tc := ⟨.hbm, 630, rfl⟩
abbrev main_v622 : Ref sig .tc := ⟨.hbm, 631, rfl⟩
abbrev main_v623 : Ref sig .tc := ⟨.hbm, 632, rfl⟩
abbrev main_v624 : Ref sig .tc := ⟨.hbm, 633, rfl⟩
abbrev main_v625 : Ref sig .tc := ⟨.hbm, 634, rfl⟩
abbrev main_v626 : Ref sig .tc := ⟨.hbm, 635, rfl⟩
abbrev main_v627 : Ref sig .tc := ⟨.hbm, 636, rfl⟩
abbrev main_v628 : Ref sig .tc := ⟨.hbm, 637, rfl⟩
abbrev main_c_4 : Ref sig .tc := ⟨.hbm, 638, rfl⟩
abbrev main_v629 : Ref sig .tc := ⟨.hbm, 639, rfl⟩
abbrev main_v630 : Ref sig .tc := ⟨.hbm, 640, rfl⟩
abbrev main_v631 : Ref sig .tc := ⟨.hbm, 641, rfl⟩
abbrev main_v632 : Ref sig .tc := ⟨.hbm, 642, rfl⟩
abbrev main_v633 : Ref sig .tc := ⟨.hbm, 643, rfl⟩
abbrev main_v634 : Ref sig .tc := ⟨.hbm, 644, rfl⟩
abbrev main_v635 : Ref sig .tc := ⟨.hbm, 645, rfl⟩
abbrev main_v636 : Ref sig .tc := ⟨.hbm, 646, rfl⟩
abbrev main_c_5 : Ref sig .tc := ⟨.hbm, 647, rfl⟩
abbrev main_v637 : Ref sig .tc := ⟨.hbm, 648, rfl⟩
abbrev main_v638 : Ref sig .tc := ⟨.hbm, 649, rfl⟩
abbrev main_c_6 : Ref sig .tc := ⟨.hbm, 650, rfl⟩
abbrev main_v639 : Ref sig .tc := ⟨.hbm, 651, rfl⟩
abbrev main_c_7 : Ref sig .tc := ⟨.hbm, 652, rfl⟩
abbrev main_v640 : Ref sig .tc := ⟨.hbm, 653, rfl⟩
abbrev main_v641 : Ref sig .tc := ⟨.hbm, 654, rfl⟩
abbrev main_c_8 : Ref sig .tc := ⟨.hbm, 655, rfl⟩
abbrev main_v642 : Ref sig .tc := ⟨.hbm, 656, rfl⟩
abbrev main_v643 : Ref sig .tc := ⟨.hbm, 657, rfl⟩
abbrev main_c_9 : Ref sig .tc := ⟨.hbm, 658, rfl⟩
abbrev main_v644 : Ref sig .tc := ⟨.hbm, 659, rfl⟩
abbrev main_v645 : Ref sig .tc := ⟨.hbm, 660, rfl⟩
abbrev main_c_10 : Ref sig .tc := ⟨.hbm, 661, rfl⟩
abbrev main_v646 : Ref sig .tc := ⟨.hbm, 662, rfl⟩
abbrev main_v647 : Ref sig .tc := ⟨.hbm, 663, rfl⟩
abbrev main_v648 : Ref sig .tc := ⟨.hbm, 664, rfl⟩
abbrev main_v649 : Ref sig .tc := ⟨.hbm, 665, rfl⟩
abbrev main_v650 : Ref sig .tc := ⟨.hbm, 666, rfl⟩
abbrev main_v651 : Ref sig .tc := ⟨.hbm, 667, rfl⟩
abbrev main_v652 : Ref sig .tc := ⟨.hbm, 668, rfl⟩
abbrev main_v653 : Ref sig .tc := ⟨.hbm, 669, rfl⟩
abbrev main_v654 : Ref sig .tc := ⟨.hbm, 670, rfl⟩
abbrev main_v655 : Ref sig .tc := ⟨.hbm, 671, rfl⟩
abbrev main_v656 : Ref sig .tc := ⟨.hbm, 672, rfl⟩
abbrev main_v657 : Ref sig .tc := ⟨.hbm, 673, rfl⟩
abbrev main_v658 : Ref sig .tc := ⟨.hbm, 674, rfl⟩
abbrev main_v659 : Ref sig .tc := ⟨.hbm, 675, rfl⟩
abbrev main_v660 : Ref sig .tc := ⟨.hbm, 676, rfl⟩
abbrev main_v661 : Ref sig .tc := ⟨.hbm, 677, rfl⟩
abbrev main_v662 : Ref sig .tc := ⟨.hbm, 678, rfl⟩
abbrev main_v663 : Ref sig .tc := ⟨.hbm, 679, rfl⟩
abbrev main_v664 : Ref sig .tc := ⟨.hbm, 680, rfl⟩
abbrev main_v665 : Ref sig .tc := ⟨.hbm, 681, rfl⟩
abbrev main_v666 : Ref sig .tc := ⟨.hbm, 682, rfl⟩
abbrev main_v667 : Ref sig .tc := ⟨.hbm, 683, rfl⟩
abbrev main_v668 : Ref sig .tc := ⟨.hbm, 684, rfl⟩
abbrev main_v669 : Ref sig .tc := ⟨.hbm, 685, rfl⟩
abbrev main_v670 : Ref sig .tc := ⟨.hbm, 686, rfl⟩
abbrev main_v671 : Ref sig .tc := ⟨.hbm, 687, rfl⟩
abbrev main_v672 : Ref sig .tc := ⟨.hbm, 688, rfl⟩
abbrev main_v673 : Ref sig .tc := ⟨.hbm, 689, rfl⟩
abbrev main_v674 : Ref sig .tc := ⟨.hbm, 690, rfl⟩
abbrev main_v675 : Ref sig .tc := ⟨.hbm, 691, rfl⟩
abbrev main_v676 : Ref sig .tc := ⟨.hbm, 692, rfl⟩
abbrev main_v677 : Ref sig .tc := ⟨.hbm, 693, rfl⟩
abbrev main_v678 : Ref sig .tc := ⟨.hbm, 694, rfl⟩
abbrev main_v679 : Ref sig .tc := ⟨.hbm, 695, rfl⟩
abbrev main_v680 : Ref sig .tc := ⟨.hbm, 696, rfl⟩
abbrev main_v681 : Ref sig .tc := ⟨.hbm, 697, rfl⟩
abbrev main_v682 : Ref sig .tc := ⟨.hbm, 698, rfl⟩
abbrev main_v683 : Ref sig .tc := ⟨.hbm, 699, rfl⟩
abbrev main_v684 : Ref sig .tc := ⟨.hbm, 700, rfl⟩
abbrev main_v685 : Ref sig .tc := ⟨.hbm, 701, rfl⟩
abbrev main_v686 : Ref sig .tc := ⟨.hbm, 702, rfl⟩
abbrev main_v687 : Ref sig .tc := ⟨.hbm, 703, rfl⟩
abbrev main_v688 : Ref sig .tc := ⟨.hbm, 704, rfl⟩
abbrev main_v689 : Ref sig .tc := ⟨.hbm, 705, rfl⟩
abbrev main_v690 : Ref sig .tc := ⟨.hbm, 706, rfl⟩
abbrev main_v691 : Ref sig .tc := ⟨.hbm, 707, rfl⟩
abbrev main_v692 : Ref sig .tc := ⟨.hbm, 708, rfl⟩
abbrev main_v693 : Ref sig .tc := ⟨.hbm, 709, rfl⟩
abbrev main_v694 : Ref sig .tc := ⟨.hbm, 710, rfl⟩
abbrev main_v695 : Ref sig .tc := ⟨.hbm, 711, rfl⟩
abbrev main_v696 : Ref sig .tc := ⟨.hbm, 712, rfl⟩
abbrev main_v697 : Ref sig .tc := ⟨.hbm, 713, rfl⟩
abbrev main_v698 : Ref sig .tc := ⟨.hbm, 714, rfl⟩
abbrev main_v699 : Ref sig .tc := ⟨.hbm, 715, rfl⟩
abbrev main_v700 : Ref sig .tc := ⟨.hbm, 716, rfl⟩
abbrev main_v701 : Ref sig .tc := ⟨.hbm, 717, rfl⟩
abbrev main_v702 : Ref sig .tc := ⟨.hbm, 718, rfl⟩
abbrev main_v703 : Ref sig .tc := ⟨.hbm, 719, rfl⟩
abbrev main_v704 : Ref sig .tc := ⟨.hbm, 720, rfl⟩
abbrev main_v705 : Ref sig .tc := ⟨.hbm, 721, rfl⟩
abbrev main_v706 : Ref sig .tc := ⟨.hbm, 722, rfl⟩
abbrev main_v707 : Ref sig .tc := ⟨.hbm, 723, rfl⟩
abbrev main_v708 : Ref sig .tc := ⟨.hbm, 724, rfl⟩
abbrev main_v709 : Ref sig .tc := ⟨.hbm, 725, rfl⟩
abbrev main_v710 : Ref sig .tc := ⟨.hbm, 726, rfl⟩
abbrev main_v711 : Ref sig .tc := ⟨.hbm, 727, rfl⟩
abbrev main_v712 : Ref sig .tc := ⟨.hbm, 728, rfl⟩
abbrev main_v713 : Ref sig .tc := ⟨.hbm, 729, rfl⟩
abbrev main_v714 : Ref sig .tc := ⟨.hbm, 730, rfl⟩
abbrev main_v715 : Ref sig .tc := ⟨.hbm, 731, rfl⟩
abbrev main_v716 : Ref sig .tc := ⟨.hbm, 732, rfl⟩
abbrev main_v717 : Ref sig .tc := ⟨.hbm, 733, rfl⟩
abbrev main_v718 : Ref sig .tc := ⟨.hbm, 734, rfl⟩
abbrev main_v719 : Ref sig .tc := ⟨.hbm, 735, rfl⟩
abbrev main_v720 : Ref sig .tc := ⟨.hbm, 736, rfl⟩
abbrev main_v721 : Ref sig .tc := ⟨.hbm, 737, rfl⟩
abbrev main_v722 : Ref sig .tc := ⟨.hbm, 738, rfl⟩
abbrev main_v723 : Ref sig .tc := ⟨.hbm, 739, rfl⟩
abbrev main_v724 : Ref sig .tc := ⟨.hbm, 740, rfl⟩
abbrev main_v725 : Ref sig .tc := ⟨.hbm, 741, rfl⟩
abbrev main_v726 : Ref sig .tc := ⟨.hbm, 742, rfl⟩
abbrev main_v727 : Ref sig .tc := ⟨.hbm, 743, rfl⟩
abbrev main_v728 : Ref sig .tc := ⟨.hbm, 744, rfl⟩
abbrev main_v729 : Ref sig .tc := ⟨.hbm, 745, rfl⟩
abbrev main_v730 : Ref sig .tc := ⟨.hbm, 746, rfl⟩
abbrev main_v731 : Ref sig .tc := ⟨.hbm, 747, rfl⟩
abbrev main_v732 : Ref sig .tc := ⟨.hbm, 748, rfl⟩
abbrev main_v733 : Ref sig .tc := ⟨.hbm, 749, rfl⟩
abbrev main_v734 : Ref sig .tc := ⟨.hbm, 750, rfl⟩
abbrev main_v735 : Ref sig .tc := ⟨.hbm, 751, rfl⟩
abbrev main_v736 : Ref sig .tc := ⟨.hbm, 752, rfl⟩
abbrev main_v737 : Ref sig .tc := ⟨.hbm, 753, rfl⟩
abbrev main_v738 : Ref sig .tc := ⟨.hbm, 754, rfl⟩
abbrev main_v739 : Ref sig .tc := ⟨.hbm, 755, rfl⟩
abbrev main_v740 : Ref sig .tc := ⟨.hbm, 756, rfl⟩
abbrev main_v741 : Ref sig .tc := ⟨.hbm, 757, rfl⟩
abbrev main_v742 : Ref sig .tc := ⟨.hbm, 758, rfl⟩
abbrev main_v743 : Ref sig .tc := ⟨.hbm, 759, rfl⟩
abbrev main_v744 : Ref sig .tc := ⟨.hbm, 760, rfl⟩
abbrev main_v745 : Ref sig .tc := ⟨.hbm, 761, rfl⟩
abbrev main_v746 : Ref sig .tc := ⟨.hbm, 762, rfl⟩
abbrev main_v747 : Ref sig .tc := ⟨.hbm, 763, rfl⟩
abbrev main_v748 : Ref sig .tc := ⟨.hbm, 764, rfl⟩
abbrev main_v749 : Ref sig .tc := ⟨.hbm, 765, rfl⟩
abbrev main_v750 : Ref sig .tc := ⟨.hbm, 766, rfl⟩
abbrev main_v751 : Ref sig .tc := ⟨.hbm, 767, rfl⟩
abbrev main_v752 : Ref sig .tc := ⟨.hbm, 768, rfl⟩
abbrev main_v753 : Ref sig .tc := ⟨.hbm, 769, rfl⟩
abbrev main_v754 : Ref sig .tc := ⟨.hbm, 770, rfl⟩
abbrev main_v755 : Ref sig .tc := ⟨.hbm, 771, rfl⟩
abbrev main_v756 : Ref sig .tc := ⟨.hbm, 772, rfl⟩
abbrev main_v757 : Ref sig .tc := ⟨.hbm, 773, rfl⟩
abbrev main_v758 : Ref sig .tc := ⟨.hbm, 774, rfl⟩
abbrev main_v759 : Ref sig .tc := ⟨.hbm, 775, rfl⟩
abbrev main_v760 : Ref sig .tc := ⟨.hbm, 776, rfl⟩
abbrev main_cst_11 : Ref sig .tc := ⟨.hbm, 777, rfl⟩
abbrev main_v761 : Ref sig .tc := ⟨.hbm, 778, rfl⟩
abbrev main_v762 : Ref sig .tc := ⟨.hbm, 779, rfl⟩
abbrev main_v763 : Ref sig .tc := ⟨.hbm, 780, rfl⟩
abbrev main_v764 : Ref sig .tc := ⟨.hbm, 781, rfl⟩
abbrev main_cst_12 : Ref sig .tc := ⟨.hbm, 782, rfl⟩
abbrev main_v765 : Ref sig .tc := ⟨.hbm, 783, rfl⟩
abbrev main_v766 : Ref sig .tc := ⟨.hbm, 784, rfl⟩
abbrev main_v767 : Ref sig .tc := ⟨.hbm, 785, rfl⟩
abbrev main_v768 : Ref sig .tc := ⟨.hbm, 786, rfl⟩
abbrev main_v769 : Ref sig .tc := ⟨.hbm, 787, rfl⟩
abbrev main_v770 : Ref sig .tc := ⟨.hbm, 788, rfl⟩
abbrev main_v771 : Ref sig .tc := ⟨.hbm, 789, rfl⟩
abbrev main_v772 : Ref sig .tc := ⟨.hbm, 790, rfl⟩
abbrev main_v773 : Ref sig .tc := ⟨.hbm, 791, rfl⟩
abbrev main_v774 : Ref sig .tc := ⟨.hbm, 792, rfl⟩
abbrev main_v775 : Ref sig .tc := ⟨.hbm, 793, rfl⟩
abbrev main_v776 : Ref sig .tc := ⟨.hbm, 794, rfl⟩
abbrev main_cst_13 : Ref sig .tc := ⟨.hbm, 795, rfl⟩
abbrev main_call0_v0 : Ref sig .tc := ⟨.hbm, 796, rfl⟩
abbrev main_call0_v1 : Ref sig .tc := ⟨.hbm, 797, rfl⟩
abbrev main_v777 : Ref sig .tc := ⟨.hbm, 798, rfl⟩

abbrev nD : Nat := 1
abbrev τ : Topo := Topo.v7x

variable {F : FTy → Type} [FloatOps F]
-- ==== Proof.Build.lean ====
/- The body of the first pallas_call, written as a recursion: the angles, then eight layers of two-row
   blocks over a list of sixteen rows, then the rows written out one by one. -/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Build

open Idealize.ShloMosaic Idealize.SL.Sem

/-! ## Shapes -/

abbrev B64x128 : Shape := ⟨2, ![64, 128]⟩
abbrev B120x64 : Shape := ⟨2, ![120, 64]⟩
abbrev B120x1 : Shape := ⟨2, ![120, 1]⟩
abbrev B120x128 : Shape := ⟨2, ![120, 128]⟩
abbrev B16x8x128 : Shape := ⟨3, ![16, 8, 128]⟩
abbrev B1x8x128 : Shape := ⟨3, ![1, 8, 128]⟩
abbrev B1x64x8x128 : Shape := ⟨4, ![1, 64, 8, 128]⟩
abbrev B1x1x8x128 : Shape := ⟨4, ![1, 1, 8, 128]⟩
abbrev B8x128 : Shape := ⟨2, ![8, 128]⟩
abbrev B1x128 : Shape := ⟨2, ![1, 128]⟩

theorem pos64x128 : 0 < B64x128.numel := by decide
theorem pos120x64 : 0 < B120x64.numel := by decide
theorem pos120x1 : 0 < B120x1.numel := by decide
theorem pos120x128 : 0 < B120x128.numel := by decide
theorem pos1x128 : 0 < B1x128.numel := by decide
theorem pos1x8x128 : 0 < B1x8x128.numel := by decide
theorem pos1x1x8x128 : 0 < B1x1x8x128.numel := by decide

theorem inRow (r : Fin 120) : ∀ a, (![r.val, 0] : Fin 2 → Nat) a + B1x128.size a ≤ B120x128.size a := by
  revert r; decide
theorem inMode (m : Fin 16) : ∀ a, (![m.val, 0, 0] : Fin 3 → Nat) a + B1x8x128.size a ≤ B16x8x128.size a := by
  revert m; decide
theorem inSlot (q : Fin 64) : ∀ a, (![0, q.val, 0, 0] : Fin 4 → Nat) a + B1x1x8x128.size a ≤ B1x64x8x128.size a := by
  revert q; decide
theorem packedSlot (q : Fin 64) :
    (Rect.unit (s := B1x64x8x128) ![0, q.val, 0, 0] B1x1x8x128.size (inSlot q)).PackedRows (EltTy.packing .bf16) := by
  revert q; decide

variable {F : FTy → Type} [FloatOps F]

/-! ## The angles -/

/-- The product of the weights with the columns. -/
def embDims : DotDims B120x64 B64x128 B120x128 where
  lhsContracting := [1]
  rhsContracting := [0]
  lhsNonContracting := [0]
  rhsNonContracting := [1]
  lhsBatch := []
  rhsBatch := []
  wf := by decide

/-- The sigmoid of the affine map. -/
def emb (w : Vec F B120x64 .f32) (x : Vec F B64x128 .f32) (b : Vec F B120x1 .f32) : FVec F B120x128 .f32 :=
  logistic (addf
    (matmul embDims (some .fp32) (w : FVec F B120x64 .f32) (shapeCast B64x128 (x : FVec F B64x128 .f32) (by decide))
      (constant B120x128 .f32 0x00000000#32))
    (broadcastTo B120x128 (shapeCast B120x1 (b : FVec F B120x1 .f32) (by decide) : FVec F B120x1 .f32) (by decide)))

/-- Two, guarded against a zero divisor. -/
abbrev two' : BitVec 32 := Scalar.select (Scalar.cmpi .eq (2#32 : BitVec 32) (0#32 : BitVec 32)) (1#32 : BitVec 32) (2#32 : BitVec 32)

abbrev rowRem : IVec B120x128 32 := remsi (iota .tc B120x128 32 [0] (by decide)) (broadcast B120x128 two')

/-- The parity of the row, as the floor remainder computes it. -/
abbrev rowParity : IVec B120x128 32 :=
  select
    (andi
      (xori (cmpi .slt rowRem (broadcast B120x128 (0#32 : BitVec 32)))
        (broadcastTo B120x128 (broadcast B120x128 (Scalar.cmpi .slt two' (0#32 : BitVec 32))) (by decide)))
      (cmpi .ne rowRem (broadcast B120x128 (0#32 : BitVec 32))))
    (addi rowRem (broadcast B120x128 two')) rowRem

/-- The angles: the embedding scaled by a quarter turn on the even rows, by a whole turn on the odd ones. -/
def angle (e : FVec F B120x128 .f32) : FVec F B120x128 .f32 :=
  mulf e (select (cmpi .eq rowParity (broadcast B120x128 (0#32 : BitVec 32)))
    (broadcast B120x128 (Scalar.ofBits .f32 0x3FC90FDB#32)) (broadcast B120x128 (Scalar.ofBits .f32 0x40C90FDB#32)) : FVec F B120x128 .f32)

/-! ## A block and a layer, as values -/

/-- A row: its real and its imaginary part. -/
abbrev Row (F : FTy → Type) [FloatOps F] := FVec F B8x128 .f32 × FVec F B8x128 .f32

abbrev wide (v : FVec F B1x128 .f32) : FVec F B8x128 .f32 := broadcastTo B8x128 v (by decide)

/-- The first row after a block. -/
abbrev blk0 (ct st cp sp : FVec F B1x128 .f32) (u0 u1 : Row F) : Row F :=
  (subf (subf (mulf (wide (mulf cp ct)) u0.1) (mulf (wide (mulf sp ct)) u0.2)) (mulf (wide st) u1.1),
   subf (addf (mulf (wide (mulf cp ct)) u0.2) (mulf (wide (mulf sp ct)) u0.1)) (mulf (wide st) u1.2))

/-- The second row after a block. -/
abbrev blk1 (ct st cp sp : FVec F B1x128 .f32) (u0 u1 : Row F) : Row F :=
  (addf (subf (mulf (wide (mulf cp st)) u0.1) (mulf (wide (mulf sp st)) u0.2)) (mulf (wide ct) u1.1),
   addf (addf (mulf (wide (mulf cp st)) u0.2) (mulf (wide (mulf sp st)) u0.1)) (mulf (wide ct) u1.2))

/-- The number of the row of the angles that block `n` reads first. -/
abbrev thetaRow (n : Nat) : Fin 120 := ⟨2 * n % 120, Nat.mod_lt _ (by decide)⟩
/-- The number of the row of the angles that block `n` reads second. -/
abbrev phiRow (n : Nat) : Fin 120 := ⟨(2 * n + 1) % 120, Nat.mod_lt _ (by decide)⟩

/-! ## The program text -/

variable {sig : RefSig} {nD : Nat} {τ : Topo} {Λ : Labels} {α : Type}

/-- Load row `r` of the cosines or of the sines. -/
abbrev loadRow (m : Memref sig .tc .vmem B120x128 .f32) (r : Fin 120)
    (k : FVec F B1x128 .f32 → Prog (TpuEff nD τ sig (Elt F) Λ .tc) α) : Prog (TpuEff nD τ sig (Elt F) Λ .tc) α :=
  .op (.load m (Rect.unit (s := B120x128) ![r.val, 0] B1x128.size (inRow r)).toLoadRect (View.loadsAt_vmem pos1x128))
    fun (v : Vec F B1x128 .f32) => k v

/-- One layer's blocks from number `n` on: the rows are taken two by two. -/
def sweep (arg8 arg9 : Memref sig .tc .vmem B120x128 .f32) :
    Nat → List (Row F) → (List (Row F) → Prog (TpuEff nD τ sig (Elt F) Λ .tc) α) → Prog (TpuEff nD τ sig (Elt F) Λ .tc) α
  | n, u0 :: u1 :: l, k =>
    loadRow arg8 (thetaRow n) fun ct => loadRow arg9 (thetaRow n) fun st =>
    loadRow arg8 (phiRow n) fun cp => loadRow arg9 (phiRow n) fun sp =>
    sweep arg8 arg9 (n + 1) l fun t => k (blk0 ct st cp sp u0 u1 :: blk1 ct st cp sp u0 u1 :: t)
  | _, l, k => k l

/-- An odd layer leaves the first row alone. -/
def oddSweep (arg8 arg9 : Memref sig .tc .vmem B120x128 .f32) (n : Nat) :
    List (Row F) → (List (Row F) → Prog (TpuEff nD τ sig (Elt F) Λ .tc) α) → Prog (TpuEff nD τ sig (Elt F) Λ .tc) α
  | u :: l, k => sweep arg8 arg9 n l fun t => k (u :: t)
  | [], k => k []

/-- `d` pairs of layers from block `n` on: eight blocks, then seven. -/
def layers (arg8 arg9 : Memref sig .tc .vmem B120x128 .f32)
    (k : List (Row F) → Prog (TpuEff nD τ sig (Elt F) Λ .tc) α) :
    Nat → Nat → List (Row F) → Prog (TpuEff nD τ sig (Elt F) Λ .tc) α
  | 0, _, l => k l
  | d + 1, n, l => sweep arg8 arg9 n l fun l => oddSweep arg8 arg9 (n + 8) l fun l => layers arg8 arg9 k d (n + 15) l

/-- The part the rounding to half width drops. -/
abbrev low (v : FVec F B8x128 .f32) : FVec F B8x128 .bf16 :=
  truncf .bf16 (subf v (extf .f32 (truncf .bf16 v (by decide) : FVec F B8x128 .bf16) (by decide))) (by decide)

abbrev high (v : FVec F B8x128 .f32) : FVec F B8x128 .bf16 := truncf .bf16 v (by decide)

/-- Store plane `m` of a stack of sixteen, after a load that nothing reads. -/
abbrev putPlane (arg : Memref sig .tc .vmem B16x8x128 .f32) (m : Fin 16) (v : FVec F B8x128 .f32)
    (k : Prog (TpuEff nD τ sig (Elt F) Λ .tc) α) : Prog (TpuEff nD τ sig (Elt F) Λ .tc) α :=
  .op (.load arg (Rect.unit (s := B16x8x128) ![m.val, 0, 0] B1x8x128.size (inMode m)).toLoadRect (View.loadsAt_vmem pos1x8x128)) fun _ =>
  .op (.store arg (Rect.unit (s := B16x8x128) ![m.val, 0, 0] B1x8x128.size (inMode m)) (shapeCast B1x8x128 v (by decide)) Finset.univ
    (View.stores_vmem_bits_univ pos1x8x128 rfl) (.inl rfl)) fun _ => k

/-- Store slot `q` of the packed array, after a load that nothing reads. -/
abbrev putSlot (arg7 : Memref sig .tc .vmem B1x64x8x128 .bf16) (harg7 : arg7.IsWhole) (q : Fin 64) (v : FVec F B8x128 .bf16)
    (k : Prog (TpuEff nD τ sig (Elt F) Λ .tc) α) : Prog (TpuEff nD τ sig (Elt F) Λ .tc) α :=
  .op (.load arg7 (Rect.unit (s := B1x64x8x128) ![0, q.val, 0, 0] B1x1x8x128.size (inSlot q)).toLoadRect
    (View.loadsAt_vmem pos1x1x8x128)) fun _ =>
  .op (.store arg7 (Rect.unit (s := B1x64x8x128) ![0, q.val, 0, 0] B1x1x8x128.size (inSlot q)) (shapeCast B1x1x8x128 v (by decide))
    Finset.univ (View.stores_vmem pos1x1x8x128 (harg7.storeExact_slice rfl _ (packedSlot q)) (fun _ => rfl)) (.inl rfl)) fun _ => k

abbrev mode (m : Nat) : Fin 16 := ⟨m % 16, Nat.mod_lt _ (by decide)⟩
abbrev slot (j m : Nat) : Fin 64 := ⟨(j + m) % 64, Nat.mod_lt _ (by decide)⟩

/-- Write the rows out from number `m` on. -/
def emit (arg5 arg6 : Memref sig .tc .vmem B16x8x128 .f32) (arg7 : Memref sig .tc .vmem B1x64x8x128 .bf16) (harg7 : arg7.IsWhole)
    (k : Prog (TpuEff nD τ sig (Elt F) Λ .tc) α) : Nat → List (Row F) → Prog (TpuEff nD τ sig (Elt F) Λ .tc) α
  | _, [] => k
  | m, u :: l =>
    putPlane arg5 (mode m) u.1 <| putPlane arg6 (mode m) u.2 <|
    putSlot arg7 harg7 (slot 0 m) (high u.1) <| putSlot arg7 harg7 (slot 16 m) (high u.2) <|
    putSlot arg7 harg7 (slot 32 m) (low u.1) <| putSlot arg7 harg7 (slot 48 m) (low u.2) <|
    emit arg5 arg6 arg7 harg7 k (m + 1) l

/-- Row `m` before the first layer: one in column `m`. -/
abbrev start (m : BitVec 32) : Row F :=
  (sitofp .f32 (extui 32 (cmpi .eq (iota .tc B8x128 32 [0] (by decide)) (broadcast B8x128 m)) (by decide)),
   broadcast B8x128 (Scalar.ofBits .f32 0x00000000#32))

/-- The sixteen rows before the first layer. -/
abbrev starts : List (Row F) :=
  [start 0#32, start 1#32, start 2#32, start 3#32, start 4#32, start 5#32, start 6#32, start 7#32, start 8#32, start 9#32,
   start 10#32, start 11#32, start 12#32, start 13#32, start 14#32, start 15#32]

/-- Store a whole array of angles' functions, after a load that nothing reads. -/
abbrev putWhole (arg : Memref sig .tc .vmem B120x128 .f32) (v : FVec F B120x128 .f32)
    (k : Prog (TpuEff nD τ sig (Elt F) Λ .tc) α) : Prog (TpuEff nD τ sig (Elt F) Λ .tc) α :=
  .op (.load arg (Rect.unit (s := B120x128) ![0, 0] B120x128.size (by decide)).toLoadRect (View.loadsAt_vmem pos120x128)) fun _ =>
  .op (.store arg (Rect.unit (s := B120x128) ![0, 0] B120x128.size (by decide)) v Finset.univ
    (View.stores_vmem_bits_univ pos120x128 rfl) (.inl rfl)) fun _ => k

/-- The whole body. -/
def build (arg1 : Memref sig .tc .vmem B64x128 .f32) (arg2 : Memref sig .tc .vmem B120x64 .f32) (arg3 : Memref sig .tc .vmem B120x1 .f32)
    (arg4 : Memref sig .tc .vmem B120x128 .f32) (arg5 arg6 : Memref sig .tc .vmem B16x8x128 .f32)
    (arg7 : Memref sig .tc .vmem B1x64x8x128 .bf16) (harg7 : arg7.IsWhole) (arg8 arg9 : Memref sig .tc .vmem B120x128 .f32)
    (k : Prog (TpuEff nD τ sig (Elt F) Λ .tc) α) : Prog (TpuEff nD τ sig (Elt F) Λ .tc) α :=
  .op (.load arg2 (Rect.unit (s := B120x64) ![0, 0] B120x64.size (by decide)).toLoadRect (View.loadsAt_vmem pos120x64)) fun w =>
  .op (.load arg1 (Rect.unit (s := B64x128) ![0, 0] B64x128.size (by decide)).toLoadRect (View.loadsAt_vmem pos64x128)) fun x =>
  .op (.load arg3 (Rect.unit (s := B120x1) ![0, 0] B120x1.size (by decide)).toLoadRect (View.loadsAt_vmem pos120x1)) fun b =>
  putWhole arg4 (emb w x b) <|
  putWhole arg8 (shapeCast B120x128 (cos (angle (emb w x b))) (by decide)) <|
  putWhole arg9 (shapeCast B120x128 (sin (angle (emb w x b))) (by decide)) <|
  layers arg8 arg9 (fun l => emit arg5 arg6 arg7 harg7 k 0 l) 4 0 starts

end Cert.Build

end
-- ==== Proof.BuildTextKernel.lean ====
/- The first body of `Kernel` is the text written in `Build`. -/
module

public import proofs.«01_k».proof.Proof.Build
public import proofs.«01_k».proof.Proof.Gen.Kernel

@[expose] public section

noncomputable section

namespace Cert.Kernel

open Idealize.ShloMosaic Idealize.SL.Sem Cert.Build

variable {F : FTy → Type} [FloatOps F] [Facts]
open Facts₀ Facts

set_option maxRecDepth 1000000
set_option maxHeartbeats 0

/-- The printed first body is the text written in `Build`. -/
theorem build_eq (i : grid0.Coords) (arg1 : Memref sig .tc .vmem S64x128 .f32) (harg1 : arg1.IsWhole) (arg2 : Memref sig .tc .vmem S120x64 .f32) (harg2 : arg2.IsWhole) (arg3 : Memref sig .tc .vmem S120x1 .f32) (harg3 : arg3.IsWhole) (arg4 : Memref sig .tc .vmem S120x128 .f32) (harg4 : arg4.IsWhole) (arg5 : Memref sig .tc .vmem S16x8x128 .f32) (harg5 : arg5.IsWhole) (arg6 : Memref sig .tc .vmem S16x8x128 .f32) (harg6 : arg6.IsWhole) (arg7 : Memref sig .tc .vmem S1x64x8x128 .bf16) (harg7 : arg7.IsWhole) (arg8 : Memref sig .tc .vmem S120x128 .f32) (harg8 : arg8.IsWhole) (arg9 : Memref sig .tc .vmem S120x128 .f32) (harg9 : arg9.IsWhole) :
    cc0_qknn_build_v (F := F) i arg1 harg1 arg2 harg2 arg3 harg3 arg4 harg4 arg5 harg5 arg6 harg6 arg7 harg7 arg8 harg8 arg9 harg9 = build arg1 arg2 arg3 arg4 arg5 arg6 arg7 harg7 arg8 arg9 (.ret ⟨⟩) := by
  rfl

end Cert.Kernel

end
-- ==== Proof.Own.lean ====
/- Loading and storing a rectangle of a memref that is owned by what it reads: the step rules of the
   logic, told in the memref's own coordinates. -/
module

public import Idealize.ShloMosaic.Lib.Memref
public import Idealize.ShloMosaic.Rules

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)

local notation "𝕄" => MT nD τ sig Ix Val Name U Lvl

variable {α : Type} {Q : α → sProp (MT nD τ sig Ix Val Name U Lvl)} {cs : CoreSpace} {s : Shape} {e : EltTy}

/-- A load reads the owned contents at the rectangle's places. -/
theorem load {m : Memref sig c.2.kind cs s e} {r : Rect s} {hl : m.view.LoadsAt r.toLoadRect}
    {k : (r.shape.Idx → Val e) → Prog (TpuEff nD τ sig Val Λ c.2) α} {X : s.Idx → Val e} :
    (owns c m fullShare X : sProp 𝕄)
      ⊢ iprop((owns c m fullShare X -∗ wp frame (wpE defs 𝒱 c bd) E (k fun x => X (r.emb x)) Q)
        -∗ wp frame (wpE defs 𝒱 c bd) E (.op (.load m r.toLoadRect hl) k) Q) := by
  unfold owns
  iintro ⟨%f, %hf, H⟩ Hk
  subst hf
  have h := wp_load_rect (defs := defs) (Γ := PendingWaitsCtx.empty) (Q := Q) 𝒱 c bd E (m := m) (r := r) (hl := hl) (k := k) (S := m.view.set) (q := fullShare) (f := f)
    (View.set_slice_subset m.view r)
  iapply h $$ H
  iintro H
  iapply Hk
  iexists f
  isplitr
  · ipureintro; rfl
  iexact H

/-- A load whose result is told by the caller. -/
theorem loadAs {m : Memref sig c.2.kind cs s e} {r : Rect s} {hl : m.view.LoadsAt r.toLoadRect}
    {k : (r.shape.Idx → Val e) → Prog (TpuEff nD τ sig Val Λ c.2) α} {X : s.Idx → Val e} (Y : r.shape.Idx → Val e)
    (h : ∀ x, X (r.emb x) = Y x) :
    (owns c m fullShare X : sProp 𝕄)
      ⊢ iprop((owns c m fullShare X -∗ wp frame (wpE defs 𝒱 c bd) E (k Y) Q)
        -∗ wp frame (wpE defs 𝒱 c bd) E (.op (.load m r.toLoadRect hl) k) Q) := by
  obtain rfl : (fun x => X (r.emb x)) = Y := funext h
  exact load 𝒱 c bd E

/-- A store leaves contents that are the payload on the rectangle and the old ones off it. -/
theorem store {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} (Y : s.Idx → Val e)
    (hit : ∀ x, Y (r.emb x) = w x) (miss : ∀ y, y ∉ r.set → Y y = X y) :
    (owns c m fullShare X : sProp 𝕄)
      ⊢ iprop((owns c m fullShare Y -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (S := m.view.set) (f := f) (r := r) (w := w) (Mk := Finset.univ) (hx := hx) (hm := hm) (k := k)
    ((View.setOn_subset_set _ _).trans (View.set_slice_subset m.view r))) $$ H
  iintro H
  iapply Hk
  iexists ((m.access r).write Val f w Finset.univ)
  isplitr
  · ipureintro
    funext y
    by_cases hy : y ∈ r.set
    · obtain ⟨x, rfl⟩ := r.exists_idx_of_mem hy
      exact (View.read_slice_write_emb r f w (Finset.mem_univ x)).trans (hit x).symm
    · rw [miss y hy]
      exact View.read_slice_write_of_not_mem r f w _ (by rwa [Rect.map_emb_univ])
  iexact H

end Cert.Own

end
-- ==== Proof.BuildRun.lean ====
/- What the first body computes: run from owned blocks, it leaves the embedding, the sixteen rows after the
   eight layers, and their packed copies. -/
module

public import proofs.«01_k».proof.Proof.Build
public import proofs.«01_k».proof.Proof.Own
public import Idealize.ShloMosaic.Lib.ValueIdxCore

@[expose] public section

noncomputable section

namespace Cert.Build

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- Row `r` of a stack of 120. -/
abbrev rowOf (X : Vec F B120x128 .f32) (r : Fin 120) : FVec F B1x128 .f32 :=
  fun x => X ((Rect.unit (s := B120x128) ![r.val, 0] B1x128.size (inRow r)).emb x)

/-- One layer's blocks from number `n` on, with cosines `C` and sines `S`. -/
def sweepV (C S : Vec F B120x128 .f32) : Nat → List (Row F) → List (Row F)
  | n, u0 :: u1 :: l =>
    blk0 (rowOf C (thetaRow n)) (rowOf S (thetaRow n)) (rowOf C (phiRow n)) (rowOf S (phiRow n)) u0 u1 ::
    blk1 (rowOf C (thetaRow n)) (rowOf S (thetaRow n)) (rowOf C (phiRow n)) (rowOf S (phiRow n)) u0 u1 ::
    sweepV C S (n + 1) l
  | _, l => l

/-- An odd layer leaves the first row alone. -/
def oddSweepV (C S : Vec F B120x128 .f32) (n : Nat) : List (Row F) → List (Row F)
  | u :: l => u :: sweepV C S n l
  | [] => []

/-- Pairs of layers. -/
def layersV (C S : Vec F B120x128 .f32) : Nat → Nat → List (Row F) → List (Row F)
  | 0, _, l => l
  | d + 1, n, l => layersV C S d (n + 15) (oddSweepV C S (n + 8) (sweepV C S n l))

theorem sweepV_length (C S : Vec F B120x128 .f32) : ∀ n l, (sweepV C S n l).length = l.length
  | n, u0 :: u1 :: l => by simp [sweepV, sweepV_length C S (n + 1) l]
  | _, [] => rfl
  | _, [_] => rfl

theorem oddSweepV_length (C S : Vec F B120x128 .f32) (n : Nat) : ∀ l, (oddSweepV C S n l).length = l.length
  | u :: l => by simp [oddSweepV, sweepV_length]
  | [] => rfl

theorem layersV_length (C S : Vec F B120x128 .f32) : ∀ d n l, (layersV C S d n l).length = l.length
  | 0, _, _ => rfl
  | d + 1, n, l => by rw [layersV, layersV_length, oddSweepV_length, sweepV_length]

/-- The rows after all the layers. -/
def rowsV (e : FVec F B120x128 .f32) : List (Row F) :=
  layersV (shapeCast B120x128 (cos (angle e)) (by decide)) (shapeCast B120x128 (sin (angle e)) (by decide)) 4 0 starts

/-- Nothing but a value for a row out of range. -/
abbrev noRow : Row F := start 0#32

/-- The stack of the rows' parts, `sel` saying which. -/
def planes (sel : Row F → FVec F B8x128 .f32) (L : List (Row F)) : Vec F B16x8x128 .f32 := fun y =>
  shapeCast B1x8x128 (sel (L.getD (y 0).val noRow)) (by decide) (ix3 (0 : Fin 1) (y 1) (y 2))

/-- Which packed copy of a row goes in which sixteen. -/
def packed (u : Row F) : Nat → FVec F B8x128 .bf16
  | 0 => high u.1
  | 1 => high u.2
  | 2 => low u.1
  | _ => low u.2

/-- The packed array. -/
def slots (L : List (Row F)) : Vec F B1x64x8x128 .bf16 := fun y =>
  shapeCast B1x1x8x128 (packed (L.getD ((y 1).val % 16) noRow) ((y 1).val / 16)) (by decide) (ix4 (0 : Fin 1) (0 : Fin 1) (y 2) (y 3))

/-! ## Places -/

theorem emb_row {n m : Nat} {inb} (x : (⟨2, ![n, m]⟩ : Shape).Idx) :
    (Rect.unit (s := ⟨2, ![n, m]⟩) ![0, 0] (⟨2, ![n, m]⟩ : Shape).size inb).emb x = x := by
  funext a
  apply Fin.ext
  fin_cases a
  · show 0 + 1 * (x 0).val = (x 0).val
    omega
  · show 0 + 1 * (x 1).val = (x 1).val
    omega

theorem whole_mem {n m : Nat} {inb} (x : (⟨2, ![n, m]⟩ : Shape).Idx) :
    x ∈ (Rect.unit (s := ⟨2, ![n, m]⟩) ![0, 0] (⟨2, ![n, m]⟩ : Shape).size inb).set :=
  Rect.mem_set_unit.mpr fun a => by
    fin_cases a
    · exact ⟨Nat.zero_le _, by show (x 0).val < 0 + n; have : (x 0).val < n := (x 0).isLt; omega⟩
    · exact ⟨Nat.zero_le _, by show (x 1).val < 0 + m; have : (x 1).val < m := (x 1).isLt; omega⟩

theorem emb_plane (m : Fin 16) (x : B1x8x128.Idx) :
    (Rect.unit (s := B16x8x128) ![m.val, 0, 0] B1x8x128.size (inMode m)).emb x = ix3 m (x 1) (x 2) := by
  funext a
  apply Fin.ext
  have h0 : (x 0).val = 0 := by have := (x 0).isLt; simpa using this
  fin_cases a
  · show m.val + 1 * (x 0).val = m.val
    omega
  · show 0 + 1 * (x 1).val = (x 1).val
    omega
  · show 0 + 1 * (x 2).val = (x 2).val
    omega

theorem not_plane (m : Fin 16) (y : B16x8x128.Idx)
    (h : y ∉ (Rect.unit (s := B16x8x128) ![m.val, 0, 0] B1x8x128.size (inMode m)).set) : (y 0).val ≠ m.val := by
  intro h0
  refine h (Rect.mem_set_unit.mpr fun a => ?_)
  fin_cases a
  · exact ⟨le_of_eq h0.symm, by show (y 0).val < m.val + 1; omega⟩
  · exact ⟨Nat.zero_le _, by show (y 1).val < 0 + 8; have : (y 1).val < 8 := (y 1).isLt; omega⟩
  · exact ⟨Nat.zero_le _, by show (y 2).val < 0 + 128; have : (y 2).val < 128 := (y 2).isLt; omega⟩

theorem plane_ext (x : B1x8x128.Idx) : (ix3 (0 : Fin 1) (x 1) (x 2) : B1x8x128.Idx) = x := by
  funext a
  fin_cases a
  · exact Subsingleton.elim (α := Fin 1) _ _
  · rfl
  · rfl

theorem emb_slot (q : Fin 64) (x : B1x1x8x128.Idx) :
    (Rect.unit (s := B1x64x8x128) ![0, q.val, 0, 0] B1x1x8x128.size (inSlot q)).emb x = ix4 (0 : Fin 1) q (x 2) (x 3) := by
  funext a
  apply Fin.ext
  have h0 : (x 0).val = 0 := by have := (x 0).isLt; simpa using this
  have h1 : (x 1).val = 0 := by have := (x 1).isLt; simpa using this
  fin_cases a
  · show 0 + 1 * (x 0).val = 0
    omega
  · show q.val + 1 * (x 1).val = q.val
    omega
  · show 0 + 1 * (x 2).val = (x 2).val
    omega
  · show 0 + 1 * (x 3).val = (x 3).val
    omega

theorem not_slot (q : Fin 64) (y : B1x64x8x128.Idx)
    (h : y ∉ (Rect.unit (s := B1x64x8x128) ![0, q.val, 0, 0] B1x1x8x128.size (inSlot q)).set) : (y 1).val ≠ q.val := by
  intro h0
  refine h (Rect.mem_set_unit.mpr fun a => ?_)
  fin_cases a
  · exact ⟨Nat.zero_le _, by show (y 0).val < 0 + 1; have : (y 0).val < 1 := (y 0).isLt; omega⟩
  · exact ⟨le_of_eq h0.symm, by show (y 1).val < q.val + 1; omega⟩
  · exact ⟨Nat.zero_le _, by show (y 2).val < 0 + 8; have : (y 2).val < 8 := (y 2).isLt; omega⟩
  · exact ⟨Nat.zero_le _, by show (y 3).val < 0 + 128; have : (y 3).val < 128 := (y 3).isLt; omega⟩

theorem slot_ext (x : B1x1x8x128.Idx) : (ix4 (0 : Fin 1) (0 : Fin 1) (x 2) (x 3) : B1x1x8x128.Idx) = x := by
  funext a
  fin_cases a
  · exact Subsingleton.elim (α := Fin 1) _ _
  · exact Subsingleton.elim (α := Fin 1) _ _
  · rfl
  · rfl

/-! ## The run -/

variable {nD : Nat} {τ : Topo} {sig : RefSig}
variable {Ix : Type} [DecidableEq Ix] {Name : Type} [DecidableEq Name] {U : Type} [URA U] {Lvl : Type} [Preorder Lvl]
variable {Λ : Labels} {defs : Defs nD τ sig (Elt F) Λ} (𝒱 : Variants) (c : Dev nD) (bd : Option 𝒱.V) (E : Set Name)
variable {α : Type} {Q : α → sProp (MT nD τ sig Ix (Elt F) Name U Lvl)}

theorem run_putWhole (a : Memref sig .tc .vmem B120x128 .f32) (v : FVec F B120x128 .f32) (X : Vec F B120x128 .f32)
    (k : Prog (TpuEff nD τ sig (Elt F) Λ .tc) α) :
    (ownsTc c a fullShare X : sProp (MT nD τ sig Ix (Elt F) Name U Lvl))
      ⊢ iprop((ownsTc c a fullShare v -∗ wp frame (wpE defs 𝒱 (c.tc : Thread nD τ) bd) E k Q)
        -∗ wp frame (wpE defs 𝒱 (c.tc : Thread nD τ) bd) E (putWhole a v k) Q) := by
  iintro H Hk
  iapply (Own.load 𝒱 (c.tc : Thread nD τ) bd E) $$ H
  iintro H
  iapply (Own.store 𝒱 (c.tc : Thread nD τ) bd E v (fun x => congrArg v (emb_row x)) (fun y h => absurd (whole_mem y) h)) $$ H
  iexact Hk

theorem run_putPlane (a : Memref sig .tc .vmem B16x8x128 .f32) (m : Fin 16) (v : FVec F B8x128 .f32) (X Y : Vec F B16x8x128 .f32)
    (hit : ∀ x : B1x8x128.Idx, Y (ix3 m (x 1) (x 2)) = shapeCast B1x8x128 v (by decide) x)
    (miss : ∀ y, (y 0).val ≠ m.val → Y y = X y) (k : Prog (TpuEff nD τ sig (Elt F) Λ .tc) α) :
    (ownsTc c a fullShare X : sProp (MT nD τ sig Ix (Elt F) Name U Lvl))
      ⊢ iprop((ownsTc c a fullShare Y -∗ wp frame (wpE defs 𝒱 (c.tc : Thread nD τ) bd) E k Q)
        -∗ wp frame (wpE defs 𝒱 (c.tc : Thread nD τ) bd) E (putPlane a m v k) Q) := by
  iintro H Hk
  iapply (Own.load 𝒱 (c.tc : Thread nD τ) bd E) $$ H
  iintro H
  iapply (Own.store 𝒱 (c.tc : Thread nD τ) bd E Y (fun x => (congrArg Y (emb_plane m x)).trans (hit x))
    (fun y h => miss y (not_plane m y h))) $$ H
  iexact Hk

theorem run_putSlot (a : Memref sig .tc .vmem B1x64x8x128 .bf16) (ha : a.IsWhole) (q : Fin 64) (v : FVec F B8x128 .bf16)
    (X Y : Vec F B1x64x8x128 .bf16)
    (hit : ∀ x : B1x1x8x128.Idx, Y (ix4 (0 : Fin 1) q (x 2) (x 3)) = shapeCast B1x1x8x128 v (by decide) x)
    (miss : ∀ y, (y 1).val ≠ q.val → Y y = X y) (k : Prog (TpuEff nD τ sig (Elt F) Λ .tc) α) :
    (ownsTc c a fullShare X : sProp (MT nD τ sig Ix (Elt F) Name U Lvl))
      ⊢ iprop((ownsTc c a fullShare Y -∗ wp frame (wpE defs 𝒱 (c.tc : Thread nD τ) bd) E k Q)
        -∗ wp frame (wpE defs 𝒱 (c.tc : Thread nD τ) bd) E (putSlot a ha q v k) Q) := by
  iintro H Hk
  iapply (Own.load 𝒱 (c.tc : Thread nD τ) bd E) $$ H
  iintro H
  iapply (Own.store 𝒱 (c.tc : Thread nD τ) bd E Y (fun x => (congrArg Y (emb_slot q x)).trans (hit x))
    (fun y h => miss y (not_slot q y h))) $$ H
  iexact Hk

/-- A layer's blocks: the scratch arrays are only read. -/
theorem run_sweep (a8 a9 : Memref sig .tc .vmem B120x128 .f32) (C S : Vec F B120x128 .f32) :
    ∀ (n : Nat) (l : List (Row F)) (k : List (Row F) → Prog (TpuEff nD τ sig (Elt F) Λ .tc) α),
    iprop(ownsTc c a8 fullShare C ∗ ownsTc c a9 fullShare S) ⊢
      iprop((iprop(ownsTc c a8 fullShare C ∗ ownsTc c a9 fullShare S) -∗
          wp frame (wpE defs 𝒱 (c.tc : Thread nD τ) bd) E (k (sweepV C S n l)) Q)
        -∗ wp frame (wpE defs 𝒱 (c.tc : Thread nD τ) bd) E (sweep a8 a9 n l k) Q)
  | n, u0 :: u1 :: l, k => by
    rw [sweep, sweepV]
    iintro ⟨H8, H9⟩ Hk
    iapply (Own.load 𝒱 (c.tc : Thread nD τ) bd E) $$ H8
    iintro H8
    iapply (Own.load 𝒱 (c.tc : Thread nD τ) bd E) $$ H9
    iintro H9
    iapply (Own.load 𝒱 (c.tc : Thread nD τ) bd E) $$ H8
    iintro H8
    iapply (Own.load 𝒱 (c.tc : Thread nD τ) bd E) $$ H9
    iintro H9
    iapply (run_sweep a8 a9 C S (n + 1) l _) $$ [H8 H9]
    · isplitl [H8] <;> iassumption
    iexact Hk
  | _, [], k => by
    rw [sweep, sweepV]
    · iintro H Hk
      iapply Hk $$ H
    all_goals simp
  | _, [_], k => by
    rw [sweep, sweepV]
    · iintro H Hk
      iapply Hk $$ H
    all_goals simp

theorem run_oddSweep (a8 a9 : Memref sig .tc .vmem B120x128 .f32) (C S : Vec F B120x128 .f32) (n : Nat) :
    ∀ (l : List (Row F)) (k : List (Row F) → Prog (TpuEff nD τ sig (Elt F) Λ .tc) α),
    iprop(ownsTc c a8 fullShare C ∗ ownsTc c a9 fullShare S) ⊢
      iprop((iprop(ownsTc c a8 fullShare C ∗ ownsTc c a9 fullShare S) -∗
          wp frame (wpE defs 𝒱 (c.tc : Thread nD τ) bd) E (k (oddSweepV C S n l)) Q)
        -∗ wp frame (wpE defs 𝒱 (c.tc : Thread nD τ) bd) E (oddSweep a8 a9 n l k) Q)
  | u :: l, k => by
    rw [oddSweep, oddSweepV]
    exact run_sweep (defs := defs) (Q := Q) 𝒱 c bd E a8 a9 C S n l fun t => k (u :: t)
  | [], k => by
    rw [oddSweep, oddSweepV]
    iintro H Hk
    iapply Hk $$ H

theorem run_layers (a8 a9 : Memref sig .tc .vmem B120x128 .f32) (C S : Vec F B120x128 .f32)
    (k : List (Row F) → Prog (TpuEff nD τ sig (Elt F) Λ .tc) α) :
    ∀ (d n : Nat) (l : List (Row F)),
    iprop(ownsTc c a8 fullShare C ∗ ownsTc c a9 fullShare S) ⊢
      iprop((iprop(ownsTc c a8 fullShare C ∗ ownsTc c a9 fullShare S) -∗
          wp frame (wpE defs 𝒱 (c.tc : Thread nD τ) bd) E (k (layersV C S d n l)) Q)
        -∗ wp frame (wpE defs 𝒱 (c.tc : Thread nD τ) bd) E (layers a8 a9 k d n l) Q)
  | 0, _, l => by
    rw [layers, layersV]
    iintro H Hk
    iapply Hk $$ H
  | d + 1, n, l => by
    rw [layers, layersV]
    iintro H Hk
    iapply (run_sweep 𝒱 c bd E a8 a9 C S n l _) $$ H
    iintro H
    iapply (run_oddSweep 𝒱 c bd E a8 a9 C S (n + 8) _ _) $$ H
    iintro H
    iapply (run_layers a8 a9 C S k d (n + 15) _) $$ H
    iexact Hk

/-- Contents agreeing with `G` below plane `m`, once plane `m` is put, agree below plane `m + 1`. -/
theorem run_put5 (a : Memref sig .tc .vmem B16x8x128 .f32) (sel : Row F → FVec F B8x128 .f32) (L : List (Row F)) (m : Nat) (hm : m < 16)
    (u : Row F) (hu : L.getD m noRow = u) (k : Prog (TpuEff nD τ sig (Elt F) Λ .tc) α) :
    (iprop(∃ X, ⌜∀ y, (y 0).val < m → X y = planes sel L y⌝ ∗ ownsTc c a fullShare X) : sProp (MT nD τ sig Ix (Elt F) Name U Lvl))
      ⊢ iprop((iprop(∃ X, ⌜∀ y, (y 0).val < m + 1 → X y = planes sel L y⌝ ∗ ownsTc c a fullShare X) -∗
          wp frame (wpE defs 𝒱 (c.tc : Thread nD τ) bd) E k Q)
        -∗ wp frame (wpE defs 𝒱 (c.tc : Thread nD τ) bd) E (putPlane a (mode m) (sel u) k) Q) := by
  have hmod : (mode m).val = m := Nat.mod_eq_of_lt hm
  iintro ⟨%X, %hX, H⟩ Hk
  iapply (run_putPlane 𝒱 c bd E a (mode m) (sel u) X (fun y => if (y 0).val = m then planes sel L y else X y)
    (fun x => by
      show (if (mode m).val = m then _ else _) = _
      rw [if_pos hmod]
      show shapeCast B1x8x128 (sel (L.getD (mode m).val noRow)) _ (ix3 (0 : Fin 1) (x 1) (x 2)) = _
      rw [hmod, hu]
      exact congrArg (shapeCast B1x8x128 (sel u) _) (plane_ext x))
    (fun y hy => if_neg (fun h => hy (h.trans hmod.symm))) k) $$ H
  iintro H
  iapply Hk
  iexists _
  isplitr
  swap
  · iexact H
  ipureintro
  intro y hy
  by_cases h : (y 0).val = m
  · exact if_pos h
  · exact (if_neg h).trans (hX y (by omega))

/-- The same for the packed array: slot `j + m` is put, `j` the offset of one of the four sixteens. -/
theorem run_put7 (a : Memref sig .tc .vmem B1x64x8x128 .bf16) (ha : a.IsWhole) (L : List (Row F)) (i j m : Nat) (hm : m < 16) (hi : i < 4)
    (hj : j = 16 * i) (u : Row F) (hu : L.getD m noRow = u) (k : Prog (TpuEff nD τ sig (Elt F) Λ .tc) α) :
    (iprop(∃ X, ⌜∀ y, ((y 1).val % 16 < m ∨ (y 1).val % 16 = m ∧ (y 1).val / 16 < i) → X y = slots L y⌝ ∗ ownsTc c a fullShare X)
        : sProp (MT nD τ sig Ix (Elt F) Name U Lvl))
      ⊢ iprop((iprop(∃ X, ⌜∀ y, ((y 1).val % 16 < m ∨ (y 1).val % 16 = m ∧ (y 1).val / 16 < i + 1) → X y = slots L y⌝ ∗ ownsTc c a fullShare X) -∗
          wp frame (wpE defs 𝒱 (c.tc : Thread nD τ) bd) E k Q)
        -∗ wp frame (wpE defs 𝒱 (c.tc : Thread nD τ) bd) E (putSlot a ha (slot j m) (packed u i) k) Q) := by
  have hmod : (slot j m).val = j + m := Nat.mod_eq_of_lt (by omega)
  have h1 : (slot j m).val % 16 = m := by rw [hmod]; omega
  have h2 : (slot j m).val / 16 = i := by rw [hmod]; omega
  iintro ⟨%X, %hX, H⟩ Hk
  iapply (run_putSlot 𝒱 c bd E a ha (slot j m) (packed u i) X (fun y => if (y 1).val = j + m then slots L y else X y)
    (fun x => by
      show (if (slot j m).val = j + m then _ else _) = _
      rw [if_pos hmod]
      show shapeCast B1x1x8x128 (packed (L.getD ((slot j m).val % 16) noRow) ((slot j m).val / 16)) _ (ix4 (0 : Fin 1) (0 : Fin 1) (x 2) (x 3)) = _
      rw [h1, h2, hu]
      exact congrArg (shapeCast B1x1x8x128 (packed u i) _) (slot_ext x))
    (fun y hy => if_neg (fun h => hy (h.trans hmod.symm))) k) $$ H
  iintro H
  iapply Hk
  iexists _
  isplitr
  swap
  · iexact H
  ipureintro
  intro y hy
  by_cases h : (y 1).val = j + m
  · exact if_pos h
  · exact (if_neg h).trans (hX y (by omega))

/-- The rows written out. -/
theorem run_emit (a5 a6 : Memref sig .tc .vmem B16x8x128 .f32) (a7 : Memref sig .tc .vmem B1x64x8x128 .bf16) (h7 : a7.IsWhole)
    (L : List (Row F)) (hL : L.length = 16) (k : Prog (TpuEff nD τ sig (Elt F) Λ .tc) α) :
    ∀ (l : List (Row F)) (m : Nat), L.drop m = l →
    (iprop(iprop(∃ X, ⌜∀ y, (y 0).val < m → X y = planes Prod.fst L y⌝ ∗ ownsTc c a5 fullShare X)
        ∗ iprop(∃ X, ⌜∀ y, (y 0).val < m → X y = planes Prod.snd L y⌝ ∗ ownsTc c a6 fullShare X)
        ∗ iprop(∃ X, ⌜∀ y, ((y 1).val % 16 < m ∨ (y 1).val % 16 = m ∧ (y 1).val / 16 < 0) → X y = slots L y⌝ ∗ ownsTc c a7 fullShare X))
        : sProp (MT nD τ sig Ix (Elt F) Name U Lvl))
      ⊢ iprop((iprop(ownsTc c a5 fullShare (planes Prod.fst L) ∗ ownsTc c a6 fullShare (planes Prod.snd L) ∗ ownsTc c a7 fullShare (slots L)) -∗
          wp frame (wpE defs 𝒱 (c.tc : Thread nD τ) bd) E k Q)
        -∗ wp frame (wpE defs 𝒱 (c.tc : Thread nD τ) bd) E (emit a5 a6 a7 h7 k m l) Q)
  | [], m, hl => by
    have hm : 16 ≤ m := hL ▸ List.drop_eq_nil_iff.mp hl
    rw [emit]
    iintro ⟨⟨%X5, %h5, H5⟩, ⟨%X6, %h6, H6⟩, ⟨%X7, %h7, H7⟩⟩ Hk
    obtain rfl : X5 = planes Prod.fst L := funext fun y => h5 y (by have : (y 0).val < 16 := (y 0).isLt; omega)
    obtain rfl : X6 = planes Prod.snd L := funext fun y => h6 y (by have : (y 0).val < 16 := (y 0).isLt; omega)
    obtain rfl : X7 = slots L := funext fun y => h7 y (by have : (y 1).val < 64 := (y 1).isLt; omega)
    iapply Hk
    isplitl [H5]; · iexact H5
    isplitl [H6] <;> iassumption
  | u :: l, m, hl => by
    have hm : m < 16 := by
      by_contra h
      rw [List.drop_eq_nil_iff.mpr (by omega)] at hl
      exact absurd hl (by simp)
    have hu : L.getD m noRow = u := by
      have h := congrArg (fun l => l[0]?) hl
      simp only [List.getElem?_drop, Nat.add_zero, List.getElem?_cons_zero] at h
      rw [List.getD_eq_getElem?_getD, h]; rfl
    have hl' : L.drop (m + 1) = l := by
      rw [← List.drop_drop (i := 1) (j := m), hl]; rfl
    rw [emit]
    iintro ⟨H5, H6, H7⟩ Hk
    iapply (run_put5 𝒱 c bd E a5 Prod.fst L m hm u hu _) $$ H5
    iintro H5
    iapply (run_put5 𝒱 c bd E a6 Prod.snd L m hm u hu _) $$ H6
    iintro H6
    iapply (run_put7 𝒱 c bd E a7 h7 L 0 0 m hm (by omega) rfl u hu _) $$ H7
    iintro H7
    iapply (run_put7 𝒱 c bd E a7 h7 L 1 16 m hm (by omega) rfl u hu _) $$ H7
    iintro H7
    iapply (run_put7 𝒱 c bd E a7 h7 L 2 32 m hm (by omega) rfl u hu _) $$ H7
    iintro H7
    iapply (run_put7 𝒱 c bd E a7 h7 L 3 48 m hm (by omega) rfl u hu _) $$ H7
    iintro ⟨%X7, %hX7, H7⟩
    iapply (run_emit a5 a6 a7 h7 L hL k l (m + 1) hl') $$ [H5 H6 H7]
    · isplitl [H5]; · iexact H5
      isplitl [H6]; · iexact H6
      iexists X7
      isplitr
      swap
      · iexact H7
      ipureintro
      exact fun y hy => hX7 y (by have : (y 1).val < 64 := (y 1).isLt; omega)
    iexact Hk

/-- The whole body, from owned blocks. -/
theorem run_build (a1 : Memref sig .tc .vmem B64x128 .f32) (a2 : Memref sig .tc .vmem B120x64 .f32) (a3 : Memref sig .tc .vmem B120x1 .f32)
    (a4 : Memref sig .tc .vmem B120x128 .f32) (a5 a6 : Memref sig .tc .vmem B16x8x128 .f32)
    (a7 : Memref sig .tc .vmem B1x64x8x128 .bf16) (h7 : a7.IsWhole) (a8 a9 : Memref sig .tc .vmem B120x128 .f32)
    (x : Vec F B64x128 .f32) (w : Vec F B120x64 .f32) (b : Vec F B120x1 .f32)
    (k : Prog (TpuEff nD τ sig (Elt F) Λ .tc) α) :
    (iprop(ownsTc c a1 fullShare x ∗ ownsTc c a2 fullShare w ∗ ownsTc c a3 fullShare b
        ∗ iprop(∃ X, ownsTc c a4 fullShare X) ∗ iprop(∃ X, ownsTc c a5 fullShare X) ∗ iprop(∃ X, ownsTc c a6 fullShare X)
        ∗ iprop(∃ X, ownsTc c a7 fullShare X) ∗ iprop(∃ X, ownsTc c a8 fullShare X) ∗ iprop(∃ X, ownsTc c a9 fullShare X))
        : sProp (MT nD τ sig Ix (Elt F) Name U Lvl))
      ⊢ iprop((iprop(ownsTc c a1 fullShare x ∗ ownsTc c a2 fullShare w ∗ ownsTc c a3 fullShare b
          ∗ ownsTc c a4 fullShare (emb w x b)
          ∗ ownsTc c a5 fullShare (planes Prod.fst (rowsV (emb w x b))) ∗ ownsTc c a6 fullShare (planes Prod.snd (rowsV (emb w x b)))
          ∗ ownsTc c a7 fullShare (slots (rowsV (emb w x b)))
          ∗ iprop(∃ X, ownsTc c a8 fullShare X) ∗ iprop(∃ X, ownsTc c a9 fullShare X)) -∗
            wp frame (wpE defs 𝒱 (c.tc : Thread nD τ) bd) E k Q)
        -∗ wp frame (wpE defs 𝒱 (c.tc : Thread nD τ) bd) E (build a1 a2 a3 a4 a5 a6 a7 h7 a8 a9 k) Q) := by
  rw [build]
  iintro ⟨H1, H2, H3, ⟨%X4, H4⟩, ⟨%X5, H5⟩, ⟨%X6, H6⟩, ⟨%X7, H7⟩, ⟨%X8, H8⟩, ⟨%X9, H9⟩⟩ Hk
  iapply (Own.loadAs 𝒱 (c.tc : Thread nD τ) bd E w (fun y => congrArg w (emb_row y))) $$ H2
  iintro H2
  iapply (Own.loadAs 𝒱 (c.tc : Thread nD τ) bd E x (fun y => congrArg x (emb_row y))) $$ H1
  iintro H1
  iapply (Own.loadAs 𝒱 (c.tc : Thread nD τ) bd E b (fun y => congrArg b (emb_row y))) $$ H3
  iintro H3
  iapply (run_putWhole 𝒱 c bd E a4 _ X4 _) $$ H4
  iintro H4
  iapply (run_putWhole 𝒱 c bd E a8 _ X8 _) $$ H8
  iintro H8
  iapply (run_putWhole 𝒱 c bd E a9 _ X9 _) $$ H9
  iintro H9
  iapply (run_layers 𝒱 c bd E a8 a9 _ _ _ 4 0 starts) $$ [H8 H9]
  · isplitl [H8] <;> iassumption
  iintro ⟨H8, H9⟩
  iapply (run_emit 𝒱 c bd E a5 a6 a7 h7 (rowsV (emb w x b)) ((layersV_length _ _ _ _ _).trans rfl) k (rowsV (emb w x b)) 0 rfl) $$ [H5 H6 H7]
  · isplitl [H5]
    · iexists X5; isplitr; swap; (· iexact H5); ipureintro; exact fun y hy => absurd hy (by omega)
    isplitl [H6]
    · iexists X6; isplitr; swap; (· iexact H6); ipureintro; exact fun y hy => absurd hy (by omega)
    iexists X7; isplitr; swap; (· iexact H7); ipureintro; exact fun y hy => absurd hy (by omega)
  iintro ⟨H5, H6, H7⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  iexists _; iexact H9

end Cert.Build

end
-- ==== Proof.Whole.lean ====
/- A buffer held whole at some contents, as the memref of the whole of it owned at some contents, and back. -/
module

public import Idealize.ShloMosaic.Lib.Memref

@[expose] public section

noncomputable section

namespace Cert.Whole

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

theorem toOwns (c : Dev nD) (b : Ref sig .tc) :
    (iprop(∃ f : Buf Val ((c.tc : Thread nD τ).loc b), ((c.tc : Thread nD τ).loc b) ↦{fullShare} f) : sProp (MT nD τ sig Ix Val Name U Lvl))
      ⊢ iprop(∃ X, ownsTc c (Memref.whole b) fullShare X) := by
  iintro ⟨%f, H⟩
  iexists f
  rw [show (ownsTc c (Memref.whole b) fullShare f : sProp (MT nD τ sig Ix Val Name U Lvl)) = _ from owns_whole_eq (c.tc : Thread nD τ) b fullShare f]
  iexists f
  isplitr
  · ipureintro; rfl
  iexact H

theorem ofOwns (c : Dev nD) (b : Ref sig .tc) :
    (iprop(∃ X, ownsTc c (Memref.whole b) fullShare X) : sProp (MT nD τ sig Ix Val Name U Lvl))
      ⊢ iprop(∃ f : Buf Val ((c.tc : Thread nD τ).loc b), ((c.tc : Thread nD τ).loc b) ↦{fullShare} f) := by
  refine BIBase.Entails.trans (exists_mono fun X => Entails.of_eq (owns_whole_eq (c.tc : Thread nD τ) b fullShare X)) ?_
  iintro ⟨%X, %f, -, H⟩
  iexists f
  iexact H

end Cert.Whole

end
-- ==== Proof.Tile.lean ====
/- One tile of the permanent kernel, written once: the program text every one of the eight guarded
   regions of the second pallas_call runs, with the tile's number, its scratch offsets and its words as
   parameters, and the walk through the sign vectors as a recursion over the list of column flips. -/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Perm

open Idealize.ShloMosaic Idealize.SL.Sem

/-! ## Shapes -/

abbrev T1 : Shape := ⟨1, ![1]⟩
abbrev T8x64x128 : Shape := ⟨3, ![8, 64, 128]⟩
abbrev T1x64x128 : Shape := ⟨3, ![1, 64, 128]⟩
abbrev T1x64x1024 : Shape := ⟨3, ![1, 64, 1024]⟩
abbrev T64x128 : Shape := ⟨2, ![64, 128]⟩
abbrev T8x8x64x128 : Shape := ⟨4, ![8, 8, 64, 128]⟩
abbrev T1x1x64x128 : Shape := ⟨4, ![1, 1, 64, 128]⟩
abbrev T64x1024 : Shape := ⟨2, ![64, 1024]⟩
abbrev T128x1024 : Shape := ⟨2, ![128, 1024]⟩
abbrev T16x1024 : Shape := ⟨2, ![16, 1024]⟩
abbrev T8x8x128 : Shape := ⟨3, ![8, 8, 128]⟩
abbrev T4x8x128 : Shape := ⟨3, ![4, 8, 128]⟩
abbrev T2x8x128 : Shape := ⟨3, ![2, 8, 128]⟩
abbrev T1x8x128 : Shape := ⟨3, ![1, 8, 128]⟩
abbrev T8x128 : Shape := ⟨2, ![8, 128]⟩

theorem cat2 : Shape.Concatenates [T64x1024, T64x1024] T128x1024 0 := by decide
theorem cat8 : Shape.Concatenates [T16x1024, T16x1024, T16x1024, T16x1024, T16x1024, T16x1024, T16x1024, T16x1024] T128x1024 0 := by decide
theorem pos1x64x128 : 0 < T1x64x128.numel := by decide
theorem pos1x1x64x128 : 0 < T1x1x64x128.numel := by decide
theorem pos8x128 : 0 < T8x128.numel := by decide

/-- The contraction of both Gram products: columns of the left operand against rows of the right. -/
def gramDims : DotDims T64x128 T128x1024 T64x1024 where
  lhsContracting := [1]
  rhsContracting := [0]
  lhsNonContracting := [0]
  rhsNonContracting := [1]
  lhsBatch := []
  rhsBatch := []
  wf := by decide

/-- The Gray-code walk through the 127 sign vectors after the all-plus one: which column's sign flips,
    and whether the column is added (its sign becomes plus) or subtracted. -/
def flips : List (Fin 7 × Bool) :=
  [(0, false), (1, false), (0, true), (2, false), (0, false), (1, true), (0, true), (3, false),
   (0, false), (1, false), (0, true), (2, true), (0, false), (1, true), (0, true), (4, false),
   (0, false), (1, false), (0, true), (2, false), (0, false), (1, true), (0, true), (3, true),
   (0, false), (1, false), (0, true), (2, true), (0, false), (1, true), (0, true), (5, false),
   (0, false), (1, false), (0, true), (2, false), (0, false), (1, true), (0, true), (3, false),
   (0, false), (1, false), (0, true), (2, true), (0, false), (1, true), (0, true), (4, true),
   (0, false), (1, false), (0, true), (2, false), (0, false), (1, true), (0, true), (3, true),
   (0, false), (1, false), (0, true), (2, true), (0, false), (1, true), (0, true), (6, false),
   (0, false), (1, false), (0, true), (2, false), (0, false), (1, true), (0, true), (3, false),
   (0, false), (1, false), (0, true), (2, true), (0, false), (1, true), (0, true), (4, false),
   (0, false), (1, false), (0, true), (2, false), (0, false), (1, true), (0, true), (3, true),
   (0, false), (1, false), (0, true), (2, true), (0, false), (1, true), (0, true), (5, true),
   (0, false), (1, false), (0, true), (2, false), (0, false), (1, true), (0, true), (3, false),
   (0, false), (1, false), (0, true), (2, true), (0, false), (1, true), (0, true), (4, true),
   (0, false), (1, false), (0, true), (2, false), (0, false), (1, true), (0, true), (3, true),
   (0, false), (1, false), (0, true), (2, true), (0, false), (1, true), (0, true)]

variable {F : FTy → Type} [FloatOps F]

/-! ## The product of eight complex numbers, by halving -/

abbrev m4r (qr qi : FVec F T8x8x128 .f32) : FVec F T4x8x128 .f32 :=
  subf (mulf (extractStridedSlice T4x8x128 ![0, 0, 0] qr (by decide)) (extractStridedSlice T4x8x128 ![4, 0, 0] qr (by decide)))
    (mulf (extractStridedSlice T4x8x128 ![0, 0, 0] qi (by decide)) (extractStridedSlice T4x8x128 ![4, 0, 0] qi (by decide)))

abbrev m4i (qr qi : FVec F T8x8x128 .f32) : FVec F T4x8x128 .f32 :=
  addf (mulf (extractStridedSlice T4x8x128 ![0, 0, 0] qr (by decide)) (extractStridedSlice T4x8x128 ![4, 0, 0] qi (by decide)))
    (mulf (extractStridedSlice T4x8x128 ![0, 0, 0] qi (by decide)) (extractStridedSlice T4x8x128 ![4, 0, 0] qr (by decide)))

abbrev m2r (r i : FVec F T4x8x128 .f32) : FVec F T2x8x128 .f32 :=
  subf (mulf (extractStridedSlice T2x8x128 ![0, 0, 0] r (by decide)) (extractStridedSlice T2x8x128 ![2, 0, 0] r (by decide)))
    (mulf (extractStridedSlice T2x8x128 ![0, 0, 0] i (by decide)) (extractStridedSlice T2x8x128 ![2, 0, 0] i (by decide)))

abbrev m2i (r i : FVec F T4x8x128 .f32) : FVec F T2x8x128 .f32 :=
  addf (mulf (extractStridedSlice T2x8x128 ![0, 0, 0] r (by decide)) (extractStridedSlice T2x8x128 ![2, 0, 0] i (by decide)))
    (mulf (extractStridedSlice T2x8x128 ![0, 0, 0] i (by decide)) (extractStridedSlice T2x8x128 ![2, 0, 0] r (by decide)))

/-- Plane `0` of a stack of two. -/
abbrev pl0 (r : FVec F T2x8x128 .f32) : FVec F T8x128 .f32 :=
  shapeCast T8x128 (extractStridedSlice T1x8x128 ![0, 0, 0] r (by decide)) (by decide)

/-- Plane `1` of a stack of two. -/
abbrev pl1 (r : FVec F T2x8x128 .f32) : FVec F T8x128 .f32 :=
  shapeCast T8x128 (extractStridedSlice T1x8x128 ![1, 0, 0] r (by decide)) (by decide)

abbrev m1r (r i : FVec F T2x8x128 .f32) : FVec F T8x128 .f32 :=
  subf (mulf (pl0 r) (pl1 r)) (mulf (pl0 i) (pl1 i))

abbrev m1i (r i : FVec F T2x8x128 .f32) : FVec F T8x128 .f32 :=
  addf (mulf (pl0 r) (pl1 i)) (mulf (pl0 i) (pl1 r))

/-- Real part of the product over the eight rows. -/
def prodR (qr qi : FVec F T8x8x128 .f32) : FVec F T8x128 .f32 :=
  m1r (m2r (m4r qr qi) (m4i qr qi)) (m2i (m4r qr qi) (m4i qr qi))

/-- Imaginary part of the product over the eight rows. -/
def prodI (qr qi : FVec F T8x8x128 .f32) : FVec F T8x128 .f32 :=
  m1i (m2r (m4r qr qi) (m4i qr qi)) (m2i (m4r qr qi) (m4i qr qi))

/-! ## Sign mask and Gram products -/

/-- The quotient of the column number by sixteen, as the floor division computes it. -/
abbrev colBlock : IVec T64x128 32 :=
  select
    (andi
      (cmpi .ne
        (subi (extui 32 (cmpi .sgt (iota .tc T64x128 32 [1] (by decide)) (broadcast T64x128 (0#32 : BitVec 32))) (by decide))
          (extui 32 (cmpi .slt (iota .tc T64x128 32 [1] (by decide)) (broadcast T64x128 (0#32 : BitVec 32))) (by decide)))
        (broadcast T64x128 (Scalar.subi (Scalar.extui (Scalar.cmpi .sgt (16#32 : BitVec 32) (0#32 : BitVec 32)) : BitVec 32)
          (Scalar.extui (Scalar.cmpi .slt (16#32 : BitVec 32) (0#32 : BitVec 32)) : BitVec 32))))
      (cmpi .ne (remsi (iota .tc T64x128 32 [1] (by decide)) (broadcast T64x128 (16#32 : BitVec 32)))
        (broadcast T64x128 (0#32 : BitVec 32))))
    (subi (divsi (iota .tc T64x128 32 [1] (by decide)) (broadcast T64x128 (16#32 : BitVec 32))) (broadcast T64x128 (1#32 : BitVec 32)))
    (divsi (iota .tc T64x128 32 [1] (by decide)) (broadcast T64x128 (16#32 : BitVec 32)))

/-- Two, guarded against a zero divisor. -/
abbrev two' : BitVec 32 := Scalar.select (Scalar.cmpi .eq (2#32 : BitVec 32) (0#32 : BitVec 32)) (1#32 : BitVec 32) (2#32 : BitVec 32)

abbrev colRem : IVec T64x128 32 := remsi colBlock (broadcast T64x128 two')

/-- The parity of the column block, as the floor remainder computes it. -/
abbrev colParity : IVec T64x128 32 :=
  select
    (andi
      (xori (cmpi .slt colRem (broadcast T64x128 (0#32 : BitVec 32)))
        (broadcastTo T64x128 (broadcast T64x128 (Scalar.cmpi .slt two' (0#32 : BitVec 32))) (by decide)))
      (cmpi .ne colRem (broadcast T64x128 (0#32 : BitVec 32))))
    (addi colRem (broadcast T64x128 two')) colRem

/-- The left operand with the columns of the odd blocks negated. -/
abbrev signed (a : FVec F T64x128 .bf16) : FVec F T64x128 .bf16 :=
  truncf .bf16
    (mulf (extf .f32 a (by decide))
      (select (cmpi .eq colParity (broadcast T64x128 (0#32 : BitVec 32)))
        (broadcast T64x128 (Scalar.ofBits .f32 0x3F800000#32)) (broadcast T64x128 (Scalar.ofBits .f32 0xBF800000#32)) : FVec F T64x128 .f32))
    (by decide)

/-- Column `j` of the Gram product: 64 rows of 128. -/
abbrev gcol (g : FVec F T64x1024 .f32) (o : Nat) (h : T64x1024.Slices ![0, o] T64x128) : FVec F T64x128 .f32 :=
  extractStridedSlice T64x128 ![0, o] g h

/-- The sum of the eight columns. -/
abbrev gsum (g : FVec F T64x1024 .f32) : FVec F T64x128 .f32 :=
  addf (addf (addf (addf (addf (addf (addf (gcol g 0 (by decide)) (gcol g 128 (by decide))) (gcol g 256 (by decide)))
    (gcol g 384 (by decide))) (gcol g 512 (by decide))) (gcol g 640 (by decide))) (gcol g 768 (by decide))) (gcol g 896 (by decide))

/-- Half the sum of the columns, its rows stacked by eights: the start of the walk. -/
abbrev qstart (g : FVec F T64x1024 .f32) : FVec F T8x8x128 .f32 :=
  shapeCast T8x8x128 (mulf (broadcast T64x128 (Scalar.ofBits .f32 0x3F000000#32)) (gsum g)) (by decide)

/-- A stored column, its rows stacked by eights. -/
abbrev rows8 (x : Vec F T1x1x64x128 .f32) : FVec F T8x8x128 .f32 :=
  shapeCast T8x8x128 (shapeCast T64x128 (x : FVec F T1x1x64x128 .f32) (by decide) : FVec F T64x128 .f32) (by decide)

/-- Four times the squared modulus, with one on the diagonal of the whole array. -/
abbrev kval (rowBase colBase : BitVec 32) (ar ai : FVec F T8x128 .f32) : FVec F T8x128 .f32 :=
  select
    (cmpi .eq (addi (broadcast T8x128 rowBase) (iota .tc T8x128 32 [0] (by decide)))
      (addi (broadcast T8x128 colBase) (iota .tc T8x128 32 [1] (by decide))))
    (broadcast T8x128 (Scalar.ofBits .f32 0x3F800000#32) : FVec F T8x128 .f32)
    (mulf (broadcast T8x128 (Scalar.ofBits .f32 0x40800000#32)) (addf (mulf ar ar) (mulf ai ai)))

/-! ## The program text -/

variable {sig : RefSig} {nD : Nat} {τ : Topo} {Λ : Labels} {α : Type}

/-- The walk: at each flip the two halves of a column are loaded, added to or subtracted from the running
    sums, and the product over the rows is subtracted from or added to the accumulators in turn. -/
def walk (arg6 arg7 : Memref sig .tc .vmem T8x8x64x128 .f32)
    (off : Fin 7 → Fin 4 → Nat) (inb : ∀ (r : Fin 7), ∀ a, off r a + T1x1x64x128.size a ≤ T8x8x64x128.size a)
    (k : FVec F T8x128 .f32 → FVec F T8x128 .f32 → Prog (TpuEff nD τ sig (Elt F) Λ .tc) α) :
    List (Fin 7 × Bool) → Bool → FVec F T8x8x128 .f32 → FVec F T8x8x128 .f32 → FVec F T8x128 .f32 → FVec F T8x128 .f32 →
      Prog (TpuEff nD τ sig (Elt F) Λ .tc) α
  | [], _, _, _, ar, ai => k ar ai
  | (c, plus) :: l, pos, qr, qi, ar, ai =>
    .op (.load arg6 (Rect.unit (s := T8x8x64x128) (off c) T1x1x64x128.size (inb c)).toLoadRect (View.loadsAt_vmem pos1x1x64x128)) fun x =>
    .op (.load arg7 (Rect.unit (s := T8x8x64x128) (off c) T1x1x64x128.size (inb c)).toLoadRect (View.loadsAt_vmem pos1x1x64x128)) fun y =>
    match plus, pos with
    | true, true => walk arg6 arg7 off inb k l false (addf qr (rows8 x)) (addf qi (rows8 y))
        (addf ar (prodR (addf qr (rows8 x)) (addf qi (rows8 y)))) (addf ai (prodI (addf qr (rows8 x)) (addf qi (rows8 y))))
    | true, false => walk arg6 arg7 off inb k l true (addf qr (rows8 x)) (addf qi (rows8 y))
        (subf ar (prodR (addf qr (rows8 x)) (addf qi (rows8 y)))) (subf ai (prodI (addf qr (rows8 x)) (addf qi (rows8 y))))
    | false, true => walk arg6 arg7 off inb k l false (subf qr (rows8 x)) (subf qi (rows8 y))
        (addf ar (prodR (subf qr (rows8 x)) (subf qi (rows8 y)))) (addf ai (prodI (subf qr (rows8 x)) (subf qi (rows8 y))))
    | false, false => walk arg6 arg7 off inb k l true (subf qr (rows8 x)) (subf qi (rows8 y))
        (subf ar (prodR (subf qr (rows8 x)) (subf qi (rows8 y)))) (subf ai (prodI (subf qr (rows8 x)) (subf qi (rows8 y))))

/-- Put a column of the Gram product (both halves) into the scratch arrays; each store follows a load of
    the place that nothing reads. -/
abbrev put (arg6 : Memref sig .tc .vmem T8x8x64x128 .f32) (s c : Nat)
    (hs : ∀ a, (![s, c, 0, 0] : Fin 4 → Nat) a + T1x1x64x128.size a ≤ T8x8x64x128.size a)
    (g : FVec F T64x128 .f32) (k : Prog (TpuEff nD τ sig (Elt F) Λ .tc) α) : Prog (TpuEff nD τ sig (Elt F) Λ .tc) α :=
  .op (.load arg6 (Rect.unit (s := T8x8x64x128) ![s, c, 0, 0] T1x1x64x128.size hs).toLoadRect (View.loadsAt_vmem pos1x1x64x128)) fun _ =>
  .op (.store arg6 (Rect.unit (s := T8x8x64x128) ![s, c, 0, 0] T1x1x64x128.size hs)
    (shapeCast T1x1x64x128 g (by decide)) Finset.univ (View.stores_vmem_bits_univ pos1x1x64x128 rfl) (.inl rfl)) fun _ => k

/-- The columns put so far and those to come: column `c` from offset `128 c`. -/
abbrev putBoth (arg6 arg7 : Memref sig .tc .vmem T8x8x64x128 .f32) (s c o : Nat)
    (hs : ∀ a, (![s, c, 0, 0] : Fin 4 → Nat) a + T1x1x64x128.size a ≤ T8x8x64x128.size a) (ho : T64x1024.Slices ![0, o] T64x128)
    (gr gi : FVec F T64x1024 .f32) (k : Prog (TpuEff nD τ sig (Elt F) Λ .tc) α) : Prog (TpuEff nD τ sig (Elt F) Λ .tc) α :=
  put arg6 s c hs (gcol gr o ho) <| put arg7 s c hs (gcol gi o ho) k

/-- One tile: eight rows of the result against 128 columns; `k` is the text that follows. -/
def tile (arg2 : Memref sig .tc .smem T1 .i32) (arg3 : Memref sig .tc .vmem T8x64x128 .bf16)
    (arg5 : Memref sig .tc .vmem T64x128 .f32) (arg6 arg7 : Memref sig .tc .vmem T8x8x64x128 .f32)
    (s o : Nat) (h3 : ∀ a, (![s, 0, 0] : Fin 3 → Nat) a + T1x64x128.size a ≤ T8x64x128.size a)
    (h6 : ∀ c : Fin 8, ∀ a, (![s, c.val, 0, 0] : Fin 4 → Nat) a + T1x1x64x128.size a ≤ T8x8x64x128.size a)
    (h5 : ∀ a, (![o, 0] : Fin 2 → Nat) a + T8x128.size a ≤ T64x128.size a)
    (off : BitVec 32 → BitVec 32 → Fin 4 → Nat) (P : BitVec 32 → Prop) (dec : ∀ v, Decidable (P v))
    (inb : ∀ v, P v → ∀ (r : Fin 7), ∀ a, off v (BitVec.ofNat 32 (1 + r.val)) a + T1x1x64x128.size a ≤ T8x8x64x128.size a)
    (rowBase colBase : BitVec 32)
    (v2 v11 : FVec F T128x1024 .bf16) (k : Prog (TpuEff nD τ sig (Elt F) Λ .tc) α) : Prog (TpuEff nD τ sig (Elt F) Λ .tc) α :=
  .op (.load arg3 (Rect.unit (s := T8x64x128) ![s, 0, 0] T1x64x128.size h3).toLoadRect (View.loadsAt_vmem pos1x64x128))
    fun (a3 : Vec F T1x64x128 .bf16) =>
  let a : FVec F T64x128 .bf16 := shapeCast T64x128 a3 (by decide)
  let gr : FVec F T64x1024 .f32 := matmul gramDims none a v2 (constant T64x1024 .f32 0x00000000#32)
  let gi : FVec F T64x1024 .f32 := matmul gramDims none (signed a) v11 (constant T64x1024 .f32 0x00000000#32)
  .op (.load arg2 (Rect.unit (s := T1) ![0] T1.size (by decide)).toLoadRect
      (View.loadsAt_rect (View.loads_smem_one (by rfl) (by decide)))) fun z =>
  let v : BitVec 32 := (z : T1.Idx → Elt F .i32) (Shape.Idx.first (by decide))
  .op (.assume (P v) (dec v)) fun hv =>
  putBoth arg6 arg7 s 1 128 (h6 1) (by decide) gr gi <| putBoth arg6 arg7 s 2 256 (h6 2) (by decide) gr gi <|
  putBoth arg6 arg7 s 3 384 (h6 3) (by decide) gr gi <| putBoth arg6 arg7 s 4 512 (h6 4) (by decide) gr gi <|
  putBoth arg6 arg7 s 5 640 (h6 5) (by decide) gr gi <| putBoth arg6 arg7 s 6 768 (h6 6) (by decide) gr gi <|
  putBoth arg6 arg7 s 7 896 (h6 7) (by decide) gr gi <|
  walk arg6 arg7 (fun r => off v (BitVec.ofNat 32 (1 + r.val))) (inb v hv.down)
    (fun ar ai =>
      .op (.load arg5 (Rect.unit (s := T64x128) ![o, 0] T8x128.size h5).toLoadRect (View.loadsAt_vmem pos8x128)) fun _ =>
      .op (.store arg5 (Rect.unit (s := T64x128) ![o, 0] T8x128.size h5) (kval rowBase colBase ar ai) Finset.univ
        (View.stores_vmem_bits_univ pos8x128 rfl) (.inl rfl)) fun _ => k)
    flips false (qstart gr) (qstart gi) (prodR (qstart gr) (qstart gi)) (prodI (qstart gr) (qstart gi))

/-- A guarded piece of text before `k`. -/
abbrev guarded (c : BitVec 1)
    (A : c = 1#1 → Prog (TpuEff nD τ sig (Elt F) Λ .tc) α → Prog (TpuEff nD τ sig (Elt F) Λ .tc) α)
    (k : Prog (TpuEff nD τ sig (Elt F) Λ .tc) α) : Prog (TpuEff nD τ sig (Elt F) Λ .tc) α :=
  if h : c = 1#1 then A h k else k

/-- The right operand of the real Gram product: the 64 rows of `b` twice. -/
abbrev stackB (b : Vec F T1x64x1024 .bf16) : FVec F T128x1024 .bf16 :=
  concatenate T128x1024 0 [⟨T64x1024, shapeCast T64x1024 (b : FVec F T1x64x1024 .bf16) (by decide)⟩,
    ⟨T64x1024, shapeCast T64x1024 (b : FVec F T1x64x1024 .bf16) (by decide)⟩] cat2

/-- The right operand of the imaginary Gram product: the same rows with neighbouring blocks of sixteen exchanged. -/
abbrev swapB (v : FVec F T128x1024 .bf16) : FVec F T128x1024 .bf16 :=
  concatenate T128x1024 0
    [⟨T16x1024, extractStridedSlice T16x1024 ![16, 0] v (by decide)⟩, ⟨T16x1024, extractStridedSlice T16x1024 ![0, 0] v (by decide)⟩,
     ⟨T16x1024, extractStridedSlice T16x1024 ![48, 0] v (by decide)⟩, ⟨T16x1024, extractStridedSlice T16x1024 ![32, 0] v (by decide)⟩,
     ⟨T16x1024, extractStridedSlice T16x1024 ![80, 0] v (by decide)⟩, ⟨T16x1024, extractStridedSlice T16x1024 ![64, 0] v (by decide)⟩,
     ⟨T16x1024, extractStridedSlice T16x1024 ![112, 0] v (by decide)⟩, ⟨T16x1024, extractStridedSlice T16x1024 ![96, 0] v (by decide)⟩]
    cat8

theorem pos1x64x1024 : 0 < T1x64x1024.numel := by decide

/-- The row base of tile `s` of the point with second coordinate `b`. -/
abbrev rowBase (b s : BitVec 32) : BitVec 32 := Scalar.muli (Scalar.addi (Scalar.muli b 8#32) s) 8#32

end Cert.Perm

end
-- ==== Proof.PermRun.lean ====
/- What one tile of the second body computes: run from owned blocks, it leaves eight rows of the result
   and the Gram columns in its part of the scratch arrays. -/
module

public import proofs.«01_k».proof.Proof.Tile
public import proofs.«01_k».proof.Proof.Own
public import Idealize.ShloMosaic.Lib.ValueIdxCore

@[expose] public section

noncomputable section

namespace Cert.Perm

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

theorem colSlice : ∀ c : Fin 8, T64x1024.Slices ![0, 128 * c.val] T64x128 := by decide

/-- Column `c` of a Gram product as it lies in the scratch array. -/
def stored (g : FVec F T64x1024 .f32) (c : Fin 8) : Vec F T1x1x64x128 .f32 :=
  shapeCast T1x1x64x128 (gcol g (128 * c.val) (colSlice c)) (by decide)

/-- The scratch array with every column put. -/
def cols (g : FVec F T64x1024 .f32) : Vec F T8x8x64x128 .f32 := fun y =>
  stored g (y 1) (ix4 (0 : Fin 1) (0 : Fin 1) (y 2) (y 3))

/-- The walk over the values. -/
def walkV (gr gi : FVec F T64x1024 .f32) :
    List (Fin 7 × Bool) → Bool → FVec F T8x8x128 .f32 → FVec F T8x8x128 .f32 → FVec F T8x128 .f32 → FVec F T8x128 .f32 →
      FVec F T8x128 .f32 × FVec F T8x128 .f32
  | [], _, _, _, ar, ai => (ar, ai)
  | (c, plus) :: l, pos, qr, qi, ar, ai =>
    match plus, pos with
    | true, true => walkV gr gi l false (addf qr (rows8 (stored gr c.succ))) (addf qi (rows8 (stored gi c.succ)))
        (addf ar (prodR (addf qr (rows8 (stored gr c.succ))) (addf qi (rows8 (stored gi c.succ)))))
        (addf ai (prodI (addf qr (rows8 (stored gr c.succ))) (addf qi (rows8 (stored gi c.succ)))))
    | true, false => walkV gr gi l true (addf qr (rows8 (stored gr c.succ))) (addf qi (rows8 (stored gi c.succ)))
        (subf ar (prodR (addf qr (rows8 (stored gr c.succ))) (addf qi (rows8 (stored gi c.succ)))))
        (subf ai (prodI (addf qr (rows8 (stored gr c.succ))) (addf qi (rows8 (stored gi c.succ)))))
    | false, true => walkV gr gi l false (subf qr (rows8 (stored gr c.succ))) (subf qi (rows8 (stored gi c.succ)))
        (addf ar (prodR (subf qr (rows8 (stored gr c.succ))) (subf qi (rows8 (stored gi c.succ)))))
        (addf ai (prodI (subf qr (rows8 (stored gr c.succ))) (subf qi (rows8 (stored gi c.succ)))))
    | false, false => walkV gr gi l true (subf qr (rows8 (stored gr c.succ))) (subf qi (rows8 (stored gi c.succ)))
        (subf ar (prodR (subf qr (rows8 (stored gr c.succ))) (subf qi (rows8 (stored gi c.succ)))))
        (subf ai (prodI (subf qr (rows8 (stored gr c.succ))) (subf qi (rows8 (stored gi c.succ)))))

/-- The accumulators after the walk. -/
def accV (gr gi : FVec F T64x1024 .f32) : FVec F T8x128 .f32 × FVec F T8x128 .f32 :=
  walkV gr gi flips false (qstart gr) (qstart gi) (prodR (qstart gr) (qstart gi)) (prodI (qstart gr) (qstart gi))

theorem slabIn (s : Fin 8) : ∀ a, (![s.val, 0, 0] : Fin 3 → Nat) a + T1x64x128.size a ≤ T8x64x128.size a := by
  revert s; decide

/-- Slab `s` of the left block. -/
def slab (va : Vec F T8x64x128 .bf16) (s : Fin 8) : FVec F T64x128 .bf16 :=
  shapeCast T64x128 (fun x => va ((Rect.unit (s := T8x64x128) ![s.val, 0, 0] T1x64x128.size (slabIn s)).emb x) : Vec F T1x64x128 .bf16) (by decide)

def gramR (a : FVec F T64x128 .bf16) (v : FVec F T128x1024 .bf16) : FVec F T64x1024 .f32 :=
  matmul gramDims none a v (constant T64x1024 .f32 0x00000000#32)

def gramI (a : FVec F T64x128 .bf16) (v : FVec F T128x1024 .bf16) : FVec F T64x1024 .f32 :=
  matmul gramDims none (signed a) v (constant T64x1024 .f32 0x00000000#32)

/-- The eight rows of tile `s`. -/
def tileV (va : Vec F T8x64x128 .bf16) (v2 v11 : FVec F T128x1024 .bf16) (rb cb : BitVec 32) (s : Fin 8) : FVec F T8x128 .f32 :=
  kval rb cb (accV (gramR (slab va s) v2) (gramI (slab va s) v11)).1 (accV (gramR (slab va s) v2) (gramI (slab va s) v11)).2

/-! ## Places -/

theorem emb_col (s c : Nat) (hs : s < 8) (hc : c < 8) {inb} (x : T1x1x64x128.Idx) :
    (Rect.unit (s := T8x8x64x128) ![s, c, 0, 0] T1x1x64x128.size inb).emb x = ix4 (⟨s, hs⟩ : Fin 8) (⟨c, hc⟩ : Fin 8) (x 2) (x 3) := by
  funext a
  apply Fin.ext
  have h0 : (x 0).val = 0 := by have := (x 0).isLt; simpa using this
  have h1 : (x 1).val = 0 := by have := (x 1).isLt; simpa using this
  fin_cases a
  · show s + 1 * (x 0).val = s
    omega
  · show c + 1 * (x 1).val = c
    omega
  · show 0 + 1 * (x 2).val = (x 2).val
    omega
  · show 0 + 1 * (x 3).val = (x 3).val
    omega

theorem not_col (s c : Nat) {inb} (y : T8x8x64x128.Idx)
    (h : y ∉ (Rect.unit (s := T8x8x64x128) ![s, c, 0, 0] T1x1x64x128.size inb).set) : ¬((y 0).val = s ∧ (y 1).val = c) := by
  rintro ⟨h0, h1⟩
  refine h (Rect.mem_set_unit.mpr fun a => ?_)
  fin_cases a
  · exact ⟨le_of_eq h0.symm, by show (y 0).val < s + 1; omega⟩
  · exact ⟨le_of_eq h1.symm, by show (y 1).val < c + 1; omega⟩
  · exact ⟨Nat.zero_le _, by show (y 2).val < 0 + 64; have : (y 2).val < 64 := (y 2).isLt; omega⟩
  · exact ⟨Nat.zero_le _, by show (y 3).val < 0 + 128; have : (y 3).val < 128 := (y 3).isLt; omega⟩

theorem col_ext (x : T1x1x64x128.Idx) : (ix4 (0 : Fin 1) (0 : Fin 1) (x 2) (x 3) : T1x1x64x128.Idx) = x := by
  funext a
  fin_cases a
  · exact Subsingleton.elim (α := Fin 1) _ _
  · exact Subsingleton.elim (α := Fin 1) _ _
  · rfl
  · rfl

theorem cols_emb (g : FVec F T64x1024 .f32) (s c : Nat) (hs : s < 8) (hc : c < 8) {inb} (x : T1x1x64x128.Idx) :
    cols g ((Rect.unit (s := T8x8x64x128) ![s, c, 0, 0] T1x1x64x128.size inb).emb x) = stored g ⟨c, hc⟩ x := by
  rw [emb_col s c hs hc x]
  exact congrArg (stored g ⟨c, hc⟩) (col_ext x)

/-- A put column, read back. -/
theorem col_read (X : Vec F T8x8x64x128 .f32) (g : FVec F T64x1024 .f32) (s : Nat) (hs : s < 8)
    (h : ∀ y, (y 0).val = s → 1 ≤ (y 1).val → (y 1).val < 8 → X y = cols g y) (r : Fin 7) (o : Fin 4 → Nat)
    (ho : o = ![s, r.val + 1, 0, 0]) (inb : ∀ a, o a + T1x1x64x128.size a ≤ T8x8x64x128.size a) (x : T1x1x64x128.Idx) :
    X ((Rect.unit (s := T8x8x64x128) o T1x1x64x128.size inb).emb x) = stored g r.succ x := by
  subst ho
  rw [h _ (by rw [emb_col s _ hs (by omega) x]) (by rw [emb_col s _ hs (by omega) x]; show 1 ≤ r.val + 1; omega)
    (by rw [emb_col s _ hs (by omega) x]; show r.val + 1 < 8; omega)]
  exact cols_emb g s _ hs (by omega) x

/-! ## The run -/

variable {nD : Nat} {τ : Topo} {sig : RefSig}
variable {Ix : Type} [DecidableEq Ix] {Name : Type} [DecidableEq Name] {U : Type} [URA U] {Lvl : Type} [Preorder Lvl]
variable {Λ : Labels} {defs : Defs nD τ sig (Elt F) Λ} (𝒱 : Variants) (c : Dev nD) (bd : Option 𝒱.V) (E : Set Name)
variable {α : Type} {Q : α → sProp (MT nD τ sig Ix (Elt F) Name U Lvl)}

/-- The scratch array with the columns `1 … n - 1` of slab `s` put. -/
def Put (c : Dev nD) (a : Memref sig .tc .vmem T8x8x64x128 .f32) (s n : Nat) (g : FVec F T64x1024 .f32) :
    sProp (MT nD τ sig Ix (Elt F) Name U Lvl) :=
  iprop(∃ X, ⌜∀ y, (y 0).val = s → 1 ≤ (y 1).val → (y 1).val < n → X y = cols g y⌝ ∗ ownsTc c a fullShare X)

theorem run_put (a : Memref sig .tc .vmem T8x8x64x128 .f32) (s n o : Nat) (hs8 : s < 8) (hn : n < 8) (ho : o = 128 * n)
    (hs : ∀ a, (![s, n, 0, 0] : Fin 4 → Nat) a + T1x1x64x128.size a ≤ T8x8x64x128.size a)
    (g : FVec F T64x1024 .f32) (hsl : T64x1024.Slices ![0, o] T64x128) (k : Prog (TpuEff nD τ sig (Elt F) Λ .tc) α) :
    (Put c a s n g : sProp (MT nD τ sig Ix (Elt F) Name U Lvl))
      ⊢ iprop((Put c a s (n + 1) g -∗ wp frame (wpE defs 𝒱 (c.tc : Thread nD τ) bd) E k Q)
        -∗ wp frame (wpE defs 𝒱 (c.tc : Thread nD τ) bd) E (put a s n hs (gcol g o hsl) k) Q) := by
  subst ho
  unfold Put
  iintro ⟨%X, %hX, H⟩ Hk
  iapply (Own.load 𝒱 (c.tc : Thread nD τ) bd E) $$ H
  iintro H
  iapply (Own.store 𝒱 (c.tc : Thread nD τ) bd E (fun y => if (y 0).val = s ∧ (y 1).val = n then cols g y else X y)
    (fun x => by
      refine (if_pos ?_).trans (cols_emb g s n hs8 hn x)
      rw [emb_col s n hs8 hn x]
      exact ⟨rfl, rfl⟩)
    (fun y h => if_neg (not_col s n y h))) $$ H
  iintro H
  iapply Hk
  iexists _
  isplitr
  swap
  · iexact H
  ipureintro
  intro y h0 h1 h2
  by_cases h : (y 1).val = n
  · exact if_pos ⟨h0, h⟩
  · exact (if_neg fun h' => h h'.2).trans (hX y h0 h1 (by omega))

/-- The walk only reads. -/
theorem run_walk (a6 a7 : Memref sig .tc .vmem T8x8x64x128 .f32) (s : Nat) (hs : s < 8) (gr gi : FVec F T64x1024 .f32)
    (X6 X7 : Vec F T8x8x64x128 .f32)
    (h6 : ∀ y, (y 0).val = s → 1 ≤ (y 1).val → (y 1).val < 8 → X6 y = cols gr y)
    (h7 : ∀ y, (y 0).val = s → 1 ≤ (y 1).val → (y 1).val < 8 → X7 y = cols gi y)
    (off : Fin 7 → Fin 4 → Nat) (inb : ∀ (r : Fin 7), ∀ a, off r a + T1x1x64x128.size a ≤ T8x8x64x128.size a)
    (hoff : ∀ r : Fin 7, off r = ![s, r.val + 1, 0, 0])
    (k : FVec F T8x128 .f32 → FVec F T8x128 .f32 → Prog (TpuEff nD τ sig (Elt F) Λ .tc) α) :
    ∀ (l : List (Fin 7 × Bool)) (pos : Bool) (qr qi : FVec F T8x8x128 .f32) (ar ai : FVec F T8x128 .f32),
    iprop(ownsTc c a6 fullShare X6 ∗ ownsTc c a7 fullShare X7) ⊢
      iprop((iprop(ownsTc c a6 fullShare X6 ∗ ownsTc c a7 fullShare X7) -∗
          wp frame (wpE defs 𝒱 (c.tc : Thread nD τ) bd) E
            (k (walkV gr gi l pos qr qi ar ai).1 (walkV gr gi l pos qr qi ar ai).2) Q)
        -∗ wp frame (wpE defs 𝒱 (c.tc : Thread nD τ) bd) E (walk a6 a7 off inb k l pos qr qi ar ai) Q)
  | [], pos, qr, qi, ar, ai => by
    rw [walk, walkV]
    iintro H Hk
    iapply Hk $$ H
  | (r, plus) :: l, pos, qr, qi, ar, ai => by
    have e6 := col_read X6 gr s hs h6 r (off r) (hoff r) (inb r)
    have e7 := col_read X7 gi s hs h7 r (off r) (hoff r) (inb r)
    cases plus <;> cases pos
    all_goals
      rw [walk, walkV]
      iintro ⟨H6, H7⟩ Hk
      iapply (Own.loadAs 𝒱 (c.tc : Thread nD τ) bd E (stored gr r.succ) e6) $$ H6
      iintro H6
      iapply (Own.loadAs 𝒱 (c.tc : Thread nD τ) bd E (stored gi r.succ) e7) $$ H7
      iintro H7
      iapply (run_walk a6 a7 s hs gr gi X6 X7 h6 h7 off inb hoff k l _ _ _ _ _) $$ [H6 H7]
      · isplitl [H6] <;> iassumption
      iexact Hk

theorem emb_first {inb} (z : Vec F T1 .i32) (hz : ∀ y, z y = (0#32 : BitVec 32)) :
    ∀ x, z ((Rect.unit (s := T1) ![0] T1.size inb).emb x) = (fun _ => (0#32 : BitVec 32) : Vec F T1 .i32) x := fun x => hz _

theorem emb_rows (o : Nat) (ho : o + 8 ≤ 64) {inb} (x : T8x128.Idx) :
    (Rect.unit (s := T64x128) ![o, 0] T8x128.size inb).emb x =
      ix2 (⟨o + (x 0).val, by have : (x 0).val < 8 := (x 0).isLt; omega⟩ : Fin 64) (x 1) := by
  funext a
  apply Fin.ext
  fin_cases a
  · show o + 1 * (x 0).val = o + (x 0).val
    omega
  · show 0 + 1 * (x 1).val = (x 1).val
    omega

theorem not_rows (o : Nat) {inb} (y : T64x128.Idx)
    (h : y ∉ (Rect.unit (s := T64x128) ![o, 0] T8x128.size inb).set) : ¬(o ≤ (y 0).val ∧ (y 0).val < o + 8) := by
  intro h0
  refine h (Rect.mem_set_unit.mpr fun a => ?_)
  fin_cases a
  · exact h0
  · exact ⟨Nat.zero_le _, by show (y 1).val < 0 + 128; have : (y 1).val < 128 := (y 1).isLt; omega⟩

theorem emb_all {inb} (x : T1x64x1024.Idx) : (Rect.unit (s := T1x64x1024) ![0, 0, 0] T1x64x1024.size inb).emb x = x := by
  funext a
  apply Fin.ext
  fin_cases a
  · show 0 + 1 * (x 0).val = (x 0).val
    omega
  · show 0 + 1 * (x 1).val = (x 1).val
    omega
  · show 0 + 1 * (x 2).val = (x 2).val
    omega

/-- The result block with its first `n` rows as `out` says. -/
def Done (c : Dev nD) (a : Memref sig .tc .vmem T64x128 .f32) (n : Nat) (out : Vec F T64x128 .f32) :
    sProp (MT nD τ sig Ix (Elt F) Name U Lvl) :=
  iprop(∃ X, ⌜∀ y, (y 0).val < n → X y = out y⌝ ∗ ownsTc c a fullShare X)

/-- What a tile reads and writes, with `n` rows of the result done. -/
def Held (c : Dev nD) (a2 : Memref sig .tc .smem T1 .i32) (a3 : Memref sig .tc .vmem T8x64x128 .bf16)
    (a5 : Memref sig .tc .vmem T64x128 .f32) (a6 a7 : Memref sig .tc .vmem T8x8x64x128 .f32)
    (z : Vec F T1 .i32) (va : Vec F T8x64x128 .bf16) (out : Vec F T64x128 .f32) (n : Nat) :
    sProp (MT nD τ sig Ix (Elt F) Name U Lvl) :=
  iprop(ownsTc c a2 fullShare z ∗ ownsTc c a3 fullShare va ∗ Done c a5 n out
    ∗ iprop(∃ X, ownsTc c a6 fullShare X) ∗ iprop(∃ X, ownsTc c a7 fullShare X))

theorem run_tile (a2 : Memref sig .tc .smem T1 .i32) (a3 : Memref sig .tc .vmem T8x64x128 .bf16)
    (a5 : Memref sig .tc .vmem T64x128 .f32) (a6 a7 : Memref sig .tc .vmem T8x8x64x128 .f32)
    (s o : Nat) (hs : s < 8) (ho : o = 8 * s) (h3 : ∀ a, (![s, 0, 0] : Fin 3 → Nat) a + T1x64x128.size a ≤ T8x64x128.size a)
    (h6 : ∀ c : Fin 8, ∀ a, (![s, c.val, 0, 0] : Fin 4 → Nat) a + T1x1x64x128.size a ≤ T8x8x64x128.size a)
    (h5 : ∀ a, (![o, 0] : Fin 2 → Nat) a + T8x128.size a ≤ T64x128.size a)
    (off : BitVec 32 → BitVec 32 → Fin 4 → Nat) (P : BitVec 32 → Prop) (dec : ∀ v, Decidable (P v))
    (inb : ∀ v, P v → ∀ (r : Fin 7), ∀ a, off v (BitVec.ofNat 32 (1 + r.val)) a + T1x1x64x128.size a ≤ T8x8x64x128.size a)
    (rowBase colBase : BitVec 32) (v2 v11 : FVec F T128x1024 .bf16)
    (z : Vec F T1 .i32) (hz : ∀ y, z y = (0#32 : BitVec 32)) (va : Vec F T8x64x128 .bf16) (out : Vec F T64x128 .f32)
    (hP : P 0#32) (hoff : ∀ r : Fin 7, off 0#32 (BitVec.ofNat 32 (1 + r.val)) = ![s, r.val + 1, 0, 0])
    (hout : ∀ y : T64x128.Idx, ∀ h : o ≤ (y 0).val ∧ (y 0).val < o + 8,
      out y = tileV va v2 v11 rowBase colBase ⟨s, hs⟩ (ix2 (⟨(y 0).val - o, by omega⟩ : Fin 8) (y 1)))
    (k : Prog (TpuEff nD τ sig (Elt F) Λ .tc) α) :
    (Held c a2 a3 a5 a6 a7 z va out o : sProp (MT nD τ sig Ix (Elt F) Name U Lvl))
      ⊢ iprop((Held c a2 a3 a5 a6 a7 z va out (o + 8) -∗ wp frame (wpE defs 𝒱 (c.tc : Thread nD τ) bd) E k Q)
        -∗ wp frame (wpE defs 𝒱 (c.tc : Thread nD τ) bd) E
          (tile a2 a3 a5 a6 a7 s o h3 h6 h5 off P dec inb rowBase colBase v2 v11 k) Q) := by
  rw [tile]
  unfold Held
  iintro ⟨H2, H3, H5, ⟨%X6, H6⟩, ⟨%X7, H7⟩⟩ Hk
  iapply (Own.loadAs 𝒱 (c.tc : Thread nD τ) bd E
    (fun x => va ((Rect.unit (s := T8x64x128) ![s, 0, 0] T1x64x128.size h3).emb x)) (fun x => rfl)) $$ H3
  iintro H3
  iapply (Own.loadAs 𝒱 (c.tc : Thread nD τ) bd E (fun _ => (0#32 : BitVec 32)) (emb_first z hz)) $$ H2
  iintro H2
  iapply (wp_assume 𝒱 (c.tc : Thread nD τ) bd E (Γ := PendingWaitsCtx.empty) hP)
  ihave H6 : Put c a6 s 1 (gramR (slab va ⟨s, hs⟩) v2) $$ [H6]
  · unfold Put
    iexists X6
    isplitr
    swap
    · iexact H6
    ipureintro
    intro y _ h1 h2
    omega
  ihave H7 : Put c a7 s 1 (gramI (slab va ⟨s, hs⟩) v11) $$ [H7]
  · unfold Put
    iexists X7
    isplitr
    swap
    · iexact H7
    ipureintro
    intro y _ h1 h2
    omega
  iapply (run_put 𝒱 c bd E a6 s 1 128 hs (by omega) rfl (h6 1) (gramR (slab va ⟨s, hs⟩) v2) (by decide) _) $$ H6
  iintro H6
  iapply (run_put 𝒱 c bd E a7 s 1 128 hs (by omega) rfl (h6 1) (gramI (slab va ⟨s, hs⟩) v11) (by decide) _) $$ H7
  iintro H7
  iapply (run_put 𝒱 c bd E a6 s 2 256 hs (by omega) rfl (h6 2) (gramR (slab va ⟨s, hs⟩) v2) (by decide) _) $$ H6
  iintro H6
  iapply (run_put 𝒱 c bd E a7 s 2 256 hs (by omega) rfl (h6 2) (gramI (slab va ⟨s, hs⟩) v11) (by decide) _) $$ H7
  iintro H7
  iapply (run_put 𝒱 c bd E a6 s 3 384 hs (by omega) rfl (h6 3) (gramR (slab va ⟨s, hs⟩) v2) (by decide) _) $$ H6
  iintro H6
  iapply (run_put 𝒱 c bd E a7 s 3 384 hs (by omega) rfl (h6 3) (gramI (slab va ⟨s, hs⟩) v11) (by decide) _) $$ H7
  iintro H7
  iapply (run_put 𝒱 c bd E a6 s 4 512 hs (by omega) rfl (h6 4) (gramR (slab va ⟨s, hs⟩) v2) (by decide) _) $$ H6
  iintro H6
  iapply (run_put 𝒱 c bd E a7 s 4 512 hs (by omega) rfl (h6 4) (gramI (slab va ⟨s, hs⟩) v11) (by decide) _) $$ H7
  iintro H7
  iapply (run_put 𝒱 c bd E a6 s 5 640 hs (by omega) rfl (h6 5) (gramR (slab va ⟨s, hs⟩) v2) (by decide) _) $$ H6
  iintro H6
  iapply (run_put 𝒱 c bd E a7 s 5 640 hs (by omega) rfl (h6 5) (gramI (slab va ⟨s, hs⟩) v11) (by decide) _) $$ H7
  iintro H7
  iapply (run_put 𝒱 c bd E a6 s 6 768 hs (by omega) rfl (h6 6) (gramR (slab va ⟨s, hs⟩) v2) (by decide) _) $$ H6
  iintro H6
  iapply (run_put 𝒱 c bd E a7 s 6 768 hs (by omega) rfl (h6 6) (gramI (slab va ⟨s, hs⟩) v11) (by decide) _) $$ H7
  iintro H7
  iapply (run_put 𝒱 c bd E a6 s 7 896 hs (by omega) rfl (h6 7) (gramR (slab va ⟨s, hs⟩) v2) (by decide) _) $$ H6
  iintro H6
  iapply (run_put 𝒱 c bd E a7 s 7 896 hs (by omega) rfl (h6 7) (gramI (slab va ⟨s, hs⟩) v11) (by decide) _) $$ H7
  unfold Put
  icases H6 with ⟨%Y6, %hY6, H6⟩
  iintro ⟨%Y7, %hY7, H7⟩
  iapply (run_walk 𝒱 c bd E a6 a7 s hs (gramR (slab va ⟨s, hs⟩) v2) (gramI (slab va ⟨s, hs⟩) v11) Y6 Y7 hY6 hY7
    (fun r => off 0#32 (BitVec.ofNat 32 (1 + r.val))) _ hoff _ _ _ _ _ _ _) $$ [H6 H7]
  · isplitl [H6] <;> iassumption
  iintro ⟨H6, H7⟩
  unfold Done
  icases H5 with ⟨%X5, %hX5, H5⟩
  iapply (Own.load 𝒱 (c.tc : Thread nD τ) bd E) $$ H5
  iintro H5
  iapply (Own.store 𝒱 (c.tc : Thread nD τ) bd E
    (fun y => if o ≤ (y 0).val ∧ (y 0).val < o + 8 then out y else X5 y)
    (fun x => by
      rw [emb_rows o (by omega) x]
      have hx : (x 0).val < 8 := (x 0).isLt
      have h0 : o ≤ o + (x 0).val ∧ o + (x 0).val < o + 8 := by omega
      refine (if_pos h0).trans ((hout _ h0).trans ?_)
      refine congrArg (tileV va v2 v11 rowBase colBase ⟨s, hs⟩) ?_
      funext a
      fin_cases a
      · exact Fin.ext (Nat.add_sub_cancel_left _ _)
      · rfl)
    (fun y h => if_neg (not_rows o y h))) $$ H5
  iintro H5
  iapply Hk
  isplitl [H2]; · iexact H2
  isplitl [H3]; · iexact H3
  isplitl [H5]
  · iexists _
    isplitr
    swap
    · iexact H5
    ipureintro
    intro y hy
    by_cases h : o ≤ (y 0).val ∧ (y 0).val < o + 8
    · exact if_pos h
    · exact (if_neg h).trans (hX5 y (by omega))
  isplitl [H6]
  · iexists Y6; iexact H6
  · iexists Y7; iexact H7

/-! ## A block -/

/-- The block of the result at column block `b0` and superrow `b1`. -/
def blockV (va : Vec F T8x64x128 .bf16) (vb : Vec F T1x64x1024 .bf16) (b0 b1 : BitVec 32) : Vec F T64x128 .f32 := fun y =>
  tileV va (stackB vb) (swapB (stackB vb)) (rowBase b1 (BitVec.ofNat 32 ((y 0).val / 8))) (Scalar.muli b0 128#32)
    ⟨(y 0).val / 8, by have : (y 0).val < 64 := (y 0).isLt; omega⟩ (ix2 (⟨(y 0).val % 8, by omega⟩ : Fin 8) (y 1))

theorem blockV_tile (va : Vec F T8x64x128 .bf16) (vb : Vec F T1x64x1024 .bf16) (b0 b1 : BitVec 32) (s o : Nat) (hs : s < 8) (ho : o = 8 * s)
    (y : T64x128.Idx) (h : o ≤ (y 0).val ∧ (y 0).val < o + 8) :
    blockV va vb b0 b1 y = tileV va (stackB vb) (swapB (stackB vb)) (rowBase b1 (BitVec.ofNat 32 s)) (Scalar.muli b0 128#32)
      ⟨s, hs⟩ (ix2 (⟨(y 0).val - o, by omega⟩ : Fin 8) (y 1)) := by
  have h1 : (y 0).val / 8 = s := by omega
  have h2 : (y 0).val % 8 = (y 0).val - o := by omega
  have e1 : (⟨(y 0).val / 8, by have : (y 0).val < 64 := (y 0).isLt; omega⟩ : Fin 8) = ⟨s, hs⟩ := Fin.ext h1
  have e2 : (⟨(y 0).val % 8, by omega⟩ : Fin 8) = ⟨(y 0).val - o, by omega⟩ := Fin.ext h2
  unfold blockV
  rw [e1, e2, h1]

/-- How many rows are done after `s` tiles of a point. -/
def rowsDone (on : Bool) (s : Nat) : Nat := if on then 8 * s else 0

/-- A guarded tile: run or skipped. -/
theorem run_guarded (a2 : Memref sig .tc .smem T1 .i32) (a3 : Memref sig .tc .vmem T8x64x128 .bf16)
    (a5 : Memref sig .tc .vmem T64x128 .f32) (a6 a7 : Memref sig .tc .vmem T8x8x64x128 .f32)
    (z : Vec F T1 .i32) (hz : ∀ y, z y = (0#32 : BitVec 32)) (va : Vec F T8x64x128 .bf16) (vb : Vec F T1x64x1024 .bf16) (b0 b1 : BitVec 32)
    (on : Bool) (cnd : BitVec 1) (hc : cnd = if on then 1#1 else 0#1)
    (s s' o : Nat) (hs : s < 8) (hs' : s' = s + 1) (ho : o = 8 * s) (h3 : ∀ a, (![s, 0, 0] : Fin 3 → Nat) a + T1x64x128.size a ≤ T8x64x128.size a)
    (h6 : ∀ c : Fin 8, ∀ a, (![s, c.val, 0, 0] : Fin 4 → Nat) a + T1x1x64x128.size a ≤ T8x8x64x128.size a)
    (h5 : ∀ a, (![o, 0] : Fin 2 → Nat) a + T8x128.size a ≤ T64x128.size a)
    (off : BitVec 32 → BitVec 32 → Fin 4 → Nat) (P : BitVec 32 → Prop) (dec : ∀ v, Decidable (P v))
    (inb : cnd = 1#1 → ∀ v, P v → ∀ (r : Fin 7), ∀ a, off v (BitVec.ofNat 32 (1 + r.val)) a + T1x1x64x128.size a ≤ T8x8x64x128.size a)
    (rb cb : BitVec 32) (hrb : rb = rowBase b1 (BitVec.ofNat 32 s)) (hcb : cb = Scalar.muli b0 128#32)
    (hP : P 0#32) (hoff : ∀ r : Fin 7, off 0#32 (BitVec.ofNat 32 (1 + r.val)) = ![s, r.val + 1, 0, 0])
    (k : Prog (TpuEff nD τ sig (Elt F) Λ .tc) α) :
    (Held c a2 a3 a5 a6 a7 z va (blockV va vb b0 b1) (rowsDone on s) : sProp (MT nD τ sig Ix (Elt F) Name U Lvl))
      ⊢ iprop((Held c a2 a3 a5 a6 a7 z va (blockV va vb b0 b1) (rowsDone on s') -∗ wp frame (wpE defs 𝒱 (c.tc : Thread nD τ) bd) E k Q)
        -∗ wp frame (wpE defs 𝒱 (c.tc : Thread nD τ) bd) E
          (guarded cnd (fun h k => tile a2 a3 a5 a6 a7 s o h3 h6 h5 off P dec (inb h) rb cb (stackB vb) (swapB (stackB vb)) k) k) Q) := by
  subst hs' hrb hcb
  cases on
  · subst hc
    rw [show rowsDone false (s + 1) = 0 from rfl, show rowsDone false s = 0 from rfl]
    rw [show guarded (if false = true then 1#1 else 0#1) _ k = k from dif_neg (by decide)]
    iintro H Hk
    iapply Hk $$ H
  · have h1 : cnd = 1#1 := hc
    rw [show guarded cnd _ k = _ from dif_pos h1]
    have h := run_tile (defs := defs) (Q := Q) 𝒱 c bd E a2 a3 a5 a6 a7 s o hs ho h3 h6 h5 off P dec (inb h1)
      (rowBase b1 (BitVec.ofNat 32 s)) (Scalar.muli b0 128#32)
      (stackB vb) (swapB (stackB vb)) z hz va (blockV va vb b0 b1) hP hoff (fun y hy => blockV_tile va vb b0 b1 s o hs ho y hy) k
    rw [show o + 8 = rowsDone true (s + 1) by rw [ho]; show 8 * s + 8 = 8 * (s + 1); omega] at h
    rw [show rowsDone true s = o from ho.symm]
    exact h

end Cert.Perm

end
-- ==== Proof.Opened.lean ====
/- The arrays of a region's relational data after some write-backs, with their contents named. -/
module

public import Idealize.ShloMosaic.Lib.Pipeline.Regions

@[expose] public section

noncomputable section

namespace Cert.Opened

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg)

variable {nD : Nat} {τ : Topo} {sig : RefSig} {Val : EltTy → Type} {Λ₀ : Labels}
variable {Ix : Type} [DecidableEq Ix] {Name : Type} [DecidableEq Name] {U : Type} [URA U] {Lvl : Type}

theorem arraysAt [∀ e, Nonempty (Val e)] {cfg : Cfg sig Λ₀} {c : Dev nD} (rd : RDat τ Val Ix Name U Lvl cfg c) (n : Nat) :
    (rd.arraysAt n : sProp (MT nD τ sig Ix Val Name U Lvl))
      ⊢ iprop(∃ A : (w : Fin cfg.W) → Buf Val ((cfg.win w).arr.view.loc (c.tc : Thread nD τ)),
        ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

end Cert.Opened

end
-- ==== Proof.BuildTextKernelIdeal.lean ====
/- The first body of `KernelIdeal` is the text written in `Build`. -/
module

public import proofs.«01_k».proof.Proof.Build
public import proofs.«01_k».proof.Proof.Gen.KernelIdeal

@[expose] public section

noncomputable section

namespace Cert.KernelIdeal

open Idealize.ShloMosaic Idealize.SL.Sem Cert.Build

variable {F : FTy → Type} [FloatOps F] [Facts]
open Facts₀ Facts

set_option maxRecDepth 1000000
set_option maxHeartbeats 0

/-- The printed first body is the text written in `Build`. -/
theorem build_eq (i : grid0.Coords) (arg1 : Memref sig .tc .vmem S64x128 .f32) (harg1 : arg1.IsWhole) (arg2 : Memref sig .tc .vmem S120x64 .f32) (harg2 : arg2.IsWhole) (arg3 : Memref sig .tc .vmem S120x1 .f32) (harg3 : arg3.IsWhole) (arg4 : Memref sig .tc .vmem S120x128 .f32) (harg4 : arg4.IsWhole) (arg5 : Memref sig .tc .vmem S16x8x128 .f32) (harg5 : arg5.IsWhole) (arg6 : Memref sig .tc .vmem S16x8x128 .f32) (harg6 : arg6.IsWhole) (arg7 : Memref sig .tc .vmem S1x64x8x128 .bf16) (harg7 : arg7.IsWhole) (arg8 : Memref sig .tc .vmem S120x128 .f32) (harg8 : arg8.IsWhole) (arg9 : Memref sig .tc .vmem S120x128 .f32) (harg9 : arg9.IsWhole) :
    cc0_qknn_build_v (F := F) i arg1 harg1 arg2 harg2 arg3 harg3 arg4 harg4 arg5 harg5 arg6 harg6 arg7 harg7 arg8 harg8 arg9 harg9 = build arg1 arg2 arg3 arg4 arg5 arg6 arg7 harg7 arg8 arg9 (.ret ⟨⟩) := by
  rfl

end Cert.KernelIdeal

end
-- ==== Proof.FirstKernelIdeal.lean ====
/- The first call as a region of @main: its data (what the arrays hold on entry, what every point leaves in the
   staging buffers), its body obligation, and the record of the region over the buffers of @main. -/
module

public import proofs.«01_k».proof.Proof.Gen.KernelIdeal.Regions
public import proofs.«01_k».proof.Proof.Gen.KernelIdeal.Points
public import proofs.«01_k».proof.Proof.BuildTextKernelIdeal
public import proofs.«01_k».proof.Proof.BuildRun
public import proofs.«01_k».proof.Proof.Whole
public import Idealize.ShloMosaic.Lib.Pipeline.FrameBody
public import Idealize.ShloMosaic.Lib.Pipeline.RegionsLoop

@[expose] public section

noncomputable section

namespace Cert.KernelIdeal.Run

open Cert.KernelIdeal Cert.KernelIdeal.Gen Cert.Build
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RDat)

variable {F : FTy → Type} [FloatOps F]

/-- The resource algebra: the pipelines' own, nothing beside it. -/
abbrev UU : Type := Rounds.URounds (GSem nD τ sig) Unit

local notation "𝕄" => MT nD τ sig Unit (Elt F) ℕ UU ℕ

/-- No thread waits for another: no level is given out. -/
abbrev L : GSem nD τ sig → Finset Unit := fun _ => ∅
abbrev lv : GSem nD τ sig → Unit → ℕ := fun _ _ => 0
abbrev 𝒱₀ : Variants := Variants.none

/-- Contents for every buffer of a core. -/
abbrev Vals : Type := (c : Dev nD) → (b : Ref sig .tc) → Buf (Elt F) ((c : Thread nD τ).loc b)

variable (V : Vals (F := F))

/-- The block of an input at a point. -/
abbrev inBlk0 (c : Dev nD) (w : Fin 7) (t : Fin cfg0.N) : ((cfg0.win w).xblock (cfg0.grid.coords t)).Idx → Elt F (cfg0.win w).elt :=
  ((cfg0.win w).blk t).view.read (Elt F) (V c (Pipeline.arrRef spec0 w))

/-- The embedded block at a point. -/
abbrev embAt (c : Dev nD) (t : Fin cfg0.N) : FVec F B120x128 .f32 := emb (inBlk0 V c 1 t) (inBlk0 V c 0 t) (inBlk0 V c 2 t)

/-- The first call's data. -/
def dat0 (c : Dev nD) : Dat τ (Elt F) Unit ℕ UU ℕ cfg0 c where
  A w := V c (Pipeline.arrRef spec0 w)
  after w t := match w with
    | ⟨0, _⟩ => inBlk0 V c 0 t
    | ⟨1, _⟩ => inBlk0 V c 1 t
    | ⟨2, _⟩ => inBlk0 V c 2 t
    | ⟨3, _⟩ => embAt V c t
    | ⟨4, _⟩ => planes Prod.fst (rowsV (embAt V c t))
    | ⟨5, _⟩ => planes Prod.snd (rowsV (embAt V c t))
    | ⟨6, _⟩ => slots (rowsV (embAt V c t))
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 V c).before 0 t d = inBlk0 V c 0 t :=
  (dat0 V c).before_in_eq_fetched 0 rfl (fun _ => rfl) (fun _ _ _ => rfl) (fun _ => rfl) t d
theorem before0_1 (c : Dev nD) (t : Fin cfg0.N) (d) : (dat0 V c).before 1 t d = inBlk0 V c 1 t :=
  (dat0 V c).before_in_eq_fetched 1 rfl (fun _ => rfl) (fun _ _ _ => rfl) (fun _ => rfl) t d
theorem before0_2 (c : Dev nD) (t : Fin cfg0.N) (d) : (dat0 V c).before 2 t d = inBlk0 V c 2 t :=
  (dat0 V c).before_in_eq_fetched 2 rfl (fun _ => rfl) (fun _ _ _ => rfl) (fun _ => rfl) t d

/-- The body at a point is the text. -/
theorem text0 (t : Fin cfg0.N) : (defs₀ (F := F) .tc cfg0.body (cfg0.bodyArgs t (cfg0.slots t)) : Prog (TpuEff nD τ sig (Elt F) Λ₀ .tc) PUnit)
    = build (st0_0 t) (st0_1 t) (st0_2 t) (st0_3 t) (st0_4 t) (st0_5 t) (st0_6 t) (hstage0_6 ((cfg0.slots t 6).cast nbuf0_6))
      (Memref.whole cc0_scratch0) (Memref.whole cc0_scratch1) (.ret ⟨⟩) :=
  (show (defs₀ (F := F) .tc cfg0.body (cfg0.bodyArgs t (cfg0.slots t)) : Prog (TpuEff nD τ sig (Elt F) Λ₀ .tc) PUnit) = bodyAt0 t from rfl).trans
    (build_eq ..)

/-- The body at a point. -/
theorem body0 (c : Dev nD) : BodyObligation (dat0 V c) (defs₀ (F := F)) 𝒱₀ () Set.univ := fun t => by
  rw [bigSep_W0, bigSep_W0, text0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl, scopedRest0_eq]
  iintro ⟨⟨S8, S9, HΦ⟩, Howes, ⟨%d0, H0⟩, ⟨%d1, H1⟩, ⟨%d2, H2⟩, ⟨%d3, H3⟩, ⟨%d4, H4⟩, ⟨%d5, H5⟩, ⟨%d6, H6⟩⟩
  rw [before0_0, before0_1, before0_2]
  ihave T8 := (Whole.toOwns (Ix := Unit) (Val := Elt F) (Name := ℕ) (U := UU) (Lvl := ℕ) c cc0_scratch0) $$ S8
  ihave T9 := (Whole.toOwns (Ix := Unit) (Val := Elt F) (Name := ℕ) (U := UU) (Lvl := ℕ) c cc0_scratch1) $$ S9
  iapply (run_build (defs := defs₀ (F := F)) 𝒱₀ c none Set.univ
    (st0_0 t) (st0_1 t) (st0_2 t) (st0_3 t) (st0_4 t) (st0_5 t) (st0_6 t) (hstage0_6 ((cfg0.slots t 6).cast nbuf0_6))
    (Memref.whole cc0_scratch0) (Memref.whole cc0_scratch1) (inBlk0 V c 0 t) (inBlk0 V c 1 t) (inBlk0 V c 2 t) (.ret ⟨⟩)) $$ [H0 H1 H2 H3 H4 H5 H6 T8 T9]
  · isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [T8] <;> iassumption
  iintro ⟨H0, H1, H2, H3, H4, H5, H6, T8, T9⟩
  rw [wp_ret]
  imodintro
  ihave S8 := (Whole.ofOwns (Ix := Unit) (Val := Elt F) (Name := ℕ) (U := UU) (Lvl := ℕ) c cc0_scratch0) $$ T8
  ihave S9 := (Whole.ofOwns (Ix := Unit) (Val := Elt F) (Name := ℕ) (U := UU) (Lvl := ℕ) c cc0_scratch1) $$ T9
  isplitl [S8 S9 HΦ]
  · isplitl [S8]; · iexact S8
    isplitl [S9]; · iexact S9
    iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.KernelIdeal.Run

end
-- ==== Proof.PermTextKernelIdeal.lean ====
/- The permanent kernel's body in `KernelIdeal` is eight guarded copies of the one tile text. -/
module

public import proofs.«01_k».proof.Proof.Tile
public import proofs.«01_k».proof.Proof.Gen.KernelIdeal

@[expose] public section

noncomputable section

namespace Cert.KernelIdeal

open Idealize.ShloMosaic Idealize.SL.Sem Cert.Perm

variable {F : FTy → Type} [FloatOps F] [Facts]
open Facts₀ Facts

variable {α : Type}

/-- Tiles 0 and 1, before `k`. -/
def tiles01 (i : grid1.Coords) (arg2 : Memref sig .tc .smem S1 .i32) (arg3 : Memref sig .tc .vmem S8x64x128 .bf16)
    (arg5 : Memref sig .tc .vmem S64x128 .f32) (arg6 arg7 : Memref sig .tc .vmem S8x8x64x128 .f32) (arg1 cb : BitVec 32) (v2 v11 : FVec F S128x1024 .bf16)
    (k : Prog (TpuEff nD τ sig (Elt F) Λ₀ .tc) α) : Prog (TpuEff nD τ sig (Elt F) Λ₀ .tc) α :=
  guarded (k1_cond1 i) (fun h k => tile arg2 arg3 arg5 arg6 arg7 0 0 (by decide) (by decide) (by decide)
    k1_off1 (k1_chk1 i) (k1_chk1.dec i) (fun v hv => k1_off1_inb i v hv h) (rowBase arg1 0#32) cb v2 v11 k) <|
  guarded (k1_cond2 i) (fun h k => tile arg2 arg3 arg5 arg6 arg7 1 8 (by decide) (by decide) (by decide)
    k1_off2 (k1_chk2 i) (k1_chk2.dec i) (fun v hv => k1_off2_inb i v hv h) (rowBase arg1 1#32) cb v2 v11 k) <|
  k

/-- Tiles 2 to 5, before `k`. -/
def tiles25 (i : grid1.Coords) (arg2 : Memref sig .tc .smem S1 .i32) (arg3 : Memref sig .tc .vmem S8x64x128 .bf16)
    (arg5 : Memref sig .tc .vmem S64x128 .f32) (arg6 arg7 : Memref sig .tc .vmem S8x8x64x128 .f32) (arg1 v29 cb : BitVec 32) (v2 v11 : FVec F S128x1024 .bf16)
    (k : Prog (TpuEff nD τ sig (Elt F) Λ₀ .tc) α) : Prog (TpuEff nD τ sig (Elt F) Λ₀ .tc) α :=
  guarded (k1_cond3 i) (fun h k => tile arg2 arg3 arg5 arg6 arg7 2 16 (by decide) (by decide) (by decide)
    k1_off3 (k1_chk3 i) (k1_chk3.dec i) (fun v hv => k1_off3_inb i v hv h) (Scalar.muli v29 8#32) cb v2 v11 k) <|
  guarded (k1_cond4 i) (fun h k => tile arg2 arg3 arg5 arg6 arg7 3 24 (by decide) (by decide) (by decide)
    k1_off4 (k1_chk4 i) (k1_chk4.dec i) (fun v hv => k1_off4_inb i v hv h) (rowBase arg1 3#32) cb v2 v11 k) <|
  guarded (k1_cond5 i) (fun h k => tile arg2 arg3 arg5 arg6 arg7 4 32 (by decide) (by decide) (by decide)
    k1_off5 (k1_chk5 i) (k1_chk5.dec i) (fun v hv => k1_off5_inb i v hv h) (rowBase arg1 4#32) cb v2 v11 k) <|
  guarded (k1_cond6 i) (fun h k => tile arg2 arg3 arg5 arg6 arg7 5 40 (by decide) (by decide) (by decide)
    k1_off6 (k1_chk6 i) (k1_chk6.dec i) (fun v hv => k1_off6_inb i v hv h) (rowBase arg1 5#32) cb v2 v11 k) <|
  k

/-- Tiles 6 and 7, before `k`. -/
def tiles67 (i : grid1.Coords) (arg2 : Memref sig .tc .smem S1 .i32) (arg3 : Memref sig .tc .vmem S8x64x128 .bf16)
    (arg5 : Memref sig .tc .vmem S64x128 .f32) (arg6 arg7 : Memref sig .tc .vmem S8x8x64x128 .f32) (arg1 v61 cb : BitVec 32) (v2 v11 : FVec F S128x1024 .bf16)
    (k : Prog (TpuEff nD τ sig (Elt F) Λ₀ .tc) α) : Prog (TpuEff nD τ sig (Elt F) Λ₀ .tc) α :=
  guarded (k1_cond7 i) (fun h k => tile arg2 arg3 arg5 arg6 arg7 6 48 (by decide) (by decide) (by decide)
    k1_off7 (k1_chk7 i) (k1_chk7.dec i) (fun v hv => k1_off7_inb i v hv h) (Scalar.muli v61 8#32) cb v2 v11 k) <|
  guarded (k1_cond8 i) (fun h k => tile arg2 arg3 arg5 arg6 arg7 7 56 (by decide) (by decide) (by decide)
    k1_off8 (k1_chk8 i) (k1_chk8.dec i) (fun v hv => k1_off8_inb i v hv h) (rowBase arg1 7#32) cb v2 v11 k) <|
  k

set_option maxRecDepth 1000000
set_option maxHeartbeats 0

/-- The text up to tile 1: load the right block, then two tiles. -/
theorem part1137_eq (i : grid1.Coords) (arg2 : Memref sig .tc .smem S1 .i32) (harg2 : arg2.IsWhole)
    (arg3 : Memref sig .tc .vmem S8x64x128 .bf16) (harg3 : arg3.IsWhole) (arg4 : Memref sig .tc .vmem S1x64x1024 .bf16)
    (harg4 : arg4.IsWhole) (arg5 : Memref sig .tc .vmem S64x128 .f32) (harg5 : arg5.IsWhole)
    (arg6 : Memref sig .tc .vmem S8x8x64x128 .f32) (harg6 : arg6.IsWhole) (arg7 : Memref sig .tc .vmem S8x8x64x128 .f32)
    (harg7 : arg7.IsWhole) :
    k1_part1137 (F := F) i arg2 harg2 arg3 harg3 arg4 harg4 arg5 harg5 arg6 harg6 arg7 harg7 =
      .op (.load arg4 (Rect.unit (s := T1x64x1024) ![0, 0, 0] T1x64x1024.size (by decide)).toLoadRect (View.loadsAt_vmem pos1x64x1024))
      fun b => tiles01 i arg2 arg3 arg5 arg6 arg7 (BitVec.ofNat 32 (i 1).val) (Scalar.muli (BitVec.ofNat 32 (i 0).val) 128#32)
        (stackB b) (swapB (stackB b)) (.ret
        ⟨BitVec.ofNat 32 (i 0).val, BitVec.ofNat 32 (i 1).val, stackB b, swapB (stackB b),
         Scalar.addi (Scalar.muli (BitVec.ofNat 32 (i 1).val) 8#32) 2#32,
         Scalar.extui (Scalar.cmpi .slt (Scalar.muli (Scalar.addi (Scalar.muli (BitVec.ofNat 32 (i 1).val) 8#32) 2#32) 8#32)
           (Scalar.muli (Scalar.addi (BitVec.ofNat 32 (i 0).val) 1#32) 128#32)), 0#32⟩) := by
  rfl

/-- The text of tiles 2 to 5. -/
theorem part1138_eq (i : grid1.Coords) (arg2 : Memref sig .tc .smem S1 .i32) (harg2 : arg2.IsWhole)
    (arg3 : Memref sig .tc .vmem S8x64x128 .bf16) (harg3 : arg3.IsWhole) (arg4 : Memref sig .tc .vmem S1x64x1024 .bf16)
    (harg4 : arg4.IsWhole) (arg5 : Memref sig .tc .vmem S64x128 .f32) (harg5 : arg5.IsWhole)
    (arg6 : Memref sig .tc .vmem S8x8x64x128 .f32) (harg6 : arg6.IsWhole) (arg7 : Memref sig .tc .vmem S8x8x64x128 .f32)
    (harg7 : arg7.IsWhole)
    (arg0 arg1 : BitVec 32) (v2 v11 : FVec F S128x1024 .bf16) (v29 v34 c : BitVec 32) :
    k1_part1138 (F := F) i arg2 harg2 arg3 harg3 arg4 harg4 arg5 harg5 arg6 harg6 arg7 harg7 arg0 arg1 v2 v11 v29 v34 c =
      tiles25 i arg2 arg3 arg5 arg6 arg7 arg1 v29 (Scalar.muli arg0 128#32) v2 v11 (.ret
        ⟨Scalar.addi (Scalar.muli arg1 8#32) 6#32,
         Scalar.extui (Scalar.cmpi .slt (Scalar.muli (Scalar.addi (Scalar.muli arg1 8#32) 6#32) 8#32)
           (Scalar.muli (Scalar.addi arg0 1#32) 128#32)), 0#32⟩) := by
  rfl

/-- The whole body: the two parts, then tiles 6 and 7. -/
theorem body_eq (i : grid1.Coords) (arg2 : Memref sig .tc .smem S1 .i32) (harg2 : arg2.IsWhole)
    (arg3 : Memref sig .tc .vmem S8x64x128 .bf16) (harg3 : arg3.IsWhole) (arg4 : Memref sig .tc .vmem S1x64x1024 .bf16)
    (harg4 : arg4.IsWhole) (arg5 : Memref sig .tc .vmem S64x128 .f32) (harg5 : arg5.IsWhole)
    (arg6 : Memref sig .tc .vmem S8x8x64x128 .f32) (harg6 : arg6.IsWhole) (arg7 : Memref sig .tc .vmem S8x8x64x128 .f32)
    (harg7 : arg7.IsWhole) :
    cc1_qknn_perm (F := F) i arg2 harg2 arg3 harg3 arg4 harg4 arg5 harg5 arg6 harg6 arg7 harg7 =
      k1_part1137 (F := F) i arg2 harg2 arg3 harg3 arg4 harg4 arg5 harg5 arg6 harg6 arg7 harg7 >>= fun p =>
      k1_part1138 (F := F) i arg2 harg2 arg3 harg3 arg4 harg4 arg5 harg5 arg6 harg6 arg7 harg7
        p.1 p.2.1 p.2.2.1 p.2.2.2.1 p.2.2.2.2.1 p.2.2.2.2.2.1 p.2.2.2.2.2.2 >>= fun q =>
      tiles67 i arg2 arg3 arg5 arg6 arg7 p.2.1 q.1 (Scalar.muli p.1 128#32) p.2.2.1 p.2.2.2.1 (.ret ⟨⟩) := by
  unfold cc1_qknn_perm
  refine congrArg (_ >>= ·) (funext fun ⟨arg0, arg1, v2, v11, v29, v34, c⟩ => ?_)
  refine congrArg (_ >>= ·) (funext fun ⟨v61, v66, c'⟩ => ?_)
  rfl

end Cert.KernelIdeal

end
-- ==== Proof.PermBodyKernelIdeal.lean ====
/- What the second body of `KernelIdeal` computes: run from owned blocks, it leaves its block of the result at the points
   where its tiles run, and anything at the others. -/
module

public import proofs.«01_k».proof.Proof.PermRun
public import proofs.«01_k».proof.Proof.PermTextKernelIdeal

@[expose] public section

noncomputable section

namespace Cert.KernelIdeal

open Idealize.ShloMosaic Cert.Perm
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

/-- Whether the tiles run at a point: its rows reach above the last column of its column block. -/
def runs (i : grid1.Coords) : Bool := decide (64 * (i 1).val < 128 * ((i 0).val + 1))

theorem cond1 (i : grid1.Coords) : k1_cond1 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 0#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off1 : ∀ r : Fin 7, k1_off1 0#32 (BitVec.ofNat 32 (1 + r.val)) = ![0, r.val + 1, 0, 0] := by decide
theorem chk1 (i : grid1.Coords) : k1_chk1 i 0#32 := fun _ r a => by
  rw [off1 r]; revert r a; decide
theorem cond2 (i : grid1.Coords) : k1_cond2 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 1#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off2 : ∀ r : Fin 7, k1_off2 0#32 (BitVec.ofNat 32 (1 + r.val)) = ![1, r.val + 1, 0, 0] := by decide
theorem chk2 (i : grid1.Coords) : k1_chk2 i 0#32 := fun _ r a => by
  rw [off2 r]; revert r a; decide
theorem cond3 (i : grid1.Coords) : k1_cond3 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 2#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off3 : ∀ r : Fin 7, k1_off3 0#32 (BitVec.ofNat 32 (1 + r.val)) = ![2, r.val + 1, 0, 0] := by decide
theorem chk3 (i : grid1.Coords) : k1_chk3 i 0#32 := fun _ r a => by
  rw [off3 r]; revert r a; decide
theorem cond4 (i : grid1.Coords) : k1_cond4 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 3#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off4 : ∀ r : Fin 7, k1_off4 0#32 (BitVec.ofNat 32 (1 + r.val)) = ![3, r.val + 1, 0, 0] := by decide
theorem chk4 (i : grid1.Coords) : k1_chk4 i 0#32 := fun _ r a => by
  rw [off4 r]; revert r a; decide
theorem cond5 (i : grid1.Coords) : k1_cond5 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 4#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off5 : ∀ r : Fin 7, k1_off5 0#32 (BitVec.ofNat 32 (1 + r.val)) = ![4, r.val + 1, 0, 0] := by decide
theorem chk5 (i : grid1.Coords) : k1_chk5 i 0#32 := fun _ r a => by
  rw [off5 r]; revert r a; decide
theorem cond6 (i : grid1.Coords) : k1_cond6 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 5#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off6 : ∀ r : Fin 7, k1_off6 0#32 (BitVec.ofNat 32 (1 + r.val)) = ![5, r.val + 1, 0, 0] := by decide
theorem chk6 (i : grid1.Coords) : k1_chk6 i 0#32 := fun _ r a => by
  rw [off6 r]; revert r a; decide
theorem cond7 (i : grid1.Coords) : k1_cond7 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 6#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off7 : ∀ r : Fin 7, k1_off7 0#32 (BitVec.ofNat 32 (1 + r.val)) = ![6, r.val + 1, 0, 0] := by decide
theorem chk7 (i : grid1.Coords) : k1_chk7 i 0#32 := fun _ r a => by
  rw [off7 r]; revert r a; decide
theorem cond8 (i : grid1.Coords) : k1_cond8 i = if runs i then 1#1 else 0#1 := by
  have h : ∀ (a : Fin 2) (b : Fin 4), Scalar.cmpi .ne (Scalar.extui (Scalar.cmpi .slt (Scalar.muli (Scalar.addi (Scalar.muli (BitVec.ofNat 32 b.val) 8#32) 7#32) 8#32)
      (Scalar.muli (Scalar.addi (BitVec.ofNat 32 a.val) 1#32) 128#32)) : BitVec 32) 0#32 = if decide (64 * b.val < 128 * (a.val + 1)) then 1#1 else 0#1 := by decide
  exact h (i 0) (i 1)
theorem off8 : ∀ r : Fin 7, k1_off8 0#32 (BitVec.ofNat 32 (1 + r.val)) = ![7, r.val + 1, 0, 0] := by decide
theorem chk8 (i : grid1.Coords) : k1_chk8 i 0#32 := fun _ r a => by
  rw [off8 r]; revert r a; decide

variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)
variable {Q : PUnit → sProp (MT nD τ sig Ix (Elt F) Name U Lvl)}

theorem run_perm (i : grid1.Coords) (arg2 : Memref sig .tc .smem S1 .i32) (harg2 : arg2.IsWhole)
    (arg3 : Memref sig .tc .vmem S8x64x128 .bf16) (harg3 : arg3.IsWhole) (arg4 : Memref sig .tc .vmem S1x64x1024 .bf16)
    (harg4 : arg4.IsWhole) (arg5 : Memref sig .tc .vmem S64x128 .f32) (harg5 : arg5.IsWhole)
    (arg6 : Memref sig .tc .vmem S8x8x64x128 .f32) (harg6 : arg6.IsWhole) (arg7 : Memref sig .tc .vmem S8x8x64x128 .f32)
    (harg7 : arg7.IsWhole) (z : Vec F T1 .i32) (hz : ∀ y, z y = (0#32 : BitVec 32)) (va : Vec F T8x64x128 .bf16) (vb : Vec F T1x64x1024 .bf16) :
    (iprop(ownsTc c arg4 fullShare vb ∗ Held c arg2 arg3 arg5 arg6 arg7 z va
        (blockV va vb (BitVec.ofNat 32 (i 0).val) (BitVec.ofNat 32 (i 1).val)) (rowsDone (runs i) 0)) : sProp (MT nD τ sig Ix (Elt F) Name U Lvl))
      ⊢ iprop((iprop(ownsTc c arg4 fullShare vb ∗ Held c arg2 arg3 arg5 arg6 arg7 z va
          (blockV va vb (BitVec.ofNat 32 (i 0).val) (BitVec.ofNat 32 (i 1).val)) (rowsDone (runs i) 8)) -∗ Q ⟨⟩)
        -∗ wp frame (wpE defs 𝒱 (c.tc : Thread nD τ) bd) E
          (cc1_qknn_perm (F := F) i arg2 harg2 arg3 harg3 arg4 harg4 arg5 harg5 arg6 harg6 arg7 harg7) Q) := by
  rw [body_eq, wp_bind, part1137_eq]
  iintro ⟨H4, H⟩ Hk
  iapply (Own.loadAs 𝒱 (c.tc : Thread nD τ) bd E vb (fun x => congrArg vb (emb_all x))) $$ H4
  iintro H4
  unfold tiles01
  iapply (run_guarded 𝒱 c bd E arg2 arg3 arg5 arg6 arg7 z hz va vb (BitVec.ofNat 32 (i 0).val) (BitVec.ofNat 32 (i 1).val) (runs i)
    (k1_cond1 i) (cond1 i) 0 1 0 (by omega) rfl rfl _ _ _ k1_off1 (k1_chk1 i) (k1_chk1.dec i)
    (fun h v hv => k1_off1_inb i v hv h) _ _ rfl rfl (chk1 i) off1 _) $$ H
  iintro H
  iapply (run_guarded 𝒱 c bd E arg2 arg3 arg5 arg6 arg7 z hz va vb (BitVec.ofNat 32 (i 0).val) (BitVec.ofNat 32 (i 1).val) (runs i)
    (k1_cond2 i) (cond2 i) 1 2 8 (by omega) rfl rfl _ _ _ k1_off2 (k1_chk2 i) (k1_chk2.dec i)
    (fun h v hv => k1_off2_inb i v hv h) _ _ rfl rfl (chk2 i) off2 _) $$ H
  iintro H
  rw [wp_ret]
  imodintro
  rw [wp_bind, part1138_eq]
  unfold tiles25
  iapply (run_guarded 𝒱 c bd E arg2 arg3 arg5 arg6 arg7 z hz va vb (BitVec.ofNat 32 (i 0).val) (BitVec.ofNat 32 (i 1).val) (runs i)
    (k1_cond3 i) (cond3 i) 2 3 16 (by omega) rfl rfl _ _ _ k1_off3 (k1_chk3 i) (k1_chk3.dec i)
    (fun h v hv => k1_off3_inb i v hv h) _ _ rfl rfl (chk3 i) off3 _) $$ H
  iintro H
  iapply (run_guarded 𝒱 c bd E arg2 arg3 arg5 arg6 arg7 z hz va vb (BitVec.ofNat 32 (i 0).val) (BitVec.ofNat 32 (i 1).val) (runs i)
    (k1_cond4 i) (cond4 i) 3 4 24 (by omega) rfl rfl _ _ _ k1_off4 (k1_chk4 i) (k1_chk4.dec i)
    (fun h v hv => k1_off4_inb i v hv h) _ _ rfl rfl (chk4 i) off4 _) $$ H
  iintro H
  iapply (run_guarded 𝒱 c bd E arg2 arg3 arg5 arg6 arg7 z hz va vb (BitVec.ofNat 32 (i 0).val) (BitVec.ofNat 32 (i 1).val) (runs i)
    (k1_cond5 i) (cond5 i) 4 5 32 (by omega) rfl rfl _ _ _ k1_off5 (k1_chk5 i) (k1_chk5.dec i)
    (fun h v hv => k1_off5_inb i v hv h) _ _ rfl rfl (chk5 i) off5 _) $$ H
  iintro H
  iapply (run_guarded 𝒱 c bd E arg2 arg3 arg5 arg6 arg7 z hz va vb (BitVec.ofNat 32 (i 0).val) (BitVec.ofNat 32 (i 1).val) (runs i)
    (k1_cond6 i) (cond6 i) 5 6 40 (by omega) rfl rfl _ _ _ k1_off6 (k1_chk6 i) (k1_chk6.dec i)
    (fun h v hv => k1_off6_inb i v hv h) _ _ rfl rfl (chk6 i) off6 _) $$ H
  iintro H
  rw [wp_ret]
  imodintro
  unfold tiles67
  iapply (run_guarded 𝒱 c bd E arg2 arg3 arg5 arg6 arg7 z hz va vb (BitVec.ofNat 32 (i 0).val) (BitVec.ofNat 32 (i 1).val) (runs i)
    (k1_cond7 i) (cond7 i) 6 7 48 (by omega) rfl rfl _ _ _ k1_off7 (k1_chk7 i) (k1_chk7.dec i)
    (fun h v hv => k1_off7_inb i v hv h) _ _ rfl rfl (chk7 i) off7 _) $$ H
  iintro H
  iapply (run_guarded 𝒱 c bd E arg2 arg3 arg5 arg6 arg7 z hz va vb (BitVec.ofNat 32 (i 0).val) (BitVec.ofNat 32 (i 1).val) (runs i)
    (k1_cond8 i) (cond8 i) 7 8 56 (by omega) rfl rfl _ _ _ k1_off8 (k1_chk8 i) (k1_chk8.dec i)
    (fun h v hv => k1_off8_inb i v hv h) _ _ rfl rfl (chk8 i) off8 _) $$ H
  iintro H
  rw [wp_ret]
  imodintro
  iapply Hk
  isplitl [H4] <;> iassumption

end Cert.KernelIdeal

end
-- ==== Proof.SecondKernelIdeal.lean ====
/- The second call as a region of @main: its data, with the result's window held to a predicate (where the tiles run
   the block is the squared moduli's, where they do not it is whatever was there), and its body obligation. -/
module

public import proofs.«01_k».proof.Proof.FirstKernelIdeal
public import proofs.«01_k».proof.Proof.PermBodyKernelIdeal
public import Idealize.ShloMosaic.Lib.Pipeline.DatRel

@[expose] public section

noncomputable section

namespace Cert.KernelIdeal.Run

open Cert.KernelIdeal Cert.KernelIdeal.Gen Cert.Perm
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel RDat)

variable {F : FTy → Type} [FloatOps F]

local notation "𝕄" => MT nD τ sig Unit (Elt F) ℕ UU ℕ

variable (V : Vals (F := F))

/-- The block of an input at a point. -/
abbrev inBlk1 (c : Dev nD) (w : Fin 4) (t : Fin cfg1.N) : ((cfg1.win w).xblock (cfg1.grid.coords t)).Idx → Elt F (cfg1.win w).elt :=
  ((cfg1.win w).blk t).view.read (Elt F) (V c (Pipeline.arrRef spec1 w))

/-- The result's block at a point where the tiles run. -/
abbrev outBlk1 (c : Dev nD) (t : Fin cfg1.N) : Vec F S64x128 .f32 :=
  blockV (inBlk1 V c 1 t) (inBlk1 V c 2 t) (BitVec.ofNat 32 (grid1.coords t 0).val) (BitVec.ofNat 32 (grid1.coords t 1).val)

/-- The second call's data. -/
def dat1 (c : Dev nD) : Dat τ (Elt F) Unit ℕ UU ℕ cfg1 c where
  A w := V c (Pipeline.arrRef spec1 w)
  after w t := match w with
    | ⟨0, _⟩ => inBlk1 V c 0 t
    | ⟨1, _⟩ => inBlk1 V c 1 t
    | ⟨2, _⟩ => inBlk1 V c 2 t
    | ⟨3, _⟩ => outBlk1 V c t
  Φ _ := Pipeline.scopedRest (Ix := Unit) (Name := ℕ) (U := UU) (Lvl := ℕ) (Val := Elt F) spec1 c
  q _ := fullShare
  owed _ := 0

theorem before1_0 (c : Dev nD) (t : Fin cfg1.N) (d) : (dat1 V c).before 0 t d = inBlk1 V c 0 t :=
  (dat1 V c).before_in_eq_fetched 0 rfl (fun _ => rfl) (fun _ _ _ => rfl) (fun _ => rfl) t d
theorem before1_1 (c : Dev nD) (t : Fin cfg1.N) (d) : (dat1 V c).before 1 t d = inBlk1 V c 1 t :=
  (dat1 V c).before_in_eq_fetched 1 rfl (fun _ => rfl) (fun _ _ _ => rfl) (fun _ => rfl) t d
theorem before1_2 (c : Dev nD) (t : Fin cfg1.N) (d) : (dat1 V c).before 2 t d = inBlk1 V c 2 t :=
  (dat1 V c).before_in_eq_fetched 2 rfl (fun _ => rfl) (fun _ _ _ => rfl) (fun _ => rfl) t d

/-- The result's window is the one held to a predicate. -/
def held3 (w : Fin cfg1.W) : Bool := match w with
  | ⟨3, _⟩ => true
  | _ => false

/-- The predicate. -/
def meets (c : Dev nD) (w : Fin cfg1.W) (t : Fin cfg1.N) (X : (cfg1.win w).block.Idx → Elt F (cfg1.win w).elt) : Prop :=
  match w, X with
  | ⟨3, _⟩, X => runs (grid1.coords t) = true → X = outBlk1 V c t
  | _, _ => True

/-- The body at a point is the second call's. -/
theorem text1 (t : Fin cfg1.N) : (defs₀ (F := F) .tc cfg1.body (cfg1.bodyArgs t (cfg1.slots t)) : Prog (TpuEff nD τ sig (Elt F) Λ₀ .tc) PUnit)
    = bodyAt1 t := rfl

/-- The body at a point. -/
theorem body1 (hz : ∀ c y, V c main_v20 y = (0#32 : BitVec 32)) (c : Dev nD) :
    BodyObligationRel (dat1 V c) (defs₀ (F := F)) 𝒱₀ () Set.univ held3 (meets V c) := fun t => by
  rw [bigSep_W1, bigSep_W1, text1]
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl, scopedRest1_eq]
  simp only [show held3 0 = false from rfl, show held3 1 = false from rfl, show held3 2 = false from rfl, show held3 3 = true from rfl]
  iintro ⟨⟨R0, R1, R2, R3, R4, R5, R6, R7, R8, R9, R10, R11, R12, R13, S6, S7⟩, Howes, ⟨%d0, H0⟩, ⟨%d1, H1⟩, ⟨%d2, H2⟩, ⟨%Y3, -, H3⟩⟩
  rw [before1_0, before1_1, before1_2]
  ihave T6 := (Whole.toOwns (Ix := Unit) (Val := Elt F) (Name := ℕ) (U := UU) (Lvl := ℕ) c cc1_scratch0) $$ S6
  ihave T7 := (Whole.toOwns (Ix := Unit) (Val := Elt F) (Name := ℕ) (U := UU) (Lvl := ℕ) c cc1_scratch1) $$ S7
  iapply (run_perm (defs := defs₀ (F := F)) 𝒱₀ c none Set.univ (grid1.coords t) (st1_0 t) _ (st1_1 t) _ (st1_2 t) _ (st1_3 t) _
    (Memref.whole cc1_scratch0) _ (Memref.whole cc1_scratch1) _ (inBlk1 V c 0 t) (fun y => hz c _) (inBlk1 V c 1 t) (inBlk1 V c 2 t))
    $$ [H0 H1 H2 H3 T6 T7]
  · isplitl [H2]; · iexact H2
    unfold Held Done
    isplitl [H0]; · iexact H0
    isplitl [H1]; · iexact H1
    isplitl [H3]
    · iexists Y3
      isplitr
      · ipureintro
        intro y hy
        exfalso
        revert hy
        cases runs (grid1.coords t) <;> simp [rowsDone]
      iexact H3
    isplitl [T6] <;> iassumption
  unfold Held Done
  iintro ⟨H2, H0, H1, ⟨%X, %hX, H3⟩, T6, T7⟩
  ihave S6 := (Whole.ofOwns (Ix := Unit) (Val := Elt F) (Name := ℕ) (U := UU) (Lvl := ℕ) c cc1_scratch0) $$ T6
  ihave S7 := (Whole.ofOwns (Ix := Unit) (Val := Elt F) (Name := ℕ) (U := UU) (Lvl := ℕ) c cc1_scratch1) $$ T7
  isplitl [S6 S7 R0 R1 R2 R3 R4 R5 R6 R7 R8 R9 R10 R11 R12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [S6]; · iexact S6
    iexact S7
  isplitl [Howes]; · iexact Howes
  isplitl [H0]; · iexact H0
  isplitl [H1]; · iexact H1
  isplitl [H2]; · iexact H2
  iexists X
  isplitr
  · ipureintro
    intro hr
    funext y
    refine hX y ?_
    rw [hr]
    exact (y 0).isLt
  iexact H3

end Cert.KernelIdeal.Run

end
-- ==== Proof.RunKernelIdeal.lean ====
/- The whole program: what the buffers hold between the items of @main, the two regions over them, and the run. -/
module

public import proofs.«01_k».proof.Proof.SecondKernelIdeal
public import proofs.«01_k».proof.Proof.Opened
public import Idealize.ShloMosaic.Lib.StableHlo.Run

@[expose] public section

noncomputable section

namespace Cert.KernelIdeal.Run

open Cert.KernelIdeal Cert.KernelIdeal.Gen Cert.Perm
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RDat HostSeg)

variable {F : FTy → Type} [FloatOps F]

local notation "𝕄" => MT nD τ sig Unit (Elt F) ℕ UU ℕ

variable (m : (ℓ : Loc nD τ sig) → Buf (Elt F) ℓ)

/-! ## Contents between items -/

/-- A core's valuation as contents of its buffers. -/
abbrev vals (W : Dev nD → Valuation τ sig (Elt F)) : Vals (F := F) := fun c b => W c b

/-- The first call's data in this program. -/
abbrev D0 (c : Dev nD) : Dat τ (Elt F) Unit ℕ UU ℕ cfg0 c := dat0 (vals (V1 m)) c

/-- After the first call. -/
def W2 (c : Dev nD) : Valuation τ sig (Elt F) :=
  Function.update (Function.update (Function.update (Function.update (V1 m c) main_v2_0 ((D0 m c).arrAt 3 cfg0.N))
    main_v2_1 ((D0 m c).arrAt 4 cfg0.N)) main_v2_2 ((D0 m c).arrAt 5 cfg0.N)) main_v2_3 ((D0 m c).arrAt 6 cfg0.N)
/-- After the middle of @main. -/
def W3 (c : Dev nD) : Valuation τ sig (Elt F) := StableHlo.after hostOps1 (W2 m c)

/-- What the second call leaves in its result, of the contents it may leave. -/
abbrev Res (F : FTy → Type) : Type := (c : Dev nD) → Buf (Elt F) ((c : Thread nD τ).loc main_v21)

/-- After the second call. -/
def W4 (o : Res F) (c : Dev nD) : Valuation τ sig (Elt F) := Function.update (W3 m c) main_v21 (o c)
/-- After the triangles are put together. -/
def W5 (o : Res F) (c : Dev nD) : Valuation τ sig (Elt F) := StableHlo.after hostOps2 (W4 m o c)
/-- At the end. -/
def W6 (o : Res F) (c : Dev nD) : Valuation τ sig (Elt F) := StableHlo.after hostOps2_1 (W5 m o c)

theorem W2_of (c : Dev nD) (r : Ref sig .tc) (h : r ∉ ([main_v2_0, main_v2_1, main_v2_2, main_v2_3] : List (Ref sig .tc))) : W2 m c r = V1 m c r := by
  simp only [List.mem_cons, List.mem_nil_iff, _root_.or_false, not_or] at h
  obtain ⟨h0, h1, h2, h3⟩ := h
  rw [W2, Function.update_of_ne (StableHlo.devRef_ne_of_ne h3), Function.update_of_ne (StableHlo.devRef_ne_of_ne h2),
    Function.update_of_ne (StableHlo.devRef_ne_of_ne h1), Function.update_of_ne (StableHlo.devRef_ne_of_ne h0)]
theorem W2_3 (c : Dev nD) : W2 m c main_v2_3 = (D0 m c).arrAt 6 cfg0.N := Function.update_self ..
theorem W2_2 (c : Dev nD) : W2 m c main_v2_2 = (D0 m c).arrAt 5 cfg0.N := by
  rw [W2, Function.update_of_ne (StableHlo.devRef_ne_of_ne (by decide))]; exact Function.update_self ..
theorem W2_1 (c : Dev nD) : W2 m c main_v2_1 = (D0 m c).arrAt 4 cfg0.N := by
  rw [W2, Function.update_of_ne (StableHlo.devRef_ne_of_ne (by decide)), Function.update_of_ne (StableHlo.devRef_ne_of_ne (by decide))]
  exact Function.update_self ..
theorem W2_0 (c : Dev nD) : W2 m c main_v2_0 = (D0 m c).arrAt 3 cfg0.N := by
  rw [W2, Function.update_of_ne (StableHlo.devRef_ne_of_ne (by decide)), Function.update_of_ne (StableHlo.devRef_ne_of_ne (by decide)),
    Function.update_of_ne (StableHlo.devRef_ne_of_ne (by decide))]
  exact Function.update_self ..
theorem W3_of (c : Dev nD) (r : Ref sig .tc) (h : r ∉ hostOps1_W) : W3 m c r = W2 m c r :=
  StableHlo.after_of_writes_sub hostOps1 _ hostOps1_writes h
theorem W4_of (o : Res F) (c : Dev nD) (r : Ref sig .tc) (h : r ≠ main_v21) : W4 m o c r = W3 m c r :=
  Function.update_of_ne (StableHlo.devRef_ne_of_ne h) ..
theorem W4_21 (o : Res F) (c : Dev nD) : W4 m o c main_v21 = o c := Function.update_self ..
theorem W5_of (o : Res F) (c : Dev nD) (r : Ref sig .tc) (h : r ∉ hostOps2_W) : W5 m o c r = W4 m o c r :=
  StableHlo.after_of_writes_sub hostOps2 _ hostOps2_writes h
theorem W6_of (o : Res F) (c : Dev nD) (r : Ref sig .tc) (h : r ∉ hostOps2_1_W) : W6 m o c r = W5 m o c r :=
  StableHlo.after_of_writes_sub hostOps2_1 _ hostOps2_1_writes h

/-- A buffer that no item writes reaches the end as launched. -/
theorem W6_launch (o : Res F) (c : Dev nD) (r : Ref sig .tc) (h : r ∉ hostOps2_1_W ∧ r ∉ hostOps2_W ∧ r ≠ main_v21 ∧ r ∉ hostOps1_W
      ∧ r ∉ ([main_v2_0, main_v2_1, main_v2_2, main_v2_3] : List (Ref sig .tc)) ∧ r ∉ hostOps0_W) :
    W6 m o c r = m ((c : Thread nD τ).loc r) := by
  obtain ⟨h6, h5, h4, h3, h2, h1⟩ := h
  rw [W6_of m o c r h6, W5_of m o c r h5, W4_of m o c r h4, W3_of m c r h3, W2_of m c r h2, V1_of m c r h1]

/-- The offset in the second call's scalar memory is zero. -/
theorem W3_zero (c : Dev nD) (y) : W3 m c main_v20 y = (0#32 : BitVec 32) := by
  have h : W3 m c main_v20 = broadcastInDim S1 ![] bcast_S_S1 (constantI S_ 32 0#32) := by
    unfold W3
    after_results
  rw [h]; rfl

/-! ## The regions -/

/-- The second call's data in this program, the result's window held to its predicate. -/
abbrev D1 (c : Dev nD) : RDat τ (Elt F) Unit ℕ UU ℕ cfg1 c :=
  (dat1 (vals (W3 m)) c).toRRel held3 (meets (vals (W3 m)) c)

/-- Both calls' data. -/
def rdats : (p : Fin 2) → (c : Dev nD) → RDat τ (Elt F) Unit ℕ UU ℕ (Pipeline.pin (pcfgs (F := F)) adm p) c
  | ⟨0, _⟩ => fun c => (D0 m c).toR
  | ⟨1, _⟩ => fun c => D1 m c

/-- Both calls' data, exact. -/
def pdats : (p : Fin 2) → (c : Dev nD) → Dat τ (Elt F) Unit ℕ UU ℕ (Pipeline.pin (pcfgs (F := F)) adm p) c
  | ⟨0, _⟩ => fun c => D0 m c
  | ⟨1, _⟩ => fun c => dat1 (vals (W3 m)) c

/-- What rides along: nothing is owed. -/
abbrev Rest (c : Dev nD) : sProp 𝕄 := iprop(∃ W, owes (c : Thread nD τ) (0 : CellTallies nD τ sig Unit) W)

set_option backward.isDefEq.respectTransparency.types false in
/-- The first call over the buffers of @main. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body0 (vals (V1 m)) c).loose.toR
  hwaits := RDat.hwaits_of_owed_zero _ _ _ _ L lv 0 fun _ _ => rfl
  pre c := iprop(StableHlo.held (c : Thread nD τ) (Pipeline.ucRefs τ sig) (V1 m c) ∗ Rest c)
  post c := iprop(StableHlo.held (c : Thread nD τ) (Pipeline.ucRefs τ sig) (W2 m c) ∗ Rest c)
  X _ := BI.emp
  Y _ := BI.emp
  Z c := Pipeline.unscopedRest (Ix := Unit) (Name := ℕ) (U := UU) (Lvl := ℕ) spec0 c (vals (V1 m) c)
  hentry c := by
    rw [Pipeline.ownSems0_none, ← Pipeline.unscopedBufs_held (Ix := Unit) (Name := ℕ) (U := UU) (Lvl := ℕ) c (V1 m c)]
    have hsplit := RDat.arrays_of_unscopedBufs (p := 0) (pcfgs (F := F)) adm (rdats m) launch0.win launch0.arr_whole c
      ((pdats m 0 c).share_full fun _ => rfl) (vals (V1 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Pipeline.scopedRest spec0 c from rfl]
    iintro ⟨-, -, Hr⟩; iexact Hr
  hout c := by
    rw [Pipeline.ownSems0_none, show (rdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (vals (V1 m) c) (vals (W2 m) c) ((pdats m 0 c).arrAt · cfg0.N)
      (fun w => by
        fin_cases w
        · exact ((pdats m 0 c).arrAt_in 0 rfl _).trans (W2_of m c main_v0 (by decide)).symm
        · exact ((pdats m 0 c).arrAt_in 1 rfl _).trans (W2_of m c main_arg1 (by decide)).symm
        · exact ((pdats m 0 c).arrAt_in 2 rfl _).trans (W2_of m c main_v1 (by decide)).symm
        · exact (W2_0 m c).symm
        · exact (W2_1 m c).symm
        · exact (W2_2 m c).symm
        · exact (W2_3 m c).symm)
      (fun b hb => W2_of m c b fun h => hb (by
        simp only [List.mem_cons, List.mem_nil_iff, _root_.or_false] at h
        rcases h with rfl | rfl | rfl | rfl
        · exact Finset.mem_image.mpr ⟨3, Finset.mem_univ _, rfl⟩
        · exact Finset.mem_image.mpr ⟨4, Finset.mem_univ _, rfl⟩
        · exact Finset.mem_image.mpr ⟨5, Finset.mem_univ _, rfl⟩
        · exact Finset.mem_image.mpr ⟨6, Finset.mem_univ _, rfl⟩))
    have hpost : ((rdats m 0 c).arraysAt (Pipeline.pin (pcfgs (F := F)) adm 0).N : sProp 𝕄) ⊢ (pdats m 0 c).arrays ((pdats m 0 c).arrAt · cfg0.N) :=
      (D0 m c).toR_arraysAt_post cfg0.N
    rw [← Pipeline.unscopedBufs_held (Ix := Unit) (Name := ℕ) (U := UU) (Lvl := ℕ) c (W2 m c)]
    iintro ⟨Ha, HO, -, Hrest⟩
    ihave Hb := hpost $$ Ha
    imodintro
    isplitl [Hb Hrest]
    · iapply hjoin; isplitl [Hb] <;> iassumption
    unfold Pipeline.RDat.owesAt Pipeline.owesWithin
    icases HO with ⟨%W, -, HO⟩; iexists W; iexact HO

/-- The contents the second call may leave in its result. -/
def Sel (c : Dev nD) (f : Buf (Elt F) ((c : Thread nD τ).loc main_v21)) : Prop := (D1 m c).ArrAt 3 cfg1.N f

/-- Core `c`'s buffers after the second call, at some of the contents it may leave. -/
def held4 (W : Res F → Dev nD → Valuation τ sig (Elt F)) (c : Dev nD) : sProp 𝕄 :=
  iprop(∃ o, ⌜Sel m c (o c)⌝ ∗ StableHlo.held (c : Thread nD τ) (Pipeline.ucRefs τ sig) (W o c) ∗ Rest c)

/-- One core's choice, everywhere. -/
def oneRes (c : Dev nD) (f : Buf (Elt F) ((c : Thread nD τ).loc main_v21)) : Res F :=
  Function.update (fun c' => m ((c' : Thread nD τ).loc main_v21)) c f

theorem arrAt1_in (c : Dev nD) (w : Fin cfg1.W) (hw : (cfg1.win w).isOut = false) (f) (h : (D1 m c).ArrAt w cfg1.N f) : f = (D1 m c).A w := by
  rw [(D1 m c).ArrAt_in w hw] at h; exact h

set_option maxHeartbeats 1000000 in
set_option backward.isDefEq.respectTransparency.types false in
/-- The second call's arrays and the rest of the buffers are the buffers after it. -/
theorem join1 (c : Dev nD) (A : (w : Fin 4) → Buf (Elt F) ((cfg1.win w).arr.view.loc (c.tc : Thread nD τ)))
    (hA : ∀ w, (D1 m c).ArrAt w cfg1.N (A w)) :
    (iprop((pdats m 1 c).arrays A ∗ Pipeline.unscopedRest (Ix := Unit) (Name := ℕ) (U := UU) (Lvl := ℕ) spec1 c (vals (W3 m) c)) : sProp 𝕄)
      ⊢ unscopedBufs c (vals (W4 m (oneRes m c (A 3))) c) := by
  refine Pipeline.unscopedBufs_of_arrays (p := 1) (pcfgs (F := F)) adm (Ix := Unit) (Name := ℕ) (U := UU) (Lvl := ℕ) launch1.win launch1.arr_whole c
    (pdats m) ((pdats m 1 c).share_full fun _ => rfl) (vals (W3 m) c) (vals (W4 m (oneRes m c (A 3))) c) A ?_
    (fun b hb => W4_of m _ c b fun h => hb (h ▸ Finset.mem_image.mpr ⟨3, Finset.mem_univ _, rfl⟩))
  have e0 : (D1 m c).A 0 = W4 m (oneRes m c (A 3)) c main_v20 := (W4_of m _ c main_v20 (by decide)).symm
  have e1 : (D1 m c).A 1 = W4 m (oneRes m c (A 3)) c main_v18 := (W4_of m _ c main_v18 (by decide)).symm
  have e2 : (D1 m c).A 2 = W4 m (oneRes m c (A 3)) c main_v19 := (W4_of m _ c main_v19 (by decide)).symm
  have e3 : A 3 = W4 m (oneRes m c (A 3)) c main_v21 := ((W4_21 m _ c).trans (Function.update_self ..)).symm
  intro w
  fin_cases w
  · exact (arrAt1_in m c 0 rfl _ (hA 0)).trans e0
  · exact (arrAt1_in m c 1 rfl _ (hA 1)).trans e1
  · exact (arrAt1_in m c 2 rfl _ (hA 2)).trans e2
  · exact e3

set_option backward.isDefEq.respectTransparency.types false in
/-- The second call over the buffers of @main. -/
def reg1 : RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body1 (vals (W3 m)) (W3_zero m) c).toRRel
  hwaits := RDat.hwaits_of_owed_zero _ _ _ _ L lv 1 fun _ _ => rfl
  pre c := iprop(StableHlo.held (c : Thread nD τ) (Pipeline.ucRefs τ sig) (W3 m c) ∗ Rest c)
  post c := held4 m (W4 m) c
  X _ := BI.emp
  Y _ := BI.emp
  Z c := Pipeline.unscopedRest (Ix := Unit) (Name := ℕ) (U := UU) (Lvl := ℕ) spec1 c (vals (W3 m) c)
  hentry c := by
    rw [Pipeline.ownSems0_none, ← Pipeline.unscopedBufs_held (Ix := Unit) (Name := ℕ) (U := UU) (Lvl := ℕ) c (W3 m c)]
    have hsplit := RDat.arrays_of_unscopedBufs (p := 1) (pcfgs (F := F)) adm (rdats m) launch1.win launch1.arr_whole c
      ((pdats m 1 c).share_full fun _ => rfl) (vals (W3 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = Pipeline.scopedRest spec1 c from rfl]
    iintro ⟨-, -, Hr⟩; iexact Hr
  hout c := by
    rw [Pipeline.ownSems0_none, show (rdats m 1 c).Φ (Fin.last _) = Pipeline.scopedRest spec1 c from rfl]
    iintro Hr
    isplitr; · iempintro
    isplitr; · iempintro
    iexact Hr
  hexit c := by
    have hjoin := join1 m c
    have hopen : ((rdats m 1 c).arraysAt (Pipeline.pin (pcfgs (F := F)) adm 1).N : sProp 𝕄)
        ⊢ iprop(∃ A : (w : Fin 4) → Buf (Elt F) ((cfg1.win w).arr.view.loc (c.tc : Thread nD τ)),
          ⌜∀ w, (D1 m c).ArrAt w cfg1.N (A w)⌝ ∗ (pdats m 1 c).arrays A) := Opened.arraysAt (D1 m c) cfg1.N
    iintro ⟨Ha, HO, -, Hrest⟩
    ihave Hb := hopen $$ Ha
    icases Hb with ⟨%A, %hA, Hb⟩
    imodintro
    unfold held4
    iexists (oneRes m c (A 3))
    isplitr
    · ipureintro
      unfold Sel
      rw [show oneRes m c (A 3) c = A 3 from Function.update_self ..]
      exact hA 3
    rw [← Pipeline.unscopedBufs_held (Ix := Unit) (Name := ℕ) (U := UU) (Lvl := ℕ) c (W4 m (oneRes m c (A 3)) c)]
    isplitl [Hb Hrest]
    · iapply (hjoin A hA); isplitl [Hb] <;> iassumption
    unfold Pipeline.RDat.owesAt Pipeline.owesWithin
    icases HO with ⟨%W, -, HO⟩; iexists W; iexact HO

/-! ## The host stretches -/

/-- Before the first call. -/
def seg0 : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rest
/-- Between the calls. -/
def seg2 : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Rest

set_option backward.isDefEq.respectTransparency.types false in
/-- A host stretch after the second call, run at whatever that left. -/
def segAfter (ops : List (HloOp τ sig (Elt F))) (hS : ∀ op ∈ ops, op.bufs ⊆ Pipeline.ucRefs τ sig) (hf : ∀ op ∈ ops, op.fresh = ∅)
    (W : Res F → Dev nD → Valuation τ sig (Elt F)) :
    HostSeg (Ix := Unit) (Name := ℕ) (U := UU) (Lvl := ℕ) (pcfgs (F := F)) defs₀ 𝒱₀ L lv where
  prog := StableHlo.seq ops
  pre c := held4 m W c
  post c := held4 m (fun o c => StableHlo.after ops (W o c)) c
  run c {β} k K := by
    unfold held4
    iintro ⟨Hk, Hbd, ⟨%o, %ho, Hh, HR⟩, -⟩
    have hseq := StableHlo.wp_seq (defs := Pipeline.defs (pcfgs (F := F)) defs₀) (Variants.lift 𝒱₀) none Set.univ c (Pipeline.ucRefs τ sig) k (K := K) ops hS hf (W o c)
    iapply hseq $$ [Hbd Hh]
    · isplitl [Hbd] <;> iassumption
    iintro ⟨Hbd, Hh⟩
    iapply Hk
    isplitl [Hbd]; · iexact Hbd
    iexists o
    isplitr; · ipureintro; exact ho
    isplitl [Hh] <;> iassumption

/-- After the second call, -/
def seg4 : HostSeg (Ix := Unit) (Name := ℕ) (U := UU) (Lvl := ℕ) (pcfgs (F := F)) defs₀ 𝒱₀ L lv :=
  segAfter m hostOps2 (fun op h => Pipeline.sub_ucRefs op ((List.forall_iff_forall_mem.mp hostOps2_sub) op h))
    (fun op h => (List.forall_iff_forall_mem.mp hostOps2_fresh) op h) (W4 m)
/-- and its last operation. -/
def seg5 : HostSeg (Ix := Unit) (Name := ℕ) (U := UU) (Lvl := ℕ) (pcfgs (F := F)) defs₀ 𝒱₀ L lv :=
  segAfter m hostOps2_1 (fun op h => Pipeline.sub_ucRefs op ((List.forall_iff_forall_mem.mp hostOps2_1_sub) op h))
    (fun op h => (List.forall_iff_forall_mem.mp hostOps2_1_fresh) op h) (W5 m)

/-- @main's items. -/
def items : List (RDat.Seg (pcfgs (F := F)) adm (rdats m) () defs₀ 𝒱₀ L lv) :=
  [.host (seg0 m), .region (reg0 m), .host (seg2 m), .region (reg1 m), .host (seg4 m), .host (seg5 m)]

/-! ## The run -/

/-- What is read of a core's buffers at the end. -/
def Ends (c : Dev nD) (s : MemSt nD τ sig (Elt F)) : Prop :=
  ∃ o, Sel m c (o c) ∧ s.mem ((c.tc : Thread nD τ).loc main_v3) = W3 m c main_v3
    ∧ s.mem ((c.tc : Thread nD τ).loc main_v30) = W6 m o c main_v30
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)

set_option backward.isDefEq.respectTransparency.types false in
/-- From any launch memory every run ends, with the buffers as computed and every semaphore at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine RDat.θ_run_regions_kit_dev_sems (pcfgs (F := F)) adm (rdats m) () cellOf_inj emb₁ defs₀ 𝒱₀ L lv m ρ main
    (fun _ => items m)
    (fun c Q => by
      rewrite [main_chain c, RDat.Seg.run_eq_chain,
        show (items m).map RDat.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1 ] from rfl]
      dsimp (config := { failIfUnchanged := false }) only
      exact .rfl)
    (fun c => by simp only [items, RDat.Seg.pipes_host, RDat.Seg.pipes_region, RDat.Seg.pipes_nil]; decide)
    (O₀ := 0) (fun _ _ => rfl) (G := fun _ => iprop(emp))
    (u₀ := Rounds.initOf (Pipeline.cells (Pipeline.pin (pcfgs (F := F)) adm) cellOf_inj) (Pipeline.launchToks (Pipeline.pin (pcfgs (F := F)) adm) cellOf_inj)) ?_
    (T₀ := fun c => iprop(StableHlo.held (c : Thread nD τ) (Pipeline.ucRefs τ sig) (V0 m c) ∗ Rest c))
    (Tₙ := fun c => iprop(∃ o, ⌜Sel m c (o c)⌝ ∗ StableHlo.held (c : Thread nD τ) (Pipeline.ucRefs τ sig) (W6 m o c)))
    (hch := fun c => ⟨.rfl, .rfl, .rfl, .rfl, .rfl, .rfl, ?_⟩)
    (hinit := ?_) (QY := Ends m)
    (hfin := fun c s' => ?_) (hQ := fun _ h hz => ⟨h, funext fun g => hz g (.inr (regions_no_unscoped g.2))⟩)
  · iintro Hu
    imodintro
    isplitl [Hu]; · rw [← ownU_emb₁]; iexact Hu
    iapply (show (BI.emp : sProp 𝕄) ⊢ bigSep Finset.univ (fun _ : Dev nD => (BI.emp : sProp 𝕄)) from by rw [BI.bigSep_emp_const])
    iempintro
  · show held4 m (fun o c => StableHlo.after hostOps2_1 (W5 m o c)) c ⊢ _
    unfold held4
    iintro ⟨%o, %ho, Hh, HR⟩
    isplitl [Hh]
    · iexists o
      isplitr; · ipureintro; exact ho
      iexact Hh
    iexact HR
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨⟨%o, %ho, Hh⟩, HSI⟩
    ihave Hr := (pointsTo_read_all (Pipeline.ucRefs τ sig) (fun b => ((c : Thread nD τ).1, b)) (W6 m o c) s') $$ [Hh HSI]
    · isplitl [Hh] <;> iassumption
    icases Hr with ⟨%h, HSI⟩
    imodintro
    isplitr
    · ipureintro
      have at_ : ∀ r : Ref sig .tc, (Proc.devRef .tc r : DevRef τ sig).isScoped = false → s'.mem.mem ((c.tc : Thread nD τ).loc r) = W6 m o c r :=
        fun r hr => h (Proc.devRef .tc r) (Finset.mem_filter.mpr ⟨StableHlo.devRef_mem_tcRefs r, by rw [hr]; decide⟩)
      refine ⟨o, ho, (at_ main_v3 rfl).trans ?_, at_ main_v30 rfl, (at_ main_arg0 rfl).trans (W6_launch m o c _ (by decide)),
        (at_ main_arg1 rfl).trans (W6_launch m o c _ (by decide)), (at_ main_arg2 rfl).trans (W6_launch m o c _ (by decide))⟩
      rw [W6_of m o c _ (by decide), W5_of m o c _ (by decide), W4_of m o c _ (by decide)]
    · iexact HSI

end Cert.KernelIdeal.Run

end
-- ==== Proof.Frames.lean ====
/- The frame claims: what the whole-run theorems say of the arguments and of the semaphores. -/
module

public import proofs.«01_k».proof.Defs
public import proofs.«01_k».proof.Proof.RunKernel
public import proofs.«01_k».proof.Proof.RunKernelIdeal
public import proofs.«01_k».proof.Proof.Gen.ReferenceIdeal.Run
public import Idealize.ShloMosaic.Lib.StableHlo.Run
public import Idealize.ShloMosaic.Adequacy

@[expose] public section

noncomputable section

namespace Cert.Frames

open Idealize.ShloMosaic Idealize.SL.Sem

/-- The kernel as written ends with its arguments unchanged and every semaphore at zero. -/
theorem kernel : quiescent_Kernel (hKernel := Cert.Kernel.Gen.facts) := fun m g _ =>
  (θ_run Cert.Kernel.defs _ _).mono
    (fun _ h => ⟨fun c => let ⟨_, _, _, _, h0, h1, h2⟩ := h.1 c; ⟨h0, h1, h2⟩, h.2⟩)
    (Cert.Kernel.Run.run (F := Bits) m g)

/-- So does the idealized kernel. -/
theorem ideal : quiescent_KernelIdeal (hKernelIdeal := Cert.KernelIdeal.Gen.facts) := fun m g _ =>
  (θ_run Cert.KernelIdeal.defs _ _).mono
    (fun _ h => ⟨fun c => let ⟨_, _, _, _, h0, h1, h2⟩ := h.1 c; ⟨h0, h1, h2⟩, h.2⟩)
    (Cert.KernelIdeal.Run.run (F := Ideal) m g)

/-- The reference ends with its arguments unchanged; it declares no semaphore. -/
theorem reference : quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩)
    (Cert.ReferenceIdeal.Value.run (F := Ideal) m g)

end Cert.Frames

end
-- ==== Proof.Cells.lean ====
/- The circuit on one sample and one input mode, over the extended reals: sixteen cells pass through eight
   layers of two-row blocks. Both programs' arrays are read off in these terms. -/
module

public import Mathlib.Data.EReal.Basic
public import Mathlib.Data.EReal.Operations

@[expose] public section

namespace Cert.Cells

/-- A real and an imaginary part. -/
abbrev Cell := EReal × EReal

/-- The first row after a block. -/
noncomputable def block0 (ct st cp sp : EReal) (u v : Cell) : Cell :=
  (cp * ct * u.1 - sp * ct * u.2 - st * v.1, cp * ct * u.2 + sp * ct * u.1 - st * v.2)

/-- The second row after a block. -/
noncomputable def block1 (ct st cp sp : EReal) (u v : Cell) : Cell :=
  (cp * st * u.1 - sp * st * u.2 + ct * v.1, cp * st * u.2 + sp * st * u.1 + ct * v.2)

/-- One layer's blocks from number `n` on; `C` and `S` are the cosines and sines of the angles, two per block. -/
noncomputable def sweep (C S : Nat → EReal) : Nat → List Cell → List Cell
  | n, u :: v :: l =>
    block0 (C (2 * n)) (S (2 * n)) (C (2 * n + 1)) (S (2 * n + 1)) u v ::
    block1 (C (2 * n)) (S (2 * n)) (C (2 * n + 1)) (S (2 * n + 1)) u v :: sweep C S (n + 1) l
  | _, l => l

/-- An odd layer leaves the first row alone. -/
noncomputable def oddSweep (C S : Nat → EReal) (n : Nat) : List Cell → List Cell
  | u :: l => u :: sweep C S n l
  | [] => []

/-- Pairs of layers. -/
noncomputable def layers (C S : Nat → EReal) : Nat → Nat → List Cell → List Cell
  | 0, _, l => l
  | d + 1, n, l => layers C S d (n + 15) (oddSweep C S (n + 8) (sweep C S n l))

/-- The values of `f` from `i` on, `len` of them. -/
def tab (f : Nat → Cell) : Nat → Nat → List Cell
  | _, 0 => []
  | i, len + 1 => f i :: tab f (i + 1) len

theorem tab_getD (f : Nat → Cell) (d : Cell) : ∀ (len i m : Nat), m < len → (tab f i len).getD m d = f (i + m)
  | 0, _, _, h => absurd h (Nat.not_lt_zero _)
  | len + 1, i, 0, _ => rfl
  | len + 1, i, m + 1, h => by
    show (tab f (i + 1) len).getD m d = _
    rw [tab_getD f d len (i + 1) m (by omega)]
    congr 1
    omega

theorem tab_congr (f g : Nat → Cell) : ∀ (len i : Nat), (∀ m, m < len → f (i + m) = g (i + m)) → tab f i len = tab g i len
  | 0, _, _ => rfl
  | len + 1, i, h => by
    have h0 := h 0 (by omega)
    unfold tab
    rw [tab_congr f g len (i + 1) fun m hm => by have := h (m + 1) (by omega); rwa [show i + 1 + m = i + (m + 1) by omega]]
    rw [show i = i + 0 from rfl, h0]

/-- A layer read block by block; a row left over at the end stays. -/
theorem sweep_tab (C S : Nat → EReal) (f g : Nat → Cell) (e : Nat) (he : e < 2) : ∀ (k n i : Nat),
    (∀ p, p < k → g (i + 2 * p) = block0 (C (2 * (n + p))) (S (2 * (n + p))) (C (2 * (n + p) + 1)) (S (2 * (n + p) + 1))
        (f (i + 2 * p)) (f (i + (2 * p + 1)))
      ∧ g (i + (2 * p + 1)) = block1 (C (2 * (n + p))) (S (2 * (n + p))) (C (2 * (n + p) + 1)) (S (2 * (n + p) + 1))
        (f (i + 2 * p)) (f (i + (2 * p + 1)))) →
    (∀ q, q < e → g (i + 2 * k + q) = f (i + 2 * k + q)) →
    sweep C S n (tab f i (e + 2 * k)) = tab g i (e + 2 * k)
  | 0, n, i, _, hl => by
    obtain rfl | rfl : e = 0 ∨ e = 1 := by omega
    · rfl
    · have : g i = f i := hl 0 (by omega)
      show [f i] = [g i]
      rw [this]
  | k + 1, n, i, h, hl => by
    show sweep C S n (f i :: f (i + 1) :: tab f (i + 1 + 1) (e + 2 * k)) = g i :: g (i + 1) :: tab g (i + 1 + 1) (e + 2 * k)
    have h0 := h 0 (by omega)
    have ih := sweep_tab C S f g e he k (n + 1) (i + 1 + 1) (fun p hp => by
      have := h (p + 1) (by omega)
      rw [show i + 1 + 1 + 2 * p = i + 2 * (p + 1) by omega, show i + 1 + 1 + (2 * p + 1) = i + (2 * (p + 1) + 1) by omega,
        show n + 1 + p = n + (p + 1) by omega]
      exact this) (fun q hq => by
      have := hl q hq
      rwa [show i + 1 + 1 + 2 * k + q = i + 2 * (k + 1) + q by omega])
    unfold sweep
    rw [ih]
    have e0 : g i = _ := h0.1
    have e1 : g (i + 1) = _ := h0.2
    rw [e0, e1]
    rfl

/-! ## Every cell is a real number when the cosines, the sines and the first cells are -/

/-- An extended real that is a real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩
theorem IsReal.coe {x : EReal} : IsReal x → ((x.toReal : ℝ) : EReal) = x := fun ⟨a, ha⟩ => by rw [ha, EReal.toReal_coe]

theorem isReal_zero : IsReal 0 := ⟨0, rfl⟩
theorem isReal_one : IsReal 1 := ⟨1, rfl⟩

/-- Both parts real. -/
def RealCell (u : Cell) : Prop := IsReal u.1 ∧ IsReal u.2

section
variable {C S : Nat → EReal} (hC : ∀ r, IsReal (C r)) (hS : ∀ r, IsReal (S r))
include hC hS

theorem sweep_real : ∀ (n : Nat) (l : List Cell), (∀ u ∈ l, RealCell u) → ∀ u ∈ sweep C S n l, RealCell u
  | n, u :: v :: l, h => by
    have hu := h u (by simp)
    have hv := h v (by simp)
    have hl := sweep_real (n + 1) l fun w hw => h w (by simp [hw])
    intro w hw
    unfold sweep at hw
    rcases List.mem_cons.mp hw with e | hw
    · rw [e]
      exact ⟨((((hC _).mul (hC _)).mul hu.1).sub (((hS _).mul (hC _)).mul hu.2)).sub ((hS _).mul hv.1),
        ((((hC _).mul (hC _)).mul hu.2).add (((hS _).mul (hC _)).mul hu.1)).sub ((hS _).mul hv.2)⟩
    rcases List.mem_cons.mp hw with e | hw
    · rw [e]
      exact ⟨((((hC _).mul (hS _)).mul hu.1).sub (((hS _).mul (hS _)).mul hu.2)).add ((hC _).mul hv.1),
        ((((hC _).mul (hS _)).mul hu.2).add (((hS _).mul (hS _)).mul hu.1)).add ((hC _).mul hv.2)⟩
    · exact hl w hw
  | _, [], h => h
  | _, [_], h => h

theorem oddSweep_real (n : Nat) : ∀ (l : List Cell), (∀ u ∈ l, RealCell u) → ∀ u ∈ oddSweep C S n l, RealCell u
  | u :: l, h => by
    intro w hw
    rcases List.mem_cons.mp hw with e | hw
    · rw [e]
      exact h u (by simp)
    · exact sweep_real hC hS n l (fun x hx => h x (by simp [hx])) w hw
  | [], h => h

theorem layers_real : ∀ (d n : Nat) (l : List Cell), (∀ u ∈ l, RealCell u) → ∀ u ∈ layers C S d n l, RealCell u
  | 0, _, _, h => h
  | d + 1, n, l, h => layers_real d _ _ (oddSweep_real hC hS _ _ (sweep_real hC hS _ _ h))

end

theorem sweep_length (C S : Nat → EReal) : ∀ n l, (sweep C S n l).length = l.length
  | n, u0 :: u1 :: l => by simp [sweep, sweep_length C S (n + 1) l]
  | _, [] => rfl
  | _, [_] => rfl

theorem oddSweep_length (C S : Nat → EReal) (n : Nat) : ∀ l, (oddSweep C S n l).length = l.length
  | u :: l => by simp [oddSweep, sweep_length]
  | [] => rfl

theorem layers_length (C S : Nat → EReal) : ∀ d n l, (layers C S d n l).length = l.length
  | 0, _, _ => rfl
  | d + 1, n, l => by rw [layers, layers_length C S d, oddSweep_length, sweep_length]

/-- The cells before the first layer: one in row `a`. -/
noncomputable def first (a m : Nat) : Cell := (if m = a then 1 else 0, 0)

/-- The sixteen cells after all the layers, for input mode `a`. -/
noncomputable def out (C S : Nat → EReal) (a m : Nat) : Cell := (layers C S 4 0 (tab (first a) 0 16)).getD m (0, 0)

theorem tab_mem (f : Nat → Cell) : ∀ (len i : Nat) (u : Cell), u ∈ tab f i len → ∃ m, u = f m
  | 0, _, _, h => absurd h (by simp [tab])
  | len + 1, i, u, h => by
    rcases List.mem_cons.mp h with e | h
    · exact ⟨i, e⟩
    · exact tab_mem f len (i + 1) u h

theorem out_real {C S : Nat → EReal} (hC : ∀ r, IsReal (C r)) (hS : ∀ r, IsReal (S r)) (a m : Nat) : RealCell (out C S a m) := by
  unfold out
  by_cases h : m < (layers C S 4 0 (tab (first a) 0 16)).length
  · rw [List.getD_eq_getElem?_getD, List.getElem?_eq_getElem h, Option.getD_some]
    refine layers_real hC hS 4 0 _ (fun u hu => ?_) _ (List.getElem_mem h)
    obtain ⟨k, rfl⟩ := tab_mem _ _ _ _ hu
    refine ⟨?_, isReal_zero⟩
    unfold first
    split
    · exact isReal_one
    · exact isReal_zero
  · rw [List.getD_eq_getElem?_getD, List.getElem?_eq_none (by omega), Option.getD_none]
    exact ⟨isReal_zero, isReal_zero⟩

end Cert.Cells

end
-- ==== Proof.Angles.lean ====
/- The embedding and the angles, sample by sample, as both programs compute them. -/
module

public import Idealize.ShloMosaic.Lib.ValueIdx
public import Idealize.ShloMosaic.Lib.IdealHost
public import Idealize.ShloMosaic.PureOps.Ideal.Laws
public import proofs.«01_k».proof.Proof.Cells

@[expose] public section

noncomputable section

namespace Cert.Angles

open Idealize.ShloMosaic Idealize.ShloMosaic.ValueIdx Cert.Cells

/-- The logistic of row `r` of the affine map at sample `s`. -/
def emb (x : FVec Ideal ⟨2, ![256, 64]⟩ .f32) (w : FVec Ideal ⟨2, ![120, 64]⟩ .f32) (b : FVec Ideal ⟨1, ![120]⟩ .f32)
    (s : Fin 256) (r : Fin 120) : EReal :=
  Ideal.logistic ((∑ k : Fin 64, w (ix2 r k) * x (ix2 s k)) + b (ix1 r))

/-- The angle with number `r`: a quarter turn's share on the even numbers, a whole turn's on the odd ones. -/
def angle (e : EReal) (r : Nat) : EReal :=
  e * (if r % 2 = 0 then Ideal.ofBits .f32 0x3FC90FDB#32 else Ideal.ofBits .f32 0x40C90FDB#32)

abbrev row (r : Nat) : Fin 120 := ⟨r % 120, Nat.mod_lt _ (by decide)⟩

/-- The cosine and the sine of angle `r`. -/
def cosOf (e : Fin 120 → EReal) (r : Nat) : EReal := Ideal.cos (angle (e (row r)) r)
def sinOf (e : Fin 120 → EReal) (r : Nat) : EReal := Ideal.sin (angle (e (row r)) r)

theorem logistic_real (x : EReal) : IsReal (Ideal.logistic x) := by
  unfold Ideal.logistic
  induction x using EReal.rec with
  | bot =>
    refine ⟨0, ?_⟩
    rw [EReal.neg_bot, show Ideal.exp ⊤ = ⊤ from rfl]
    have e : (1 : EReal) + ⊤ = ⊤ := rfl
    rw [e, Ideal.div, if_neg (by simp)]
    simp
  | top =>
    refine ⟨1, ?_⟩
    rw [EReal.neg_top, show Ideal.exp ⊥ = 0 from rfl]
    simp [Ideal.div]
  | coe r =>
    refine ⟨(1 + Real.exp (-r))⁻¹, ?_⟩
    have h : (1 : ℝ) + Real.exp (-r) ≠ 0 := by positivity
    have e : (1 : EReal) + Ideal.exp (-(r : EReal)) = ((1 + Real.exp (-r) : ℝ) : EReal) := by
      rw [← EReal.coe_neg, EReal.coe_add]
      rfl
    rw [e, Ideal.div, if_neg (by exact_mod_cast h), one_mul, ← EReal.coe_inv]

theorem cos_real {x : EReal} : IsReal x → IsReal (Ideal.cos x) := fun ⟨r, h⟩ => ⟨Real.cos r, by rw [h]; rfl⟩
theorem sin_real {x : EReal} : IsReal x → IsReal (Ideal.sin x) := fun ⟨r, h⟩ => ⟨Real.sin r, by rw [h]; rfl⟩

theorem quarter_real : IsReal (Ideal.ofBits .f32 0x3FC90FDB#32) := by
  simp [Ideal.ofBits, Ideal.ieee, -EReal.coe_mul]
  exact ⟨_, rfl⟩

theorem whole_real : IsReal (Ideal.ofBits .f32 0x40C90FDB#32) := by
  simp [Ideal.ofBits, Ideal.ieee, -EReal.coe_mul]
  exact ⟨_, rfl⟩

theorem angle_real {e : EReal} (h : IsReal e) (r : Nat) : IsReal (angle e r) := by
  unfold angle
  split
  · exact h.mul quarter_real
  · exact h.mul whole_real

/-- Mode `m`, column `a` of sample `s` after the eight layers. -/
def cell (x : FVec Ideal ⟨2, ![256, 64]⟩ .f32) (w : FVec Ideal ⟨2, ![120, 64]⟩ .f32) (b : FVec Ideal ⟨1, ![120]⟩ .f32)
    (s : Fin 256) (a m : Nat) : Cell := out (cosOf (emb x w b s)) (sinOf (emb x w b s)) a m

theorem cell_real (x : FVec Ideal ⟨2, ![256, 64]⟩ .f32) (w : FVec Ideal ⟨2, ![120, 64]⟩ .f32) (b : FVec Ideal ⟨1, ![120]⟩ .f32)
    (s : Fin 256) (a m : Nat) : RealCell (cell x w b s a m) :=
  out_real (fun r => cos_real (angle_real (logistic_real _) r)) (fun r => sin_real (angle_real (logistic_real _) r)) a m

end Cert.Angles

end
-- ==== Proof.KernelRows.lean ====
/- What the first body leaves, in terms of cells. -/
module

public import proofs.«01_k».proof.Proof.BuildRun
public import proofs.«01_k».proof.Proof.Angles
public import Idealize.ShloMosaic.Lib.Pipeline.Value

@[expose] public section

noncomputable section

namespace Cert.Build

open Idealize.ShloMosaic Idealize.ShloMosaic.ValueIdx

/-- A row at column `a` of lane `c`. -/
def rowAt (a : Fin 8) (c : Fin 128) (u : Row Ideal) : Cells.Cell := (u.1 (ix2 a c), u.2 (ix2 a c))

/-- Row `r` of lane `c`, the rows taken round. -/
def lane (X : FVec Ideal B120x128 .f32) (c : Fin 128) (r : Nat) : EReal := X (ix2 (Angles.row r) c)

theorem wide_at (v : FVec Ideal B1x128 .f32) (a : Fin 8) (c : Fin 128) : wide v (ix2 a c) = v (ix2 (0 : Fin 1) c) :=
  broadcastTo_apply v _ _ _ fun b => by fin_cases b <;> rfl

theorem rowOf_at (X : Vec Ideal B120x128 .f32) (r : Fin 120) (c : Fin 128) :
    rowOf X r (ix2 (0 : Fin 1) c) = (X : FVec Ideal B120x128 .f32) (ix2 r c) := by
  show X _ = X _
  congr 1
  funext b
  apply Fin.ext
  fin_cases b
  · show r.val + 1 * 0 = r.val
    omega
  · show 0 + 1 * c.val = c.val
    omega

theorem blk0_at (X Y : Vec Ideal B120x128 .f32) (t p : Fin 120) (u v : Row Ideal) (a : Fin 8) (c : Fin 128) :
    rowAt a c (blk0 (rowOf X t) (rowOf Y t) (rowOf X p) (rowOf Y p) u v)
      = Cells.block0 ((X : FVec Ideal B120x128 .f32) (ix2 t c)) ((Y : FVec Ideal B120x128 .f32) (ix2 t c))
        ((X : FVec Ideal B120x128 .f32) (ix2 p c)) ((Y : FVec Ideal B120x128 .f32) (ix2 p c)) (rowAt a c u) (rowAt a c v) := by
  unfold rowAt Cells.block0
  refine Prod.ext ?_ ?_
  · simp only [subf, addf, mulf, wide_at]
    rw [rowOf_at X t c, rowOf_at X p c, rowOf_at Y t c, rowOf_at Y p c]
    rfl
  · simp only [subf, addf, mulf, wide_at]
    rw [rowOf_at X t c, rowOf_at X p c, rowOf_at Y t c, rowOf_at Y p c]
    rfl

theorem blk1_at (X Y : Vec Ideal B120x128 .f32) (t p : Fin 120) (u v : Row Ideal) (a : Fin 8) (c : Fin 128) :
    rowAt a c (blk1 (rowOf X t) (rowOf Y t) (rowOf X p) (rowOf Y p) u v)
      = Cells.block1 ((X : FVec Ideal B120x128 .f32) (ix2 t c)) ((Y : FVec Ideal B120x128 .f32) (ix2 t c))
        ((X : FVec Ideal B120x128 .f32) (ix2 p c)) ((Y : FVec Ideal B120x128 .f32) (ix2 p c)) (rowAt a c u) (rowAt a c v) := by
  unfold rowAt Cells.block1
  refine Prod.ext ?_ ?_
  · simp only [subf, addf, mulf, wide_at]
    rw [rowOf_at X t c, rowOf_at X p c, rowOf_at Y t c, rowOf_at Y p c]
    rfl
  · simp only [subf, addf, mulf, wide_at]
    rw [rowOf_at X t c, rowOf_at X p c, rowOf_at Y t c, rowOf_at Y p c]
    rfl

theorem sweep_at (X Y : Vec Ideal B120x128 .f32) (a : Fin 8) (c : Fin 128) : ∀ (n : Nat) (l : List (Row Ideal)),
    (sweepV X Y n l).map (rowAt a c) = Cells.sweep (lane X c) (lane Y c) n (l.map (rowAt a c))
  | n, u :: v :: l => by
    unfold sweepV
    rw [List.map_cons, List.map_cons, blk0_at, blk1_at, sweep_at X Y a c (n + 1) l]
    rfl
  | _, [] => rfl
  | _, [_] => rfl

theorem oddSweep_at (X Y : Vec Ideal B120x128 .f32) (a : Fin 8) (c : Fin 128) (n : Nat) : ∀ (l : List (Row Ideal)),
    (oddSweepV X Y n l).map (rowAt a c) = Cells.oddSweep (lane X c) (lane Y c) n (l.map (rowAt a c))
  | u :: l => by
    unfold oddSweepV
    rw [List.map_cons, sweep_at X Y a c n l]
    rfl
  | [] => rfl

theorem layers_at (X Y : Vec Ideal B120x128 .f32) (a : Fin 8) (c : Fin 128) : ∀ (d n : Nat) (l : List (Row Ideal)),
    (layersV X Y d n l).map (rowAt a c) = Cells.layers (lane X c) (lane Y c) d n (l.map (rowAt a c))
  | 0, _, _ => rfl
  | d + 1, n, l => by
    unfold layersV
    rw [layers_at X Y a c d, oddSweep_at, sweep_at]
    rfl

theorem start_at (a : Fin 8) (c : Fin 128) (m : Nat) (hm : m < 16) : rowAt a c (start (BitVec.ofNat 32 m)) = Cells.first a.val m := by
  refine Prod.ext ?_ Ideal.ofBits_zero_f32
  have e : ∀ (a : Fin 8) (m : Fin 16), (IntOp.cmpi .eq (BitVec.ofNat 32 (0 * 8 + a.val)) (BitVec.ofNat 32 m.val)).setWidth 32
      = if m.val = a.val then 1#32 else 0#32 := by decide
  show ((((IntOp.cmpi .eq (BitVec.ofNat 32 (0 * 8 + a.val)) (BitVec.ofNat 32 m)).setWidth 32 : BitVec 32).toInt : ℝ) : EReal)
    = if m = a.val then 1 else 0
  rw [e a ⟨m, hm⟩]
  show (((if m = a.val then 1#32 else 0#32 : BitVec 32).toInt : ℝ) : EReal) = _
  split <;> simp

theorem starts_at (a : Fin 8) (c : Fin 128) : (starts (F := Ideal)).map (rowAt a c) = Cells.tab (Cells.first a.val) 0 16 := by
  have h := start_at a c
  simp only [starts, List.map, Cells.tab]
  rw [h 0 (by decide), h 1 (by decide), h 2 (by decide), h 3 (by decide), h 4 (by decide), h 5 (by decide), h 6 (by decide),
    h 7 (by decide), h 8 (by decide), h 9 (by decide), h 10 (by decide), h 11 (by decide), h 12 (by decide), h 13 (by decide),
    h 14 (by decide), h 15 (by decide)]

theorem parity_first : ∀ r : Fin 120, rowParity (ix2 r (0 : Fin 128)) = BitVec.ofNat 32 (r.val % 2) := by decide +kernel

theorem parity_at (r : Fin 120) (c : Fin 128) : rowParity (ix2 r c) = BitVec.ofNat 32 (r.val % 2) := parity_first r

theorem angle_at (e : FVec Ideal B120x128 .f32) (c : Fin 128) (r : Nat) :
    angle e (ix2 (Angles.row r) c) = Angles.angle (e (ix2 (Angles.row r) c)) r := by
  have h := parity_at (Angles.row r) c
  have h2 : (Angles.row r).val % 2 = r % 2 := by show r % 120 % 2 = r % 2; omega
  rw [h2] at h
  unfold angle Angles.angle
  show e _ * (if IntOp.cmpi .eq (rowParity (ix2 (Angles.row r) c)) (0#32) = 1 then _ else _) = _
  rw [h]
  obtain h3 | h3 : r % 2 = 0 ∨ r % 2 = 1 := by omega
  · rw [h3, if_pos (show IntOp.cmpi .eq (BitVec.ofNat 32 0) (0#32) = 1 by decide), if_pos rfl]
    rfl
  · rw [h3, if_neg (show ¬ IntOp.cmpi .eq (BitVec.ofNat 32 1) (0#32) = 1 by decide), if_neg (by decide)]
    rfl

/-- The rows after all the layers. -/
theorem rows_at (e : FVec Ideal B120x128 .f32) (a : Fin 8) (c : Fin 128) (m : Nat) (hm : m < 16) :
    rowAt a c ((rowsV e).getD m noRow)
      = Cells.out (Angles.cosOf fun r => e (ix2 r c)) (Angles.sinOf fun r => e (ix2 r c)) a.val m := by
  have hl : m < (rowsV e).length := by
    unfold rowsV
    rw [layersV_length]
    exact hm
  have hC : lane (shapeCast B120x128 (cos (angle e)) (by decide)) c = Angles.cosOf fun r => e (ix2 r c) := by
    funext r
    show shapeCast B120x128 (cos (angle e)) _ _ = _
    rw [shapeCast_apply _ _ _ _ rfl]
    show Ideal.cos (angle e _) = _
    rw [angle_at]
    rfl
  have hS : lane (shapeCast B120x128 (sin (angle e)) (by decide)) c = Angles.sinOf fun r => e (ix2 r c) := by
    funext r
    show shapeCast B120x128 (sin (angle e)) _ _ = _
    rw [shapeCast_apply _ _ _ _ rfl]
    show Ideal.sin (angle e _) = _
    rw [angle_at]
    rfl
  have h := layers_at (shapeCast B120x128 (cos (angle e)) (by decide)) (shapeCast B120x128 (sin (angle e)) (by decide)) a c 4 0 starts
  rw [hC, hS, starts_at] at h
  unfold Cells.out
  rw [← h, List.getD_eq_getElem?_getD, List.getD_eq_getElem?_getD, List.getElem?_map]
  show rowAt a c ((rowsV e)[m]?.getD noRow) = (Option.map (rowAt a c) (rowsV e)[m]?).getD (0, 0)
  rw [List.getElem?_eq_getElem hl]
  rfl

end Cert.Build

end
-- ==== Proof.KernelFirst.lean ====
/- What the first call leaves in its four arrays, entry by entry. -/
module

public import proofs.«01_k».proof.Proof.RunKernelIdeal
public import proofs.«01_k».proof.Proof.KernelRows
public import Idealize.ShloMosaic.Lib.Pipeline.Value

@[expose] public section

noncomputable section

namespace Cert.KernelIdeal.Run

open Cert.KernelIdeal Cert.KernelIdeal.Gen Cert.Build
open Idealize.ShloMosaic Idealize.ShloMosaic.ValueIdx
open Idealize.ShloMosaic.TcCoe
open Idealize.ShloMosaic.Pipeline (Dat)

variable (m : (ℓ : Loc nD τ sig) → Buf (Elt Ideal) ℓ)

/-- The three arguments. -/
abbrev xArg (c : Dev nD) : FVec Ideal ⟨2, ![256, 64]⟩ .f32 := m ((c : Thread nD τ).loc main_arg0)
abbrev wArg (c : Dev nD) : FVec Ideal ⟨2, ![120, 64]⟩ .f32 := m ((c : Thread nD τ).loc main_arg1)
abbrev bArg (c : Dev nD) : FVec Ideal ⟨1, ![120]⟩ .f32 := m ((c : Thread nD τ).loc main_arg2)

/-- Lane `l` of block `t`, as a sample. -/
abbrev lane0 (t : Fin cfg0.N) (l : Fin 128) : Fin 256 :=
  ⟨t.val * 128 + l.val, by have h : t.val < 2 := t.isLt; have := l.isLt; omega⟩

theorem quad_ext {a b e f : Nat} (y : (⟨4, ![a, b, e, f]⟩ : Shape).Idx) : y = ix4 (y 0) (y 1) (y 2) (y 3) := by
  funext d
  fin_cases d <;> rfl

/-! ## Where the blocks lie -/

theorem idx0_0 : ∀ t : Fin cfg0.N, win0_0.index t 0 = 0 ∧ win0_0.index t 1 = t.val := by decide +kernel
theorem idx0_1 : ∀ t : Fin cfg0.N, win0_1.index t 0 = 0 ∧ win0_1.index t 1 = 0 := by decide +kernel
theorem idx0_2 : ∀ t : Fin cfg0.N, win0_2.index t 0 = 0 ∧ win0_2.index t 1 = 0 := by decide +kernel
theorem idx0_3 : ∀ t : Fin cfg0.N, win0_3.index t 0 = 0 ∧ win0_3.index t 1 = t.val := by decide +kernel
theorem idx0_4 : ∀ t : Fin cfg0.N, win0_4.index t 0 = 0 ∧ win0_4.index t 1 = 0 ∧ win0_4.index t 2 = t.val := by decide +kernel
theorem idx0_5 : ∀ t : Fin cfg0.N, win0_5.index t 0 = 0 ∧ win0_5.index t 1 = 0 ∧ win0_5.index t 2 = t.val := by decide +kernel
theorem idx0_6 : ∀ t : Fin cfg0.N, win0_6.index t 0 = t.val ∧ win0_6.index t 1 = 0 ∧ win0_6.index t 2 = 0 ∧ win0_6.index t 3 = 0 := by
  decide +kernel

theorem place0_0 (t : Fin cfg0.N) (y : (⟨2, ![64, 128]⟩ : Shape).Idx) : ((cfg0.win 0).blk t).view.emb y = ix2 (y 0) (lane0 t (y 1)) := by
  obtain ⟨e0, e1⟩ := idx0_0 t
  funext a
  apply Fin.ext
  match a with
  | ⟨0, _⟩ => show win0_0.index t (0 : Fin 2) * 64 + 1 * (y 0).val = (y 0).val; omega
  | ⟨1, _⟩ => show win0_0.index t (1 : Fin 2) * 128 + 1 * (y 1).val = t.val * 128 + (y 1).val; omega

theorem place0_1 (t : Fin cfg0.N) (y : (⟨2, ![120, 64]⟩ : Shape).Idx) : ((cfg0.win 1).blk t).view.emb y = y := by
  obtain ⟨e0, e1⟩ := idx0_1 t
  funext a
  apply Fin.ext
  match a with
  | ⟨0, _⟩ => show win0_1.index t (0 : Fin 2) * 120 + 1 * (y 0).val = (y 0).val; omega
  | ⟨1, _⟩ => show win0_1.index t (1 : Fin 2) * 64 + 1 * (y 1).val = (y 1).val; omega

theorem place0_2 (t : Fin cfg0.N) (y : (⟨2, ![120, 1]⟩ : Shape).Idx) : ((cfg0.win 2).blk t).view.emb y = y := by
  obtain ⟨e0, e1⟩ := idx0_2 t
  funext a
  apply Fin.ext
  match a with
  | ⟨0, _⟩ => show win0_2.index t (0 : Fin 2) * 120 + 1 * (y 0).val = (y 0).val; omega
  | ⟨1, _⟩ => show win0_2.index t (1 : Fin 2) * 1 + 1 * (y 1).val = (y 1).val; omega

theorem place0_3 (t : Fin cfg0.N) (y : (⟨2, ![120, 128]⟩ : Shape).Idx) : ((cfg0.win 3).blk t).view.emb y = ix2 (y 0) (lane0 t (y 1)) := by
  obtain ⟨e0, e1⟩ := idx0_3 t
  funext a
  apply Fin.ext
  match a with
  | ⟨0, _⟩ => show win0_3.index t (0 : Fin 2) * 120 + 1 * (y 0).val = (y 0).val; omega
  | ⟨1, _⟩ => show win0_3.index t (1 : Fin 2) * 128 + 1 * (y 1).val = t.val * 128 + (y 1).val; omega

theorem place0_4 (t : Fin cfg0.N) (y : (⟨3, ![16, 8, 128]⟩ : Shape).Idx) :
    ((cfg0.win 4).blk t).view.emb y = ix3 (y 0) (y 1) (lane0 t (y 2)) := by
  obtain ⟨e0, e1, e2⟩ := idx0_4 t
  funext a
  apply Fin.ext
  match a with
  | ⟨0, _⟩ => show win0_4.index t (0 : Fin 3) * 16 + 1 * (y 0).val = (y 0).val; omega
  | ⟨1, _⟩ => show win0_4.index t (1 : Fin 3) * 8 + 1 * (y 1).val = (y 1).val; omega
  | ⟨2, _⟩ => show win0_4.index t (2 : Fin 3) * 128 + 1 * (y 2).val = t.val * 128 + (y 2).val; omega

theorem place0_5 (t : Fin cfg0.N) (y : (⟨3, ![16, 8, 128]⟩ : Shape).Idx) :
    ((cfg0.win 5).blk t).view.emb y = ix3 (y 0) (y 1) (lane0 t (y 2)) := by
  obtain ⟨e0, e1, e2⟩ := idx0_5 t
  funext a
  apply Fin.ext
  match a with
  | ⟨0, _⟩ => show win0_5.index t (0 : Fin 3) * 16 + 1 * (y 0).val = (y 0).val; omega
  | ⟨1, _⟩ => show win0_5.index t (1 : Fin 3) * 8 + 1 * (y 1).val = (y 1).val; omega
  | ⟨2, _⟩ => show win0_5.index t (2 : Fin 3) * 128 + 1 * (y 2).val = t.val * 128 + (y 2).val; omega

theorem place0_6 (t : Fin cfg0.N) (y : (⟨4, ![1, 64, 8, 128]⟩ : Shape).Idx) :
    ((cfg0.win 6).blk t).view.emb y = ix4 (⟨t.val, t.isLt⟩ : Fin 2) (y 1) (y 2) (y 3) := by
  obtain ⟨e0, e1, e2, e3⟩ := idx0_6 t
  have h0 : (y 0).val < 1 := (y 0).isLt
  funext a
  apply Fin.ext
  match a with
  | ⟨0, _⟩ => show win0_6.index t (0 : Fin 4) * 1 + 1 * (y 0).val = t.val; omega
  | ⟨1, _⟩ => show win0_6.index t (1 : Fin 4) * 64 + 1 * (y 1).val = (y 1).val; omega
  | ⟨2, _⟩ => show win0_6.index t (2 : Fin 4) * 8 + 1 * (y 2).val = (y 2).val; omega
  | ⟨3, _⟩ => show win0_6.index t (3 : Fin 4) * 128 + 1 * (y 3).val = (y 3).val; omega

/-! ## What the call finds -/

theorem V1_x (c : Dev nD) (k : Fin 64) (s : Fin 256) : (V1 m c main_v0 : FVec Ideal ⟨2, ![64, 256]⟩ .f32) (ix2 k s) = xArg m c (ix2 s k) := by
  have h : V1 m c main_v0 = transpose S64x256 [1, 0] (xArg m c) (by decide) := by
    unfold V1
    after_results
  rw [h]
  exact transpose_apply _ _ _ _ _ fun b => by fin_cases b <;> rfl

theorem V1_b (c : Dev nD) (r : Fin 120) : (V1 m c main_v1 : FVec Ideal ⟨2, ![120, 1]⟩ .f32) (ix2 r (0 : Fin 1)) = bArg m c (ix1 r) := by
  have h : V1 m c main_v1 = shapeCast S120x1 (bArg m c) (by decide) := by
    unfold V1
    after_results
    rfl
  rw [h]
  refine shapeCast_apply _ _ _ _ ?_
  rw [Shape.rowMajor_val_one, Shape.rowMajor_val_two]
  show r.val = r.val * 1 + 0
  omega

theorem V1_w (c : Dev nD) : V1 m c main_arg1 = wArg m c := V1_of m c _ (by decide)

theorem in0_x (c : Dev nD) (t : Fin cfg0.N) (k : Fin 64) (l : Fin 128) :
    (inBlk0 (vals (V1 m)) c 0 t : FVec Ideal ⟨2, ![64, 128]⟩ .f32) (ix2 k l) = xArg m c (ix2 (lane0 t l) k) := by
  show V1 m c main_v0 (((cfg0.win 0).blk t).view.emb (ix2 k l)) = _
  rw [place0_0]
  exact V1_x m c k _

theorem in0_w (c : Dev nD) (t : Fin cfg0.N) (r : Fin 120) (k : Fin 64) :
    (inBlk0 (vals (V1 m)) c 1 t : FVec Ideal ⟨2, ![120, 64]⟩ .f32) (ix2 r k) = wArg m c (ix2 r k) := by
  show V1 m c main_arg1 (((cfg0.win 1).blk t).view.emb (ix2 r k)) = _
  rw [place0_1, V1_w]

theorem in0_b (c : Dev nD) (t : Fin cfg0.N) (r : Fin 120) :
    (inBlk0 (vals (V1 m)) c 2 t : FVec Ideal ⟨2, ![120, 1]⟩ .f32) (ix2 r (0 : Fin 1)) = bArg m c (ix1 r) := by
  show V1 m c main_v1 (((cfg0.win 2).blk t).view.emb (ix2 r (0 : Fin 1))) = _
  rw [place0_2]
  exact V1_b m c r

/-! ## What the body leaves -/

theorem emb_sum (w : FVec Ideal B120x64 .f32) (x : FVec Ideal B64x128 .f32) (b : FVec Ideal B120x1 .f32) (r : Fin 120) (l : Fin 128) :
    emb (F := Ideal) w x b (ix2 r l) = Ideal.logistic ((∑ k : Fin 64, w (ix2 r k) * x (ix2 k l)) + b (ix2 r (0 : Fin 1))) := by
  have hk := contrEquiv1_symm_val embDims 64 rfl rfl
  have hl : ∀ k : Fin 64, embDims.lhsIdx (ix2 r l) ((contrEquiv1 embDims 64 rfl rfl).symm k) = ix2 r k := by
    intro k
    funext b
    apply Fin.ext
    fin_cases b
    · rfl
    · exact hk k
  have hr : ∀ k : Fin 64, embDims.rhsIdx (ix2 r l) ((contrEquiv1 embDims 64 rfl rfl).symm k) = ix2 k l := by
    intro k
    funext b
    apply Fin.ext
    fin_cases b
    · exact hk k
    · rfl
  show Ideal.logistic ((Ideal.ofBits .f32 0x00000000#32 + ∑ k : embDims.contr.Idx, w (embDims.lhsIdx (ix2 r l) k)
    * shapeCast B64x128 x (by decide) (embDims.rhsIdx (ix2 r l) k)) + broadcastTo B120x128 (shapeCast B120x1 b (by decide)) (by decide) (ix2 r l)) = _
  rw [Ideal.ofBits_zero_f32, zero_add, ← Equiv.sum_comp (contrEquiv1 embDims 64 rfl rfl).symm,
    broadcastTo_apply _ _ _ (ix2 r (0 : Fin 1)) fun b => by fin_cases b <;> rfl, shapeCast_apply b _ _ (ix2 r (0 : Fin 1)) rfl]
  congr 2
  exact Finset.sum_congr rfl fun k _ => by rw [hl, hr, shapeCast_apply x _ _ (ix2 k l) rfl]

theorem embAt_at (c : Dev nD) (t : Fin cfg0.N) (r : Fin 120) (l : Fin 128) :
    embAt (vals (V1 m)) c t (ix2 r l) = Angles.emb (xArg m c) (wArg m c) (bArg m c) (lane0 t l) r := by
  refine (emb_sum _ _ _ r l).trans ?_
  unfold Angles.emb
  rw [in0_b]
  congr 2
  exact Finset.sum_congr rfl fun k _ => by rw [in0_w, in0_x]

/-- One row of one lane, in cells. -/
theorem row_cell (c : Dev nD) (t : Fin cfg0.N) (a : Fin 8) (l : Fin 128) (n : Nat) (hn : n < 16) :
    rowAt a l ((rowsV (embAt (vals (V1 m)) c t)).getD n noRow) = Angles.cell (xArg m c) (wArg m c) (bArg m c) (lane0 t l) a.val n := by
  rw [rows_at _ a l n hn]
  unfold Angles.cell
  rw [show (fun r => embAt (vals (V1 m)) c t (ix2 r l)) = Angles.emb (xArg m c) (wArg m c) (bArg m c) (lane0 t l) from
    funext fun r => embAt_at m c t r l]

theorem flat3 (v : FVec Ideal B8x128 .f32) (a : Fin 8) (l : Fin 128) (h) : shapeCast B1x8x128 v h (ix3 (0 : Fin 1) a l) = v (ix2 a l) := by
  refine shapeCast_apply _ _ _ _ ?_
  rw [Shape.rowMajor_val_three, Shape.rowMajor_val_two]
  show a.val * 128 + l.val = (0 * 8 + a.val) * 128 + l.val
  omega

theorem flat4 (v : FVec Ideal B8x128 .bf16) (a : Fin 8) (l : Fin 128) (h) :
    shapeCast B1x1x8x128 v h (ix4 (0 : Fin 1) (0 : Fin 1) a l) = v (ix2 a l) := by
  refine shapeCast_apply _ _ _ _ ?_
  rw [Shape.rowMajor_val_four, Shape.rowMajor_val_two]
  show a.val * 128 + l.val = ((0 * 1 + 0) * 8 + a.val) * 128 + l.val
  omega

/-- The part of a cell in packed copy `k`: the remainders are nothing. -/
def part (k : Nat) (u : Cells.Cell) : EReal := match k with
  | 0 => u.1
  | 1 => u.2
  | _ => 0

theorem sub_self_real {x : EReal} (h : Cells.IsReal x) : x - x = 0 := by
  obtain ⟨r, rfl⟩ := h
  rw [← EReal.coe_sub, sub_self]
  rfl

theorem packed_at (u : Row Ideal) (a : Fin 8) (l : Fin 128) (h : Cells.RealCell (rowAt a l u)) (k : Nat) :
    packed u k (ix2 a l) = part k (rowAt a l u) := by
  match k with
  | 0 => rfl
  | 1 => rfl
  | 2 => exact sub_self_real h.1
  | _ + 3 => exact sub_self_real h.2

/-! ## The arrays -/

/-- Every sample lies in a block. -/
theorem lane0_ex (s : Fin 256) : ∃ (t : Fin cfg0.N) (l : Fin 128), lane0 t l = s :=
  ⟨⟨s.val / 128, by show s.val / 128 < 2; omega⟩, ⟨s.val % 128, by omega⟩, Fin.ext (by show s.val / 128 * 128 + s.val % 128 = s.val; omega)⟩

theorem first_emb (c : Dev nD) (r : Fin 120) (s : Fin 256) :
    (W2 m c main_v2_0 : FVec Ideal ⟨2, ![120, 256]⟩ .f32) (ix2 r s) = Angles.emb (xArg m c) (wArg m c) (bArg m c) s r := by
  have h : W2 m c main_v2_0 = fun i : S120x256.Idx => Angles.emb (xArg m c) (wArg m c) (bArg m c) (i 1) (i 0) := by
    rw [W2_0]
    refine (D0 m c).arrAt_eq_of_cover 3 _ (fun t _ => ?_) fun i => ?_
    · funext y
      show embAt (vals (V1 m)) c t y = (fun i : S120x256.Idx => Angles.emb (xArg m c) (wArg m c) (bArg m c) (i 1) (i 0)) (((cfg0.win 3).blk t).view.emb y)
      rw [place0_3]
      exact (congrArg (embAt (vals (V1 m)) c t) (eq_ix2 y)).trans (embAt_at m c t (y 0) (y 1))
    · obtain ⟨t, l, e⟩ := lane0_ex (i 1)
      refine ⟨t, flush0_3 t, ?_⟩
      have h := ((cfg0.win 3).blk t).view.emb_mem_set (ix2 (i 0) l)
      rwa [(place0_3 t _).trans ((congrArg (ix2 (i 0)) e).trans (eq_ix2 i).symm)] at h
  rw [h]

theorem first_re (c : Dev nD) (n : Fin 16) (a : Fin 8) (s : Fin 256) :
    (W2 m c main_v2_1 : FVec Ideal ⟨3, ![16, 8, 256]⟩ .f32) (ix3 n a s) = (Angles.cell (xArg m c) (wArg m c) (bArg m c) s a.val n.val).1 := by
  have h : W2 m c main_v2_1
      = fun i : S16x8x256.Idx => (Angles.cell (xArg m c) (wArg m c) (bArg m c) (i 2) (i 1).val (i 0).val).1 := by
    rw [W2_1]
    refine (D0 m c).arrAt_eq_of_cover 4 _ (fun t _ => ?_) fun i => ?_
    · funext y
      show planes Prod.fst (rowsV (embAt (vals (V1 m)) c t)) y
        = (fun i : S16x8x256.Idx => (Angles.cell (xArg m c) (wArg m c) (bArg m c) (i 2) (i 1).val (i 0).val).1) (((cfg0.win 4).blk t).view.emb y)
      rw [place0_4]
      exact (flat3 _ (y 1) (y 2) _).trans (congrArg Prod.fst (row_cell m c t (y 1) (y 2) (y 0).val (y 0).isLt))
    · obtain ⟨t, l, e⟩ := lane0_ex (i 2)
      refine ⟨t, flush0_4 t, ?_⟩
      have h := ((cfg0.win 4).blk t).view.emb_mem_set (ix3 (i 0) (i 1) l)
      rwa [(place0_4 t _).trans ((congrArg (ix3 (i 0) (i 1)) e).trans (eq_ix3 i).symm)] at h
  rw [h]

theorem first_im (c : Dev nD) (n : Fin 16) (a : Fin 8) (s : Fin 256) :
    (W2 m c main_v2_2 : FVec Ideal ⟨3, ![16, 8, 256]⟩ .f32) (ix3 n a s) = (Angles.cell (xArg m c) (wArg m c) (bArg m c) s a.val n.val).2 := by
  have h : W2 m c main_v2_2
      = fun i : S16x8x256.Idx => (Angles.cell (xArg m c) (wArg m c) (bArg m c) (i 2) (i 1).val (i 0).val).2 := by
    rw [W2_2]
    refine (D0 m c).arrAt_eq_of_cover 5 _ (fun t _ => ?_) fun i => ?_
    · funext y
      show planes Prod.snd (rowsV (embAt (vals (V1 m)) c t)) y
        = (fun i : S16x8x256.Idx => (Angles.cell (xArg m c) (wArg m c) (bArg m c) (i 2) (i 1).val (i 0).val).2) (((cfg0.win 5).blk t).view.emb y)
      rw [place0_5]
      exact (flat3 _ (y 1) (y 2) _).trans (congrArg Prod.snd (row_cell m c t (y 1) (y 2) (y 0).val (y 0).isLt))
    · obtain ⟨t, l, e⟩ := lane0_ex (i 2)
      refine ⟨t, flush0_5 t, ?_⟩
      have h := ((cfg0.win 5).blk t).view.emb_mem_set (ix3 (i 0) (i 1) l)
      rwa [(place0_5 t _).trans ((congrArg (ix3 (i 0) (i 1)) e).trans (eq_ix3 i).symm)] at h
  rw [h]

theorem first_packed (c : Dev nD) (t : Fin 2) (q : Fin 64) (a : Fin 8) (l : Fin 128) :
    (W2 m c main_v2_3 : FVec Ideal ⟨4, ![2, 64, 8, 128]⟩ .bf16) (ix4 t q a l)
      = part (q.val / 16) (Angles.cell (xArg m c) (wArg m c) (bArg m c) (lane0 t l) a.val (q.val % 16)) := by
  have h : W2 m c main_v2_3 = fun i : S2x64x8x128.Idx =>
      part ((i 1).val / 16) (Angles.cell (xArg m c) (wArg m c) (bArg m c) (lane0 (i 0) (i 3)) (i 2).val ((i 1).val % 16)) := by
    rw [W2_3]
    refine (D0 m c).arrAt_eq_of_cover 6 _ (fun t _ => ?_) fun i => ?_
    · funext y
      show slots (rowsV (embAt (vals (V1 m)) c t)) y = (fun i : S2x64x8x128.Idx =>
        part ((i 1).val / 16) (Angles.cell (xArg m c) (wArg m c) (bArg m c) (lane0 (i 0) (i 3)) (i 2).val ((i 1).val % 16)))
          (((cfg0.win 6).blk t).view.emb y)
      rw [place0_6]
      have hc := row_cell m c t (y 2) (y 3) ((y 1).val % 16) (Nat.mod_lt _ (by decide))
      refine (flat4 _ (y 2) (y 3) _).trans ((packed_at _ (y 2) (y 3) ?_ _).trans (congrArg (part _) hc))
      rw [hc]
      exact Angles.cell_real ..
    · refine ⟨⟨(i 0).val, (i 0).isLt⟩, flush0_6 _, ?_⟩
      have h := ((cfg0.win 6).blk ⟨(i 0).val, (i 0).isLt⟩).view.emb_mem_set (ix4 (0 : Fin 1) (i 1) (i 2) (i 3))
      have e : ((cfg0.win 6).blk ⟨(i 0).val, (i 0).isLt⟩).view.emb (ix4 (0 : Fin 1) (i 1) (i 2) (i 3)) = i :=
        (place0_6 ⟨(i 0).val, (i 0).isLt⟩ (ix4 (0 : Fin 1) (i 1) (i 2) (i 3))).trans (quad_ext (a := 2) (b := 64) (e := 8) (f := 128) i).symm
      rwa [e] at h
  rw [h]

end Cert.KernelIdeal.Run

end
-- ==== Proof.Permanent.lean ====
/- The permanent as a weighted sum over sign or subset vectors: the two-point forms of Ryser and of Glynn are
   the same statement with different weights. -/
module

public import Mathlib.Data.Complex.Basic
public import Mathlib.Data.Complex.BigOperators
public import Mathlib.Data.Fintype.Perm
public import Mathlib.Tactic.Ring
public import Mathlib.Tactic.NormNum
public import Mathlib.Algebra.BigOperators.Fin

@[expose] public section

namespace Cert.Permanent

open Finset

variable {n : Nat}

/-- The sum over all choices of a bit per column, with weight `w` and value `v` of each bit. -/
noncomputable def weighted (w v : Bool → ℂ) (A : Fin n → Fin n → ℂ) : ℂ :=
  ∑ m : Fin n → Bool, (∏ j, w (m j)) * ∏ i, ∑ j, v (m j) * A i j

/-- Expanding the product of the row sums and summing over the bits column by column. -/
theorem weighted_expand (w v : Bool → ℂ) (A : Fin n → Fin n → ℂ) :
    weighted w v A = ∑ f : Fin n → Fin n, (∏ i, A i (f i)) *
      ∏ j, ∑ k : Bool, w k * v k ^ (univ.filter fun i => f i = j).card := by
  unfold weighted
  have h1 : ∀ m : Fin n → Bool, (∏ j, w (m j)) * ∏ i, ∑ j, v (m j) * A i j
      = ∑ f : Fin n → Fin n, (∏ i, A i (f i)) * ∏ j, w (m j) * v (m j) ^ (univ.filter fun i => f i = j).card := by
    intro m
    rw [Finset.prod_univ_sum, Fintype.piFinset_univ, Finset.mul_sum]
    refine Finset.sum_congr rfl fun f _ => ?_
    rw [Finset.prod_mul_distrib, Finset.prod_mul_distrib]
    have h2 : ∏ i, v (m (f i)) = ∏ j, v (m j) ^ (univ.filter fun i => f i = j).card := by
      rw [← Finset.prod_fiberwise (s := univ) (g := f) (f := fun i => v (m (f i)))]
      refine Finset.prod_congr rfl fun j _ => ?_
      rw [Finset.prod_congr rfl (g := fun _ => v (m j)) fun i hi => by rw [(Finset.mem_filter.mp hi).2], Finset.prod_const]
    rw [h2]
    ring
  rw [Finset.sum_congr rfl fun m _ => h1 m, Finset.sum_comm]
  refine Finset.sum_congr rfl fun f _ => ?_
  rw [← Finset.mul_sum, Finset.prod_univ_sum, Fintype.piFinset_univ]

/-- If the zeroth moment is zero and the first is one, the weighted sum is the permanent. -/
theorem weighted_eq (w v : Bool → ℂ) (h0 : ∑ k : Bool, w k = 0) (h1 : ∑ k : Bool, w k * v k = 1) (A : Fin n → Fin n → ℂ) :
    weighted w v A = ∑ σ : Equiv.Perm (Fin n), ∏ i, A i (σ i) := by
  rw [weighted_expand]
  symm
  refine Fintype.sum_of_injective (fun σ : Equiv.Perm (Fin n) => (σ : Fin n → Fin n)) DFunLike.coe_injective _ _ ?_ ?_
  · intro f hf
    have hs : ¬ Function.Surjective f := fun hs =>
      hf ⟨Equiv.ofBijective f (Finite.injective_iff_bijective.mp (Finite.injective_iff_surjective.mpr hs)), rfl⟩
    obtain ⟨j, hj⟩ := not_forall.mp hs
    refine mul_eq_zero_of_right _ (Finset.prod_eq_zero (Finset.mem_univ j) ?_)
    rw [Finset.filter_eq_empty_iff.mpr fun i _ h => hj ⟨i, h⟩]
    simpa using h0
  · intro σ
    rw [Finset.prod_eq_one (s := univ) (f := fun j => ∑ k : Bool, w k * v k ^ (univ.filter fun i => σ i = j).card), mul_one]
    intro j _
    have hc : (univ.filter fun i => σ i = j).card = 1 := by
      rw [Finset.card_eq_one]
      refine ⟨σ.symm j, ?_⟩
      ext i
      simp [Equiv.eq_symm_apply]
    simp only [hc, pow_one]
    exact h1

/-- The weight and the value of a bit in Ryser's form: out, in. -/
def rw' : Bool → ℂ := fun b => if b then 1 else -1
def rv : Bool → ℂ := fun b => if b then 1 else 0

/-- The weight and the value of a bit in Glynn's form: plus, minus. -/
noncomputable def gw : Bool → ℂ := fun b => if b then -1 else 1
noncomputable def gv : Bool → ℂ := fun b => if b then -(1 / 2) else 1 / 2

/-- The permanent, as a sum over permutations of columns. -/
noncomputable def perm (A : Fin n → Fin n → ℂ) : ℂ := ∑ σ : Equiv.Perm (Fin n), ∏ i, A i (σ i)

theorem ryser (A : Fin n → Fin n → ℂ) : weighted rw' rv A = perm A :=
  weighted_eq _ _ (by simp [rw']) (by simp [rw', rv]) A

theorem glynn (A : Fin n → Fin n → ℂ) : weighted gw gv A = perm A :=
  weighted_eq _ _ (by simp [gw]) (by simp [gw, gv]; norm_num) A

/-- The half of Glynn's sum with a plus in column zero. -/
noncomputable def half (A : Fin 8 → Fin 8 → ℂ) : ℂ :=
  ∑ m : Fin 7 → Bool, (∏ j, gw (m j)) * ∏ i, (1 / 2 * A i 0 + ∑ j, gv (m j) * A i j.succ)

theorem gw_not (b : Bool) : gw (!b) = -gw b := by cases b <;> simp [gw]
theorem gv_not (b : Bool) : gv (!b) = -gv b := by cases b <;> simp [gv]

/-- The other half is the same: all signs change, an even number of times. -/
theorem perm_eq_half (A : Fin 8 → Fin 8 → ℂ) : perm A = 2 * half A := by
  rw [← glynn]
  unfold weighted
  rw [← Equiv.sum_comp (Fin.consEquiv fun _ => Bool), Fintype.sum_prod_type]
  have e0 : ∀ (b : Bool) (m : Fin 7 → Bool), (Fin.consEquiv fun _ : Fin 8 => Bool) (b, m) = (Fin.cons b m : Fin 8 → Bool) := fun _ _ => rfl
  simp only [e0, Fin.prod_univ_succ (n := 7) (M := ℂ) (fun j => gw _), Fin.sum_univ_succ (n := 7), Fin.cons_zero, Fin.cons_succ]
  rw [Fintype.sum_bool, two_mul]
  congr 1
  · unfold half
    rw [← Equiv.sum_comp (Function.Involutive.toPerm (fun (m : Fin 7 → Bool) j => !m j) fun m => by funext j; simp)]
    refine Finset.sum_congr rfl fun m _ => ?_
    have e1 : ∀ j, (Function.Involutive.toPerm (fun (m : Fin 7 → Bool) j => !m j) (fun m => by funext j; simp)) m j = !(m j) := fun _ => rfl
    simp only [e1, gw_not, gv_not]
    have e2 : ∀ i, gv true * A i 0 + ∑ j : Fin 7, -gv (m j) * A i j.succ
        = -(1 / 2 * A i 0 + ∑ j : Fin 7, gv (m j) * A i j.succ) := by
      intro i
      simp only [neg_mul, Finset.sum_neg_distrib, gv]
      simp
      ring
    rw [Finset.prod_congr rfl fun i _ => e2 i, Finset.prod_neg, Finset.prod_neg]
    simp [gw]
    ring
  · unfold half
    refine Finset.sum_congr rfl fun m _ => ?_
    simp [gw, gv]

/-- The permanent of a transposed and conjugated array is the conjugate. -/
theorem perm_conj (A B : Fin n → Fin n → ℂ) (h : ∀ i j, B i j = (starRingEnd ℂ) (A j i)) : perm B = (starRingEnd ℂ) (perm A) := by
  unfold perm
  rw [map_sum, ← Equiv.sum_comp (Equiv.inv (Equiv.Perm (Fin n)))]
  refine Finset.sum_congr rfl fun σ _ => ?_
  rw [map_prod, ← Equiv.prod_comp σ]
  refine Finset.prod_congr rfl fun i _ => ?_
  rw [h]
  simp

end Cert.Permanent

end
-- ==== Proof.Gray.lean ====
/- The walk through the sign vectors, over the complex numbers: it meets every sign vector of seven columns
   once, so the accumulator ends at half the permanent. -/
module

public import proofs.«01_k».proof.Proof.Tile
public import proofs.«01_k».proof.Proof.Permanent

@[expose] public section

namespace Cert.Gray

open Finset Cert.Permanent Cert.Perm

/-- The walk at one place of the array: the running row sums and the accumulator. -/
noncomputable def walkC (A : Fin 8 → Fin 8 → ℂ) : List (Fin 7 × Bool) → Bool → (Fin 8 → ℂ) → ℂ → ℂ
  | [], _, _, a => a
  | (c, plus) :: l, pos, q, a =>
    walkC A l (!pos) (fun i => if plus then q i + A i c.succ else q i - A i c.succ)
      (if pos then a + ∏ i, (if plus then q i + A i c.succ else q i - A i c.succ)
        else a - ∏ i, (if plus then q i + A i c.succ else q i - A i c.succ))

/-- The sign vectors met, each the set of its minus signs as a number. -/
def met : List (Fin 7 × Bool) → Nat → List Nat
  | [], _ => []
  | (c, _) :: l, d => (d ^^^ 2 ^ c.val) :: met l (d ^^^ 2 ^ c.val)

/-- Each step adds a column that is subtracted so far, or subtracts one that is added. -/
def fits : List (Fin 7 × Bool) → Nat → Bool
  | [], _ => true
  | (c, plus) :: l, d => (d.testBit c.val == plus) && fits l (d ^^^ 2 ^ c.val)

/-- The signs that a number stands for. -/
def bits (d : Nat) : Fin 7 → Bool := fun j => d.testBit j.val

/-- The row sums at a sign vector. -/
noncomputable def sums (A : Fin 8 → Fin 8 → ℂ) (d : Nat) (i : Fin 8) : ℂ := 1 / 2 * A i 0 + ∑ j, gv (bits d j) * A i j.succ

/-- The sign of a sign vector. -/
noncomputable def sgn (d : Nat) : ℂ := ∏ j, gw (bits d j)

theorem bits_flip (d : Nat) (c : Fin 7) : bits (d ^^^ 2 ^ c.val) = Function.update (bits d) c (!bits d c) := by
  funext j
  unfold bits
  rw [Nat.testBit_xor, Nat.testBit_two_pow]
  by_cases h : j = c
  · subst h
    simp
  · rw [Function.update_of_ne h]
    have : ¬ c.val = j.val := fun e => h (Fin.ext e.symm)
    simp [this]

theorem sgn_flip (d : Nat) (c : Fin 7) : sgn (d ^^^ 2 ^ c.val) = - sgn d := by
  unfold sgn
  rw [bits_flip, ← Finset.mul_prod_erase univ (fun j => gw (Function.update (bits d) c (!bits d c) j)) (mem_univ c),
    ← Finset.mul_prod_erase univ (fun j => gw (bits d j)) (mem_univ c)]
  rw [Function.update_self, gw_not, neg_mul]
  congr 2
  refine Finset.prod_congr rfl fun j hj => ?_
  rw [Function.update_of_ne (Finset.ne_of_mem_erase hj)]

theorem sums_flip (A : Fin 8 → Fin 8 → ℂ) (d : Nat) (c : Fin 7) (i : Fin 8) :
    sums A (d ^^^ 2 ^ c.val) i = if d.testBit c.val then sums A d i + A i c.succ else sums A d i - A i c.succ := by
  unfold sums
  rw [bits_flip, ← Finset.add_sum_erase univ (fun j => gv (Function.update (bits d) c (!bits d c) j) * A i j.succ) (mem_univ c),
    ← Finset.add_sum_erase univ (fun j => gv (bits d j) * A i j.succ) (mem_univ c)]
  have e : ∑ j ∈ univ.erase c, gv (Function.update (bits d) c (!bits d c) j) * A i j.succ
      = ∑ j ∈ univ.erase c, gv (bits d j) * A i j.succ := by
    refine Finset.sum_congr rfl fun j hj => ?_
    rw [Function.update_of_ne (Finset.ne_of_mem_erase hj)]
  rw [e, Function.update_self]
  cases h : d.testBit c.val
  · simp [bits, h, gv]
    ring
  · simp [bits, h, gv]
    ring

theorem walkC_eq (A : Fin 8 → Fin 8 → ℂ) : ∀ (l : List (Fin 7 × Bool)) (d : Nat) (pos : Bool) (a : ℂ),
    fits l d = true → sgn d = (if pos then -1 else 1) →
    walkC A l pos (sums A d) a = a + ((met l d).map fun e => sgn e * ∏ i, sums A e i).sum
  | [], d, pos, a, _, _ => by simp [walkC, met]
  | (c, plus) :: l, d, pos, a, hf, hs => by
    unfold fits at hf
    obtain ⟨h1, h2⟩ := (Bool.and_eq_true _ _).mp hf
    have h1 : d.testBit c.val = plus := by simpa using h1
    have hq : (fun i => if plus then sums A d i + A i c.succ else sums A d i - A i c.succ) = sums A (d ^^^ 2 ^ c.val) := by
      funext i
      rw [sums_flip, h1]
    have hs' : sgn (d ^^^ 2 ^ c.val) = if (!pos) then -1 else 1 := by
      rw [sgn_flip, hs]
      cases pos <;> simp
    unfold walkC met
    rw [hq, walkC_eq A l _ _ _ h2 hs', List.map_cons, List.sum_cons, hs']
    cases pos
    · simp [sub_eq_add_neg, add_assoc]
    · simp [add_assoc]

theorem flips_fit : fits flips 0 = true := by decide +kernel
theorem flips_met : (0 :: met flips 0).Perm (List.range 128) := by decide +kernel

theorem bits_bijective : Function.Bijective (fun d : Fin 128 => bits d.val) := by
  rw [Fintype.bijective_iff_injective_and_card]
  refine ⟨fun a b h => Fin.ext (Nat.eq_of_testBit_eq fun i => ?_), by simp⟩
  by_cases hi : i < 7
  · exact congrFun h ⟨i, hi⟩
  · have hp : (128 : Nat) ≤ 2 ^ i := by
      calc (128 : Nat) = 2 ^ 7 := by norm_num
        _ ≤ 2 ^ i := Nat.pow_le_pow_right (by norm_num) (by omega)
    rw [Nat.testBit_lt_two_pow (lt_of_lt_of_le a.isLt hp), Nat.testBit_lt_two_pow (lt_of_lt_of_le b.isLt hp)]

/-- The walk ends at half the permanent. -/
theorem walk_half (A : Fin 8 → Fin 8 → ℂ) (q : Fin 8 → ℂ) (hq : ∀ i, q i = 1 / 2 * ∑ j, A i j) :
    walkC A flips false q (∏ i, q i) = half A := by
  have h0 : q = sums A 0 := by
    funext i
    rw [hq, sums, Fin.sum_univ_succ (n := 7), mul_add, Finset.mul_sum]
    simp [bits, gv]
  have hs : sgn 0 = 1 := by simp [sgn, bits, gw]
  rw [h0, walkC_eq A flips 0 false _ flips_fit (by simpa using hs)]
  have h1 := (flips_met.map fun e => sgn e * ∏ i, sums A e i).sum_eq
  rw [List.map_cons, List.sum_cons, hs, one_mul] at h1
  rw [h1]
  have h2 : ((List.range 128).map fun e => sgn e * ∏ i, sums A e i).sum = ∑ e : Fin 128, sgn e.val * ∏ i, sums A e.val i := by
    exact Fin.sum_univ_eq_sum_range (fun e => sgn e * ∏ i, sums A e i) 128 |>.symm
  rw [h2]
  unfold half
  exact Fintype.sum_bijective (fun d : Fin 128 => bits d.val) bits_bijective _ _ fun d => rfl

/-- Four times the squared modulus of the accumulator is that of the permanent. -/
theorem normSq_perm (A : Fin 8 → Fin 8 → ℂ) : 4 * Complex.normSq (half A) = Complex.normSq (perm A) := by
  rw [perm_eq_half, map_mul]
  norm_num [Complex.normSq_apply]

end Cert.Gray

end
-- ==== Proof.Pairs.lean ====
/- Two ideal values that are the real and the imaginary part of a complex number. -/
module

public import proofs.«01_k».proof.Proof.Gray
public import proofs.«01_k».proof.Proof.Cells

@[expose] public section

noncomputable section

namespace Cert.Pairs

open Idealize.ShloMosaic

/-- `x` and `y` are the two parts of `z`. -/
def Holds (x y : EReal) (z : ℂ) : Prop := x = ((z.re : ℝ) : EReal) ∧ y = ((z.im : ℝ) : EReal)

theorem Holds.add {a b c d : EReal} {z w : ℂ} (h : Holds a b z) (k : Holds c d w) : Holds (a + c) (b + d) (z + w) := by
  obtain ⟨rfl, rfl⟩ := h
  obtain ⟨rfl, rfl⟩ := k
  exact ⟨by rw [Complex.add_re, EReal.coe_add], by rw [Complex.add_im, EReal.coe_add]⟩

theorem Holds.sub {a b c d : EReal} {z w : ℂ} (h : Holds a b z) (k : Holds c d w) : Holds (a - c) (b - d) (z - w) := by
  obtain ⟨rfl, rfl⟩ := h
  obtain ⟨rfl, rfl⟩ := k
  exact ⟨by rw [Complex.sub_re, EReal.coe_sub], by rw [Complex.sub_im, EReal.coe_sub]⟩

theorem Holds.mul {a b c d : EReal} {z w : ℂ} (h : Holds a b z) (k : Holds c d w) :
    Holds (a * c - b * d) (a * d + b * c) (z * w) := by
  obtain ⟨rfl, rfl⟩ := h
  obtain ⟨rfl, rfl⟩ := k
  exact ⟨by rw [Complex.mul_re, EReal.coe_sub, EReal.coe_mul, EReal.coe_mul],
    by rw [Complex.mul_im, EReal.coe_add, EReal.coe_mul, EReal.coe_mul]⟩

/-- Both parts times a real number. -/
theorem Holds.scale {a b : EReal} {z : ℂ} (r : ℝ) (h : Holds a b z) : Holds ((r : EReal) * a) ((r : EReal) * b) ((r : ℂ) * z) := by
  obtain ⟨rfl, rfl⟩ := h
  exact ⟨by rw [Complex.re_ofReal_mul, EReal.coe_mul], by rw [Complex.im_ofReal_mul, EReal.coe_mul]⟩

theorem Holds.sum {ι : Type} [Fintype ι] {a b : ι → EReal} {z : ι → ℂ} (h : ∀ i, Holds (a i) (b i) (z i)) :
    Holds (∑ i, a i) (∑ i, b i) (∑ i, z i) := by
  classical
  have key : ∀ s : Finset ι, Holds (∑ i ∈ s, a i) (∑ i ∈ s, b i) (∑ i ∈ s, z i) := by
    intro s
    induction s using Finset.induction_on with
    | empty => exact ⟨by simp, by simp⟩
    | insert i s hi ih =>
      rw [Finset.sum_insert hi, Finset.sum_insert hi, Finset.sum_insert hi]
      exact (h i).add ih
  exact key Finset.univ

theorem Holds.normSq {a b : EReal} {z : ℂ} (h : Holds a b z) : a * a + b * b = ((Complex.normSq z : ℝ) : EReal) := by
  obtain ⟨rfl, rfl⟩ := h
  rw [Complex.normSq_apply, EReal.coe_add, EReal.coe_mul, EReal.coe_mul]

/-- The complex number of two real values. -/
def toC (p : EReal × EReal) : ℂ := ⟨p.1.toReal, p.2.toReal⟩

theorem holds_toC {p : EReal × EReal} (h : Cells.RealCell p) : Holds p.1 p.2 (toC p) := by
  obtain ⟨⟨x, hx⟩, ⟨y, hy⟩⟩ := h
  unfold toC
  rw [hx, hy]
  exact ⟨rfl, rfl⟩

end Cert.Pairs

end
-- ==== Proof.KernelTile.lean ====
/- The numbers of one tile: at every place the walk is the walk over complex numbers, so the value is the
   squared modulus of the permanent of the place's Gram matrix. -/
module

public import proofs.«01_k».proof.Proof.PermRun
public import proofs.«01_k».proof.Proof.Pairs
public import Idealize.ShloMosaic.Lib.Pipeline.Value
public import Idealize.ShloMosaic.PureOps.Ideal.Laws
public import Idealize.ShloMosaic.Lib.IdealHost

@[expose] public section

noncomputable section

namespace Cert.Perm

open Idealize.ShloMosaic Idealize.ShloMosaic.ValueIdx Cert.Pairs Cert.Permanent

abbrev V (s : Shape) := FVec Ideal s .f32

/-- The eight rows at one place hold eight complex numbers. -/
def Rows (r : Fin 8) (c : Fin 128) (qr qi : V T8x8x128) (q : Fin 8 → ℂ) : Prop :=
  ∀ i, Holds (qr (ix3 i r c)) (qi (ix3 i r c)) (q i)

theorem front4 (x : V T8x8x128) (i : Fin 4) (r : Fin 8) (c : Fin 128) :
    extractStridedSlice T4x8x128 ![0, 0, 0] x (by decide) (ix3 i r c) = x (ix3 (⟨i.val, by omega⟩ : Fin 8) r c) :=
  extractStridedSlice_apply _ _ _ _ _ fun a => by fin_cases a <;> exact (Nat.zero_add _).symm

theorem back4 (x : V T8x8x128) (i : Fin 4) (r : Fin 8) (c : Fin 128) :
    extractStridedSlice T4x8x128 ![4, 0, 0] x (by decide) (ix3 i r c) = x (ix3 (⟨4 + i.val, by omega⟩ : Fin 8) r c) :=
  extractStridedSlice_apply _ _ _ _ _ fun a => by
    fin_cases a
    · rfl
    · exact (Nat.zero_add _).symm
    · exact (Nat.zero_add _).symm

theorem front2 (x : V T4x8x128) (i : Fin 2) (r : Fin 8) (c : Fin 128) :
    extractStridedSlice T2x8x128 ![0, 0, 0] x (by decide) (ix3 i r c) = x (ix3 (⟨i.val, by omega⟩ : Fin 4) r c) :=
  extractStridedSlice_apply _ _ _ _ _ fun a => by fin_cases a <;> exact (Nat.zero_add _).symm

theorem back2 (x : V T4x8x128) (i : Fin 2) (r : Fin 8) (c : Fin 128) :
    extractStridedSlice T2x8x128 ![2, 0, 0] x (by decide) (ix3 i r c) = x (ix3 (⟨2 + i.val, by omega⟩ : Fin 4) r c) :=
  extractStridedSlice_apply _ _ _ _ _ fun a => by
    fin_cases a
    · rfl
    · exact (Nat.zero_add _).symm
    · exact (Nat.zero_add _).symm

theorem pl0_at (x : V T2x8x128) (r : Fin 8) (c : Fin 128) : pl0 x (ix2 r c) = x (ix3 (0 : Fin 2) r c) := by
  refine (shapeCast_apply _ _ _ (ix3 (0 : Fin 1) r c) ?_).trans
    (extractStridedSlice_apply _ _ _ _ _ fun a => by fin_cases a <;> exact (Nat.zero_add _).symm)
  rw [Shape.rowMajor_val_three, Shape.rowMajor_val_two]
  show ((0 * 8 + r.val) * 128 + c.val) = r.val * 128 + c.val
  omega

theorem pl1_at (x : V T2x8x128) (r : Fin 8) (c : Fin 128) : pl1 x (ix2 r c) = x (ix3 (1 : Fin 2) r c) := by
  refine (shapeCast_apply _ _ _ (ix3 (0 : Fin 1) r c) ?_).trans
    (extractStridedSlice_apply _ _ _ _ _ fun a => by
      fin_cases a
      · rfl
      · exact (Nat.zero_add _).symm
      · exact (Nat.zero_add _).symm)
  rw [Shape.rowMajor_val_three, Shape.rowMajor_val_two]
  show ((0 * 8 + r.val) * 128 + c.val) = r.val * 128 + c.val
  omega

/-- The halving product is the product. -/
theorem prod_holds {r : Fin 8} {c : Fin 128} {qr qi : V T8x8x128} {q : Fin 8 → ℂ} (h : Rows r c qr qi q) :
    Holds (prodR qr qi (ix2 r c)) (prodI qr qi (ix2 r c)) (∏ i, q i) := by
  have h4 : ∀ i : Fin 4, Holds (m4r qr qi (ix3 i r c)) (m4i qr qi (ix3 i r c)) (q ⟨i.val, by omega⟩ * q ⟨4 + i.val, by omega⟩) := by
    intro i
    simp only [m4r, m4i, subf, addf, mulf]
    rw [front4, back4, front4, back4]
    exact (h _).mul (h _)
  have h2 : ∀ i : Fin 2, Holds (m2r (m4r qr qi) (m4i qr qi) (ix3 i r c)) (m2i (m4r qr qi) (m4i qr qi) (ix3 i r c))
      ((q ⟨i.val, by omega⟩ * q ⟨4 + i.val, by omega⟩) * (q ⟨2 + i.val, by omega⟩ * q ⟨4 + (2 + i.val), by omega⟩)) := by
    intro i
    simp only [m2r, m2i]
    show Holds (extractStridedSlice _ _ _ _ _ * extractStridedSlice _ _ _ _ _ - extractStridedSlice _ _ _ _ _ * extractStridedSlice _ _ _ _ _)
      (extractStridedSlice _ _ _ _ _ * extractStridedSlice _ _ _ _ _ + extractStridedSlice _ _ _ _ _ * extractStridedSlice _ _ _ _ _) _
    rw [front2, back2, front2, back2]
    exact (h4 ⟨i.val, by omega⟩).mul (h4 ⟨2 + i.val, by omega⟩)
  have e8 : ∏ i, q i = (q 0 * q 4) * (q 2 * q 6) * ((q 1 * q 5) * (q 3 * q 7)) := by
    rw [Fin.prod_univ_eight]
    ring
  rw [e8]
  unfold prodR prodI m1r m1i
  show Holds (pl0 (F := Ideal) _ _ * pl1 (F := Ideal) _ _ - pl0 (F := Ideal) _ _ * pl1 (F := Ideal) _ _)
    (pl0 (F := Ideal) _ _ * pl1 (F := Ideal) _ _ + pl0 (F := Ideal) _ _ * pl1 (F := Ideal) _ _) _
  rw [pl0_at, pl1_at, pl0_at, pl1_at]
  exact (h2 0).mul (h2 1)

/-- The place of column `j`, row `i` of the Gram matrix of a place. -/
abbrev gramIdx (r : Fin 8) (c : Fin 128) (i j : Fin 8) : T64x1024.Idx :=
  ix2 (⟨i.val * 8 + r.val, by omega⟩ : Fin 64) (⟨128 * j.val + c.val, by omega⟩ : Fin 1024)

theorem gcol_at (g : V T64x1024) (j : Fin 8) (o : Nat) (ho : o = 128 * j.val) (h : T64x1024.Slices ![0, o] T64x128) (i r : Fin 8) (c : Fin 128) :
    gcol g o h (ix2 (⟨i.val * 8 + r.val, by omega⟩ : Fin 64) c) = g (gramIdx r c i j) := by
  subst ho
  refine extractStridedSlice_apply _ _ _ _ _ fun a => ?_
  fin_cases a
  · exact (Nat.zero_add _).symm
  · rfl

theorem stack_at (x : V T64x128) (i r : Fin 8) (c : Fin 128) :
    shapeCast T8x8x128 x (by decide) (ix3 i r c) = x (ix2 (⟨i.val * 8 + r.val, by omega⟩ : Fin 64) c) := by
  refine shapeCast_apply _ _ _ _ ?_
  rw [Shape.rowMajor_val_three, Shape.rowMajor_val_two]
  rfl

theorem rows8_at (g : V T64x1024) (j i r : Fin 8) (c : Fin 128) : rows8 (stored g j) (ix3 i r c) = g (gramIdx r c i j) := by
  refine (stack_at _ i r c).trans ?_
  refine (shapeCast_apply _ _ _ (ix4 (0 : Fin 1) (0 : Fin 1) (⟨i.val * 8 + r.val, by omega⟩ : Fin 64) c) ?_).trans ?_
  · rw [Shape.rowMajor_val_four, Shape.rowMajor_val_two]
    show ((0 * 1 + 0) * 64 + (i.val * 8 + r.val)) * 128 + c.val = (i.val * 8 + r.val) * 128 + c.val
    omega
  unfold stored
  refine (shapeCast_apply _ _ _ (ix2 (⟨i.val * 8 + r.val, by omega⟩ : Fin 64) c) ?_).trans (gcol_at g j _ rfl _ i r c)
  rw [Shape.rowMajor_val_four, Shape.rowMajor_val_two]
  show (i.val * 8 + r.val) * 128 + c.val = ((0 * 1 + 0) * 64 + (i.val * 8 + r.val)) * 128 + c.val
  omega

/-- The Gram entries of a place. -/
def Entries (r : Fin 8) (c : Fin 128) (gr gi : V T64x1024) (A : Fin 8 → Fin 8 → ℂ) : Prop :=
  ∀ i j, Holds (gr (gramIdx r c i j)) (gi (gramIdx r c i j)) (A i j)

theorem half_word : (Scalar.ofBits .f32 0x3F000000#32 : Ideal .f32) = (((1 / 2 : ℝ)) : EReal) := by
  show Ideal.ofBits .f32 0x3F000000#32 = _
  simp [Ideal.ofBits, Ideal.ieee, -EReal.coe_mul]
  norm_num

theorem four_word : (Scalar.ofBits .f32 0x40800000#32 : Ideal .f32) = ((4 : ℝ) : EReal) := by
  show Ideal.ofBits .f32 0x40800000#32 = _
  simp [Ideal.ofBits, Ideal.ieee, -EReal.coe_mul]
  norm_num

/-- The start of the walk: half the row sums. -/
theorem qstart_holds {r : Fin 8} {c : Fin 128} {gr gi : V T64x1024} {A : Fin 8 → Fin 8 → ℂ} (h : Entries r c gr gi A) :
    Rows r c (qstart gr) (qstart gi) (fun i => 1 / 2 * ∑ j, A i j) := by
  intro i
  have e := ((((((((h i 0).add (h i 1)).add (h i 2)).add (h i 3)).add (h i 4)).add (h i 5)).add (h i 6)).add (h i 7)).scale (1 / 2)
  have s8 : (((1 / 2 : ℝ)) : ℂ) * (A i 0 + A i 1 + A i 2 + A i 3 + A i 4 + A i 5 + A i 6 + A i 7) = 1 / 2 * ∑ j, A i j := by
    rw [Fin.sum_univ_eight]
    push_cast
    rfl
  rw [s8, ← half_word] at e
  have hq : ∀ g : V T64x1024, qstart g (ix3 i r c) = Scalar.ofBits .f32 0x3F000000#32
      * (g (gramIdx r c i 0) + g (gramIdx r c i 1) + g (gramIdx r c i 2) + g (gramIdx r c i 3) + g (gramIdx r c i 4)
        + g (gramIdx r c i 5) + g (gramIdx r c i 6) + g (gramIdx r c i 7)) := by
    intro g
    refine (stack_at _ i r c).trans ?_
    rw [← gcol_at g 0 0 rfl (by decide), ← gcol_at g 1 128 rfl (by decide), ← gcol_at g 2 256 rfl (by decide), ← gcol_at g 3 384 rfl (by decide),
      ← gcol_at g 4 512 rfl (by decide), ← gcol_at g 5 640 rfl (by decide), ← gcol_at g 6 768 rfl (by decide), ← gcol_at g 7 896 rfl (by decide)]
    rfl
  show Holds (qstart gr (ix3 i r c)) (qstart gi (ix3 i r c)) _
  rw [hq gr, hq gi]
  exact e

/-- The walk over the arrays is, at a place, the walk over complex numbers. -/
theorem walk_holds {r : Fin 8} {c : Fin 128} {gr gi : V T64x1024} {A : Fin 8 → Fin 8 → ℂ} (h : Entries r c gr gi A) :
    ∀ (l : List (Fin 7 × Bool)) (pos : Bool) (qr qi : V T8x8x128) (ar ai : V T8x128) (q : Fin 8 → ℂ) (a : ℂ),
    Rows r c qr qi q → Holds (ar (ix2 r c)) (ai (ix2 r c)) a →
    Holds ((walkV gr gi l pos qr qi ar ai).1 (ix2 r c)) ((walkV gr gi l pos qr qi ar ai).2 (ix2 r c)) (Gray.walkC A l pos q a)
  | [], _, _, _, _, _, _, _, _, ha => ha
  | (j, plus) :: l, pos, qr, qi, ar, ai, q, a, hq, ha => by
    have hp : Rows r c (addf qr (rows8 (stored gr j.succ))) (addf qi (rows8 (stored gi j.succ))) (fun i => q i + A i j.succ) := by
      intro i
      show Holds (_ + rows8 (F := Ideal) _ _) (_ + rows8 (F := Ideal) _ _) _
      rw [rows8_at, rows8_at]
      exact (hq i).add (h i j.succ)
    have hm : Rows r c (subf qr (rows8 (stored gr j.succ))) (subf qi (rows8 (stored gi j.succ))) (fun i => q i - A i j.succ) := by
      intro i
      show Holds (_ - rows8 (F := Ideal) _ _) (_ - rows8 (F := Ideal) _ _) _
      rw [rows8_at, rows8_at]
      exact (hq i).sub (h i j.succ)
    cases plus <;> cases pos <;> rw [walkV, Gray.walkC]
    · exact walk_holds h l _ _ _ _ _ _ _ hm (ha.sub (prod_holds hm))
    · exact walk_holds h l _ _ _ _ _ _ _ hm (ha.add (prod_holds hm))
    · exact walk_holds h l _ _ _ _ _ _ _ hp (ha.sub (prod_holds hp))
    · exact walk_holds h l _ _ _ _ _ _ _ hp (ha.add (prod_holds hp))

/-- The accumulators end at half the permanent. -/
theorem acc_holds {r : Fin 8} {c : Fin 128} {gr gi : V T64x1024} {A : Fin 8 → Fin 8 → ℂ} (h : Entries r c gr gi A) :
    Holds ((accV gr gi).1 (ix2 r c)) ((accV gr gi).2 (ix2 r c)) (half A) := by
  have e := walk_holds h flips false _ _ _ _ _ _ (qstart_holds h) (prod_holds (qstart_holds h))
  rw [Gray.walk_half A _ fun i => rfl] at e
  exact e

theorem cmpi_eq {a b : BitVec 32} (h : IntOp.cmpi .eq a b = 1) : a = b := by
  by_contra hne
  have : (a == b) = false := beq_eq_false_iff_ne.mpr hne
  have h' : BitVec.ofBool (a == b) = 1 := h
  rw [this] at h'
  exact absurd h' (by decide)

/-- The value of a place off the diagonal. -/
theorem kval_off {r : Fin 8} {c : Fin 128} {gr gi : V T64x1024} {A : Fin 8 → Fin 8 → ℂ} (h : Entries r c gr gi A) (rb cb : BitVec 32)
    (hne : rb + BitVec.ofNat 32 r.val ≠ cb + BitVec.ofNat 32 c.val) :
    kval rb cb (accV gr gi).1 (accV gr gi).2 (ix2 r c) = ((Complex.normSq (perm A) : ℝ) : EReal) := by
  have e := (acc_holds h).normSq
  have hr : BitVec.ofNat 32 (0 * 8 + r.val) = BitVec.ofNat 32 r.val := by rw [Nat.zero_mul, Nat.zero_add]
  have hc : BitVec.ofNat 32 (0 * 128 + c.val) = BitVec.ofNat 32 c.val := by rw [Nat.zero_mul, Nat.zero_add]
  show (if IntOp.cmpi .eq (rb + BitVec.ofNat 32 (0 * 8 + r.val)) (cb + BitVec.ofNat 32 (0 * 128 + c.val)) = 1 then _
    else Scalar.ofBits .f32 0x40800000#32 * (_ * _ + _ * _)) = _
  rw [hr, hc, if_neg (fun h0 => hne (cmpi_eq h0))]
  rw [← Gray.normSq_perm, EReal.coe_mul, ← four_word]
  exact congrArg _ e

/-- The value of a place on the diagonal. -/
theorem kval_on (r : Fin 8) (c : Fin 128) (ar ai : V T8x128) (rb cb : BitVec 32)
    (he : rb + BitVec.ofNat 32 r.val = cb + BitVec.ofNat 32 c.val) : kval rb cb ar ai (ix2 r c) = 1 := by
  have hr : BitVec.ofNat 32 (0 * 8 + r.val) = BitVec.ofNat 32 r.val := by rw [Nat.zero_mul, Nat.zero_add]
  have hc : BitVec.ofNat 32 (0 * 128 + c.val) = BitVec.ofNat 32 c.val := by rw [Nat.zero_mul, Nat.zero_add]
  show (if IntOp.cmpi .eq (rb + BitVec.ofNat 32 (0 * 8 + r.val)) (cb + BitVec.ofNat 32 (0 * 128 + c.val)) = 1 then
    Ideal.ofBits .f32 0x3F800000#32 else _) = _
  rw [hr, hc, if_pos (by simp [IntOp.cmpi, he]), Ideal.ofBits_one_f32]

end Cert.Perm

end
-- ==== Proof.KernelGram.lean ====
/- The Gram entries of one tile: at a place, sums over the sixteen modes. -/
module

public import proofs.«01_k».proof.Proof.KernelTile

@[expose] public section

noncomputable section

namespace Cert.Perm

open Idealize.ShloMosaic Idealize.ShloMosaic.ValueIdx Cert.Pairs Cert.Permanent

abbrev H (s : Shape) := FVec Ideal s .bf16

theorem gram_sum (a : H T64x128) (v : H T128x1024) (p : Fin 64) (q : Fin 1024) :
    matmul gramDims none a v (constant T64x1024 .f32 0x00000000#32) (ix2 p q) = ∑ k : Fin 128, a (ix2 p k) * v (ix2 k q) := by
  have hk := contrEquiv1_symm_val gramDims 128 rfl rfl
  have hl : ∀ k : Fin 128, gramDims.lhsIdx (ix2 p q) ((contrEquiv1 gramDims 128 rfl rfl).symm k) = ix2 p k := by
    intro k
    funext b
    apply Fin.ext
    fin_cases b
    · rfl
    · exact hk k
  have hr : ∀ k : Fin 128, gramDims.rhsIdx (ix2 p q) ((contrEquiv1 gramDims 128 rfl rfl).symm k) = ix2 k q := by
    intro k
    funext b
    apply Fin.ext
    fin_cases b
    · exact hk k
    · rfl
  show Ideal.ofBits .f32 0x00000000#32 + ∑ k : gramDims.contr.Idx, a (gramDims.lhsIdx (ix2 p q) k) * v (gramDims.rhsIdx (ix2 p q) k) = _
  rw [Ideal.ofBits_zero_f32, zero_add, ← Equiv.sum_comp (contrEquiv1 gramDims 128 rfl rfl).symm]
  exact Finset.sum_congr rfl fun k _ => by rw [hl, hr]

/-- Column `m` of block `k`. -/
abbrev inBlock (k : Fin 8) (m : Fin 16) : Fin 128 := ⟨16 * k.val + m.val, by omega⟩

theorem sum_blocks (f : Fin 128 → EReal) : ∑ x, f x = ∑ k : Fin 8, ∑ m : Fin 16, f (inBlock k m) := by
  rw [← Fintype.sum_prod_type', ← Equiv.sum_comp (finProdFinEquiv (m := 8) (n := 16))]
  refine Finset.sum_congr rfl fun x _ => congrArg f (Fin.ext ?_)
  show x.2.val + 16 * x.1.val = 16 * x.1.val + x.2.val
  omega

theorem parity_row : ∀ k : Fin 128, colParity (ix2 (0 : Fin 64) k) = BitVec.ofNat 32 (k.val / 16 % 2) := by decide +kernel

theorem parity_col (p : Fin 64) (k : Fin 128) : colParity (ix2 p k) = BitVec.ofNat 32 (k.val / 16 % 2) := parity_row k

theorem minus_word : (Scalar.ofBits .f32 0xBF800000#32 : Ideal .f32) = ((-1 : ℝ) : EReal) := by
  show Ideal.ofBits .f32 0xBF800000#32 = _
  simp [Ideal.ofBits, Ideal.ieee, -EReal.coe_mul]
  norm_num

theorem signed_even (a : H T64x128) (p : Fin 64) (k : Fin 128) (h : k.val / 16 % 2 = 0) : signed a (ix2 p k) = a (ix2 p k) := by
  show a (ix2 p k) * (if IntOp.cmpi .eq (colParity (ix2 p k)) (0#32) = 1 then Ideal.ofBits .f32 0x3F800000#32 else _) = _
  rw [parity_col, h, if_pos (show IntOp.cmpi .eq (BitVec.ofNat 32 0) (0#32) = 1 by decide), Ideal.ofBits_one_f32, mul_one]

theorem signed_odd (a : H T64x128) (p : Fin 64) (k : Fin 128) (h : k.val / 16 % 2 = 1) :
    signed a (ix2 p k) = a (ix2 p k) * ((-1 : ℝ) : EReal) := by
  show a (ix2 p k) * (if IntOp.cmpi .eq (colParity (ix2 p k)) (0#32) = 1 then Ideal.ofBits .f32 0x3F800000#32 else (Scalar.ofBits .f32 0xBF800000#32 : Ideal .f32)) = _
  rw [parity_col, h, if_neg (show ¬ IntOp.cmpi .eq (BitVec.ofNat 32 1) (0#32) = 1 by decide), minus_word]

theorem stack_low (b : Vec Ideal T1x64x1024 .bf16) (q : Fin 64) (l : Fin 1024) :
    stackB b (ix2 (⟨q.val, by omega⟩ : Fin 128) l) = (b : H T1x64x1024) (ix3 (0 : Fin 1) q l) := by
  refine (concatenate_apply_piece (t := T128x1024) 0 _ _ _ 0 (by simp) T64x1024 _ (by rfl) rfl 0 (by rfl) (ix2 q l)
    (fun b hb => by fin_cases b <;> first | rfl | exact absurd rfl hb) (Nat.zero_add _)).trans ?_
  refine shapeCast_apply _ _ _ _ ?_
  rw [Shape.rowMajor_val_three, Shape.rowMajor_val_two]
  show (0 * 64 + q.val) * 1024 + l.val = q.val * 1024 + l.val
  omega

/-- The exchanged stack at block `k`, once its piece is known. -/
theorem swap_piece (v : H T128x1024) (k o : Nat) (hk : k < 8) (ho : T128x1024.Slices ![o, 0] T16x1024) (m : Fin 16) (l : Fin 1024)
    (ho' : o + m.val < 128) (pieces : List ((s : Shape) × (s.Idx → Ideal .bf16))) (hp : pieces.length = 8)
    (hc : Shape.Concatenates (pieces.map (·.1)) T128x1024 0)
    (hx : pieces[k] = ⟨T16x1024, extractStridedSlice T16x1024 ![o, 0] v ho⟩)
    (hs : (((pieces.take k).map (·.1)).map fun s => if h : s.rank = T128x1024.rank then s.size ((0 : Fin 2).cast h.symm) else 0).sum = 16 * k) :
    concatenate T128x1024 0 pieces hc (ix2 (⟨16 * k + m.val, by omega⟩ : Fin 128) l) = v (ix2 (⟨o + m.val, ho'⟩ : Fin 128) l) := by
  refine (concatenate_apply_piece (t := T128x1024) 0 _ _ _ k (by omega) T16x1024 _ hx rfl (16 * k) hs (ix2 m l)
    (fun b hb => by fin_cases b <;> first | rfl | exact absurd rfl hb) rfl).trans ?_
  refine extractStridedSlice_apply _ _ _ _ _ fun a => ?_
  fin_cases a
  · rfl
  · exact (Nat.zero_add _).symm

theorem swap_at (v : H T128x1024) (k : Fin 8) (m : Fin 16) (l : Fin 1024) :
    swapB v (ix2 (inBlock k m) l) = v (ix2 (inBlock ⟨if k.val % 2 = 0 then k.val + 1 else k.val - 1, by split <;> omega⟩ m) l) := by
  fin_cases k
  · exact swap_piece v 0 16 (by decide) (by decide) m l (by omega) _ rfl _ rfl rfl
  · exact swap_piece v 1 0 (by decide) (by decide) m l (by omega) _ rfl _ rfl rfl
  · exact swap_piece v 2 48 (by decide) (by decide) m l (by omega) _ rfl _ rfl rfl
  · exact swap_piece v 3 32 (by decide) (by decide) m l (by omega) _ rfl _ rfl rfl
  · exact swap_piece v 4 80 (by decide) (by decide) m l (by omega) _ rfl _ rfl rfl
  · exact swap_piece v 5 64 (by decide) (by decide) m l (by omega) _ rfl _ rfl rfl
  · exact swap_piece v 6 112 (by decide) (by decide) m l (by omega) _ rfl _ rfl rfl
  · exact swap_piece v 7 96 (by decide) (by decide) m l (by omega) _ rfl _ rfl rfl

/-- One row of the left operand: the two parts twice, then nothing. -/
def LeftRow (a : H T64x128) (p : Fin 64) (xr xi : Fin 16 → EReal) : Prop :=
  ∀ m, a (ix2 p (inBlock 0 m)) = xr m ∧ a (ix2 p (inBlock 1 m)) = xi m ∧ a (ix2 p (inBlock 2 m)) = xr m ∧ a (ix2 p (inBlock 3 m)) = xi m
    ∧ a (ix2 p (inBlock 4 m)) = 0 ∧ a (ix2 p (inBlock 5 m)) = 0 ∧ a (ix2 p (inBlock 6 m)) = 0 ∧ a (ix2 p (inBlock 7 m)) = 0

/-- Row `m` of part `k` of the right operand. -/
abbrev inPart (k : Fin 4) (m : Fin 16) : Fin 64 := ⟨16 * k.val + m.val, by omega⟩

/-- One column of the right operand: the two parts, then nothing. -/
def RightCol (b : Vec Ideal T1x64x1024 .bf16) (l : Fin 1024) (yr yi : Fin 16 → EReal) : Prop :=
  ∀ m, (b : H T1x64x1024) (ix3 (0 : Fin 1) (inPart 0 m) l) = yr m ∧ (b : H T1x64x1024) (ix3 (0 : Fin 1) (inPart 1 m) l) = yi m
    ∧ (b : H T1x64x1024) (ix3 (0 : Fin 1) (inPart 2 m) l) = 0 ∧ (b : H T1x64x1024) (ix3 (0 : Fin 1) (inPart 3 m) l) = 0

theorem stack_blocks {b : Vec Ideal T1x64x1024 .bf16} {l : Fin 1024} {yr yi : Fin 16 → EReal} (h : RightCol b l yr yi) (m : Fin 16) :
    stackB b (ix2 (inBlock 0 m) l) = yr m ∧ stackB b (ix2 (inBlock 1 m) l) = yi m
      ∧ stackB b (ix2 (inBlock 2 m) l) = 0 ∧ stackB b (ix2 (inBlock 3 m) l) = 0 :=
  ⟨(stack_low b (inPart 0 m) l).trans (h m).1, (stack_low b (inPart 1 m) l).trans (h m).2.1,
    (stack_low b (inPart 2 m) l).trans (h m).2.2.1, (stack_low b (inPart 3 m) l).trans (h m).2.2.2⟩

/-- A product of a number's conjugate and another, part by part. -/
theorem holds_conj_mul {a b c d : EReal} {z w : ℂ} (h : Holds a b z) (k : Holds c d w) :
    Holds (a * c + b * d) (a * d + b * ((-1 : ℝ) : EReal) * c) ((starRingEnd ℂ) z * w) := by
  obtain ⟨rfl, rfl⟩ := h
  obtain ⟨rfl, rfl⟩ := k
  constructor
  · rw [← EReal.coe_mul, ← EReal.coe_mul, ← EReal.coe_add, Complex.mul_re, Complex.conj_re, Complex.conj_im]
    congr 1
    ring
  · rw [← EReal.coe_mul, ← EReal.coe_mul, ← EReal.coe_mul, ← EReal.coe_add, Complex.mul_im, Complex.conj_re, Complex.conj_im]
    congr 1
    ring

/-- The two Gram entries of a row and a column. -/
theorem gram_holds {a : H T64x128} {b : Vec Ideal T1x64x1024 .bf16} {p : Fin 64} {l : Fin 1024} {xr xi yr yi : Fin 16 → EReal}
    {x y : Fin 16 → ℂ} (ha : LeftRow a p xr xi) (hb : RightCol b l yr yi) (hx : ∀ m, Holds (xr m) (xi m) (x m))
    (hy : ∀ m, Holds (yr m) (yi m) (y m)) :
    Holds (gramR a (stackB b) (ix2 p l)) (gramI a (swapB (stackB b)) (ix2 p l)) (∑ m, (starRingEnd ℂ) (x m) * y m) := by
  have e := Holds.sum fun m => holds_conj_mul (hx m) (hy m)
  have eR : gramR a (stackB b) (ix2 p l) = ∑ m, (xr m * yr m + xi m * yi m) := by
    unfold gramR
    rw [gram_sum, sum_blocks, Fin.sum_univ_eight, Finset.sum_add_distrib]
    have z4 : ∀ k : Fin 8, 4 ≤ k.val → ∑ m : Fin 16, a (ix2 p (inBlock k m)) * stackB b (ix2 (inBlock k m) l) = 0 := by
      intro k hk
      refine Finset.sum_eq_zero fun m _ => ?_
      have h0 : a (ix2 p (inBlock k m)) = 0 := by
        obtain ⟨_, _, _, _, h4, h5, h6, h7⟩ := ha m
        fin_cases k <;> first | exact absurd hk (by decide) | assumption
      rw [h0, zero_mul]
    have s0 : ∀ m, _ := fun m => congrArg₂ (· * ·) (ha m).1 (stack_blocks hb m).1
    have s1 : ∀ m, _ := fun m => congrArg₂ (· * ·) (ha m).2.1 (stack_blocks hb m).2.1
    have s2 : ∀ m, _ := fun m => (congrArg₂ (· * ·) (ha m).2.2.1 (stack_blocks hb m).2.2.1).trans (mul_zero _)
    have s3 : ∀ m, _ := fun m => (congrArg₂ (· * ·) (ha m).2.2.2.1 (stack_blocks hb m).2.2.2).trans (mul_zero _)
    rw [z4 4 (by decide), z4 5 (by decide), z4 6 (by decide), z4 7 (by decide), Finset.sum_congr rfl fun m _ => s0 m,
      Finset.sum_congr rfl fun m _ => s1 m, Finset.sum_eq_zero fun m _ => s2 m, Finset.sum_eq_zero fun m _ => s3 m]
    simp only [add_zero]
  have eI : gramI a (swapB (stackB b)) (ix2 p l) = ∑ m, (xr m * yi m + xi m * ((-1 : ℝ) : EReal) * yr m) := by
    unfold gramI
    rw [gram_sum, sum_blocks, Fin.sum_univ_eight, Finset.sum_add_distrib]
    have z4 : ∀ k : Fin 8, 4 ≤ k.val → ∑ m : Fin 16, signed a (ix2 p (inBlock k m)) * swapB (stackB b) (ix2 (inBlock k m) l) = 0 := by
      intro k hk
      refine Finset.sum_eq_zero fun m _ => ?_
      have h0 : a (ix2 p (inBlock k m)) = 0 := by
        obtain ⟨_, _, _, _, h4, h5, h6, h7⟩ := ha m
        fin_cases k <;> first | exact absurd hk (by decide) | assumption
      obtain h2 | h2 : (inBlock k m).val / 16 % 2 = 0 ∨ (inBlock k m).val / 16 % 2 = 1 := by omega
      · rw [signed_even _ _ _ h2, h0, zero_mul]
      · rw [signed_odd _ _ _ h2, h0, zero_mul, zero_mul]
    have even : ∀ (k : Fin 8) (m : Fin 16), k.val % 2 = 0 → signed a (ix2 p (inBlock k m)) = a (ix2 p (inBlock k m)) := fun k m h =>
      signed_even _ _ _ (by show (16 * k.val + m.val) / 16 % 2 = 0; omega)
    have odd : ∀ (k : Fin 8) (m : Fin 16), k.val % 2 = 1 → signed a (ix2 p (inBlock k m)) = a (ix2 p (inBlock k m)) * ((-1 : ℝ) : EReal) :=
      fun k m h => signed_odd _ _ _ (by show (16 * k.val + m.val) / 16 % 2 = 1; omega)
    have s0 : ∀ m, _ := fun m => congrArg₂ (· * ·) ((even 0 m rfl).trans (ha m).1) ((swap_at _ 0 m l).trans (stack_blocks hb m).2.1)
    have s1 : ∀ m, _ := fun m => congrArg₂ (· * ·) ((odd 1 m rfl).trans (congrArg (· * ((-1 : ℝ) : EReal)) (ha m).2.1))
      ((swap_at _ 1 m l).trans (stack_blocks hb m).1)
    have s2 : ∀ m, _ := fun m => (congrArg₂ (· * ·) ((even 2 m rfl).trans (ha m).2.2.1) ((swap_at _ 2 m l).trans (stack_blocks hb m).2.2.2)).trans
      (mul_zero _)
    have s3 : ∀ m, _ := fun m => (congrArg₂ (· * ·) (odd 3 m rfl) ((swap_at _ 3 m l).trans (stack_blocks hb m).2.2.1)).trans (mul_zero _)
    rw [z4 4 (by decide), z4 5 (by decide), z4 6 (by decide), z4 7 (by decide), Finset.sum_congr rfl fun m _ => s0 m,
      Finset.sum_congr rfl fun m _ => s1 m, Finset.sum_eq_zero fun m _ => s2 m, Finset.sum_eq_zero fun m _ => s3 m]
    simp only [add_zero]
  rw [eR, eI]
  exact e

end Cert.Perm

end
-- ==== Proof.Overlap.lean ====
/- The amplitudes of each sample, their Gram arrays and the kernel of two samples, which both programs compute. -/
module

public import proofs.«01_k».proof.Proof.Angles
public import proofs.«01_k».proof.Proof.Pairs

@[expose] public section

noncomputable section

namespace Cert.Overlap

open Idealize.ShloMosaic Cert.Pairs Cert.Permanent

variable (x : FVec Ideal ⟨2, ![256, 64]⟩ .f32) (w : FVec Ideal ⟨2, ![120, 64]⟩ .f32) (b : FVec Ideal ⟨1, ![120]⟩ .f32)

/-- The amplitude of mode `m`, column `i` of sample `s`. -/
def amp (s : Fin 256) (m : Fin 16) (i : Fin 8) : ℂ := toC (Angles.cell x w b s i.val m.val)

theorem amp_holds (s : Fin 256) (m : Fin 16) (i : Fin 8) :
    Holds (Angles.cell x w b s i.val m.val).1 (Angles.cell x w b s i.val m.val).2 (amp x w b s m i) :=
  holds_toC (Angles.cell_real x w b s i.val m.val)

/-- The Gram array of two samples. -/
def gram (s t : Fin 256) (i j : Fin 8) : ℂ := ∑ m : Fin 16, (starRingEnd ℂ) (amp x w b s m i) * amp x w b t m j

/-- The kernel of two samples: the squared modulus of the Gram array's permanent, and one on the diagonal. -/
def kern (s t : Fin 256) : EReal := if s = t then 1 else ((Complex.normSq (perm (gram x w b s t)) : ℝ) : EReal)

theorem kern_symm (s t : Fin 256) : kern x w b s t = kern x w b t s := by
  unfold kern
  by_cases h : s = t
  · rw [if_pos h, if_pos h.symm]
  · rw [if_neg h, if_neg (Ne.symm h), perm_conj (gram x w b t s) (gram x w b s t), Complex.normSq_conj]
    intro i j
    unfold gram
    rw [map_sum]
    refine Finset.sum_congr rfl fun m _ => ?_
    rw [map_mul, Complex.conj_conj, mul_comm]

end Cert.Overlap

end
-- ==== Proof.KernelMiddle.lean ====
/- What lies between the two calls: the embedding turned round, and the packed operands of the second call. -/
module

public import proofs.«01_k».proof.Proof.KernelFirst
public import proofs.«01_k».proof.Proof.KernelGram
public import proofs.«01_k».proof.Proof.Overlap

@[expose] public section

noncomputable section

namespace Cert.KernelIdeal.Run

open Cert.KernelIdeal Cert.KernelIdeal.Gen Cert.Build
open Idealize.ShloMosaic Idealize.ShloMosaic.ValueIdx
open Idealize.ShloMosaic.TcCoe

variable (m : (ℓ : Loc nD τ sig) → Buf (Elt Ideal) ℓ)

theorem W3_emb (c : Dev nD) (s : Fin 256) (r : Fin 120) :
    (W3 m c main_v3 : FVec Ideal ⟨2, ![256, 120]⟩ .f32) (ix2 s r) = Angles.emb (xArg m c) (wArg m c) (bArg m c) s r := by
  have h : W3 m c main_v3 = transpose S256x120 [1, 0] (W2 m c main_v2_0 : FVec Ideal S120x256 .f32) (by decide) := by
    unfold W3
    after_results
  rw [h, transpose_apply _ _ _ _ (ix2 r s) fun b => by fin_cases b <;> rfl]
  exact first_emb m c r s

/-- Row `r` of eight of block `ai`, as a sample. -/
abbrev sampleOf (ai : Fin 32) (r : Fin 8) : Fin 256 := ⟨ai.val * 8 + r.val, by omega⟩

/-- A plane stack with its samples in blocks of eight and the modes last. -/
def turned (v : FVec Ideal S16x8x256 .f32) : FVec Ideal S32x64x16 .f32 :=
  shapeCast S32x64x16 (transpose S32x8x8x16 [2, 1, 3, 0] (shapeCast S16x8x32x8 v (by decide)) (by decide)) (by decide)

theorem turned_at (v : FVec Ideal S16x8x256 .f32) (ai : Fin 32) (i r : Fin 8) (n : Fin 16) :
    turned v (ix3 ai (⟨i.val * 8 + r.val, by omega⟩ : Fin 64) n) = v (ix3 n i (sampleOf ai r)) := by
  unfold turned
  refine (shapeCast_apply _ _ _ (ix4 ai i r n) ?_).trans ((transpose_apply _ _ _ _ (ix4 n i ai r) fun b => by fin_cases b <;> rfl).trans
    (shapeCast_apply _ _ _ _ ?_))
  · rw [Shape.rowMajor_val_four, Shape.rowMajor_val_three]
    show ((ai.val * 8 + i.val) * 8 + r.val) * 16 + n.val = (ai.val * 64 + (i.val * 8 + r.val)) * 16 + n.val
    omega
  · rw [Shape.rowMajor_val_four, Shape.rowMajor_val_three]
    show (n.val * 8 + i.val) * 256 + (ai.val * 8 + r.val) = ((n.val * 8 + i.val) * 32 + ai.val) * 8 + r.val
    omega

/-- What rounding leaves behind: nothing here. -/
abbrev rest (v : FVec Ideal S32x64x16 .f32) : FVec Ideal S32x64x16 .bf16 :=
  truncf .bf16 (subf v (extf .f32 (truncf .bf16 v (by decide) : FVec Ideal S32x64x16 .bf16) (by decide))) (by decide)

/-- The eight pieces of the left operand. -/
abbrev pieces (R I : FVec Ideal S32x64x16 .f32) : List ((s : Shape) × (s.Idx → Ideal .bf16)) :=
  [⟨S32x64x16, truncf .bf16 R (by decide)⟩, ⟨S32x64x16, truncf .bf16 I (by decide)⟩, ⟨S32x64x16, truncf .bf16 R (by decide)⟩,
    ⟨S32x64x16, truncf .bf16 I (by decide)⟩, ⟨S32x64x16, rest R⟩, ⟨S32x64x16, rest I⟩, ⟨S32x64x16, rest R⟩, ⟨S32x64x16, rest I⟩]

theorem joins (R I : FVec Ideal S32x64x16 .f32) : Shape.Concatenates ((pieces R I).map (·.1)) S32x64x128 2 :=
  show Shape.Concatenates (List.replicate 8 S32x64x16) S32x64x128 2 by decide

theorem W3_left (c : Dev nD) : (W3 m c main_v18 : FVec Ideal S32x64x128 .bf16)
    = concatenate S32x64x128 2 (pieces (turned (W2 m c main_v2_1)) (turned (W2 m c main_v2_2))) (joins _ _) := by
  unfold W3
  after_results
  rfl

theorem W3_right (c : Dev nD) : (W3 m c main_v19 : FVec Ideal S2x64x1024 .bf16)
    = shapeCast S2x64x1024 (W2 m c main_v2_3 : FVec Ideal S2x64x8x128 .bf16) (by decide) := by
  unfold W3
  after_results
  rfl

theorem piece_at (ps : List ((s : Shape) × (s.Idx → Ideal .bf16))) (hc : Shape.Concatenates (ps.map (·.1)) S32x64x128 2) (k : Nat)
    (hk : k < 8) (hp : ps.length = 8) (v : FVec Ideal S32x64x16 .bf16) (hx : ps[k] = ⟨S32x64x16, v⟩)
    (hs : (((ps.take k).map (·.1)).map fun s => if h : s.rank = S32x64x128.rank then s.size ((2 : Fin 3).cast h.symm) else 0).sum = 16 * k)
    (ai : Fin 32) (p : Fin 64) (n : Fin 16) :
    concatenate S32x64x128 2 ps hc (ix3 ai p (⟨16 * k + n.val, by omega⟩ : Fin 128)) = v (ix3 ai p n) :=
  concatenate_apply_piece (t := S32x64x128) 2 _ _ _ k (by omega) S32x64x16 _ hx rfl (16 * k) hs (ix3 ai p n)
    (fun b hb => by fin_cases b <;> first | rfl | exact absurd rfl hb) rfl

/-- The left operand, block by block. -/
theorem left_at (c : Dev nD) (ai : Fin 32) (i r : Fin 8) (n : Fin 16) (k : Fin 8) :
    (W3 m c main_v18 : FVec Ideal ⟨3, ![32, 64, 128]⟩ .bf16) (ix3 ai (⟨i.val * 8 + r.val, by omega⟩ : Fin 64) (Perm.inBlock k n))
      = if k.val < 4 then part (k.val % 2) (Angles.cell (xArg m c) (wArg m c) (bArg m c) (sampleOf ai r) i.val n.val) else 0 := by
  have eR := (turned_at (W2 m c main_v2_1) ai i r n).trans (first_re m c n i (sampleOf ai r))
  have eI := (turned_at (W2 m c main_v2_2) ai i r n).trans (first_im m c n i (sampleOf ai r))
  obtain ⟨hR, hI⟩ := Angles.cell_real (xArg m c) (wArg m c) (bArg m c) (sampleOf ai r) i.val n.val
  rw [← eR] at hR
  rw [← eI] at hI
  rw [W3_left]
  fin_cases k
  · exact (piece_at _ _ 0 (by decide) rfl _ rfl rfl ai _ n).trans eR
  · exact (piece_at _ _ 1 (by decide) rfl _ rfl rfl ai _ n).trans eI
  · exact (piece_at _ _ 2 (by decide) rfl _ rfl rfl ai _ n).trans eR
  · exact (piece_at _ _ 3 (by decide) rfl _ rfl rfl ai _ n).trans eI
  · exact (piece_at _ _ 4 (by decide) rfl _ rfl rfl ai _ n).trans (sub_self_real hR)
  · exact (piece_at _ _ 5 (by decide) rfl _ rfl rfl ai _ n).trans (sub_self_real hI)
  · exact (piece_at _ _ 6 (by decide) rfl _ rfl rfl ai _ n).trans (sub_self_real hR)
  · exact (piece_at _ _ 7 (by decide) rfl _ rfl rfl ai _ n).trans (sub_self_real hI)

/-- The right operand, part by part. -/
theorem right_at (c : Dev nD) (t : Fin 2) (q : Fin 64) (j : Fin 8) (l : Fin 128) :
    (W3 m c main_v19 : FVec Ideal ⟨3, ![2, 64, 1024]⟩ .bf16) (ix3 t q (⟨128 * j.val + l.val, by omega⟩ : Fin 1024))
      = part (q.val / 16) (Angles.cell (xArg m c) (wArg m c) (bArg m c) (lane0 t l) j.val (q.val % 16)) := by
  rw [W3_right]
  refine (shapeCast_apply _ _ _ (ix4 t q j l) ?_).trans (first_packed m c t q j l)
  rw [Shape.rowMajor_val_four, Shape.rowMajor_val_three]
  show ((t.val * 64 + q.val) * 8 + j.val) * 128 + l.val = (t.val * 64 + q.val) * 1024 + (128 * j.val + l.val)
  omega

end Cert.KernelIdeal.Run

end
-- ==== Proof.KernelSecond.lean ====
/- What the second call leaves on and above the diagonal, and the kernel put together of it. -/
module

public import proofs.«01_k».proof.Proof.KernelMiddle
public import Idealize.ShloMosaic.Lib.Pipeline.ArrRel
public import Idealize.ShloMosaic.Lib.Pipeline.DatRel

@[expose] public section

noncomputable section

namespace Cert.KernelIdeal.Run

open Cert.KernelIdeal Cert.KernelIdeal.Gen Cert.Perm Cert.Overlap
open Idealize.ShloMosaic Idealize.ShloMosaic.ValueIdx
open Idealize.ShloMosaic.TcCoe
open Idealize.ShloMosaic.Pipeline (Dat RDat)

variable (m : (ℓ : Loc nD τ sig) → Buf (Elt Ideal) ℓ)

/-! ## Where the blocks lie -/

/-- The two grid coordinates of a point. -/
abbrev colBlk (t : Fin cfg1.N) : Fin 2 := ⟨(grid1.coords t 0).val, (grid1.coords t 0).isLt⟩
abbrev rowBlk (t : Fin cfg1.N) : Fin 4 := ⟨(grid1.coords t 1).val, (grid1.coords t 1).isLt⟩

theorem idx1_1 : ∀ t : Fin cfg1.N, win1_1.index t 0 = (rowBlk t).val ∧ win1_1.index t 1 = 0 ∧ win1_1.index t 2 = 0 := by decide +kernel
theorem idx1_2 : ∀ t : Fin cfg1.N, win1_2.index t 0 = (colBlk t).val ∧ win1_2.index t 1 = 0 ∧ win1_2.index t 2 = 0 := by decide +kernel
theorem idx1_3 : ∀ t : Fin cfg1.N, win1_3.index t 0 = (rowBlk t).val ∧ win1_3.index t 1 = (colBlk t).val := by decide +kernel

theorem blocks_ex : ∀ (a : Fin 4) (b : Fin 2), ∃ t : Fin cfg1.N, rowBlk t = a ∧ colBlk t = b := by decide +kernel

/-- Row `p` of row block `a`, and lane `l` of column block `b`, as samples. -/
abbrev rowIn (a : Fin 4) (p : Fin 64) : Fin 256 := ⟨a.val * 64 + p.val, by omega⟩
abbrev colIn (b : Fin 2) (l : Fin 128) : Fin 256 := ⟨b.val * 128 + l.val, by omega⟩

theorem place1_1 (t : Fin cfg1.N) (y : (⟨3, ![8, 64, 128]⟩ : Shape).Idx) :
    ((cfg1.win 1).blk t).view.emb y
      = ix3 (⟨(rowBlk t).val * 8 + (y 0).val, by have := (rowBlk t).isLt; have : (y 0).val < 8 := (y 0).isLt; omega⟩ : Fin 32) (y 1) (y 2) := by
  obtain ⟨e0, e1, e2⟩ := idx1_1 t
  funext a
  apply Fin.ext
  match a with
  | ⟨0, _⟩ => show win1_1.index t (0 : Fin 3) * 8 + 1 * (y 0).val = (rowBlk t).val * 8 + (y 0).val; omega
  | ⟨1, _⟩ => show win1_1.index t (1 : Fin 3) * 64 + 1 * (y 1).val = (y 1).val; omega
  | ⟨2, _⟩ => show win1_1.index t (2 : Fin 3) * 128 + 1 * (y 2).val = (y 2).val; omega

theorem place1_2 (t : Fin cfg1.N) (y : (⟨3, ![1, 64, 1024]⟩ : Shape).Idx) :
    ((cfg1.win 2).blk t).view.emb y = ix3 (colBlk t) (y 1) (y 2) := by
  obtain ⟨e0, e1, e2⟩ := idx1_2 t
  have h0 : (y 0).val < 1 := (y 0).isLt
  funext a
  apply Fin.ext
  match a with
  | ⟨0, _⟩ => show win1_2.index t (0 : Fin 3) * 1 + 1 * (y 0).val = (colBlk t).val; omega
  | ⟨1, _⟩ => show win1_2.index t (1 : Fin 3) * 64 + 1 * (y 1).val = (y 1).val; omega
  | ⟨2, _⟩ => show win1_2.index t (2 : Fin 3) * 1024 + 1 * (y 2).val = (y 2).val; omega

theorem place1_3 (t : Fin cfg1.N) (y : (⟨2, ![64, 128]⟩ : Shape).Idx) :
    ((cfg1.win 3).blk t).view.emb y = ix2 (rowIn (rowBlk t) (y 0)) (colIn (colBlk t) (y 1)) := by
  obtain ⟨e0, e1⟩ := idx1_3 t
  funext a
  apply Fin.ext
  match a with
  | ⟨0, _⟩ => show win1_3.index t (0 : Fin 2) * 64 + 1 * (y 0).val = (rowBlk t).val * 64 + (y 0).val; omega
  | ⟨1, _⟩ => show win1_3.index t (1 : Fin 2) * 128 + 1 * (y 1).val = (colBlk t).val * 128 + (y 1).val; omega

/-! ## The operands of a tile -/

theorem slab_at (va : Vec Ideal T8x64x128 .bf16) (s : Fin 8) (p : Fin 64) (q : Fin 128) :
    slab va s (ix2 p q) = (va : FVec Ideal T8x64x128 .bf16) (ix3 s p q) := by
  unfold slab
  refine (shapeCast_apply _ _ _ (ix3 (0 : Fin 1) p q) ?_).trans ?_
  · rw [Shape.rowMajor_val_three, Shape.rowMajor_val_two]
    show (0 * 64 + p.val) * 128 + q.val = p.val * 128 + q.val
    omega
  · show va _ = va _
    congr 1
    funext a
    apply Fin.ext
    fin_cases a
    · show s.val + 1 * 0 = s.val
      omega
    · show 0 + 1 * p.val = p.val
      omega
    · show 0 + 1 * q.val = q.val
      omega

theorem left_row (c : Dev nD) (t : Fin cfg1.N) (s i r : Fin 8) :
    LeftRow (slab (inBlk1 (vals (W3 m)) c 1 t) s) (⟨i.val * 8 + r.val, by omega⟩ : Fin 64)
      (fun n => (Angles.cell (xArg m c) (wArg m c) (bArg m c) (rowIn (rowBlk t) (⟨s.val * 8 + r.val, by omega⟩ : Fin 64)) i.val n.val).1)
      (fun n => (Angles.cell (xArg m c) (wArg m c) (bArg m c) (rowIn (rowBlk t) (⟨s.val * 8 + r.val, by omega⟩ : Fin 64)) i.val n.val).2) := by
  intro n
  have h : ∀ k : Fin 8, slab (inBlk1 (vals (W3 m)) c 1 t) s (ix2 (⟨i.val * 8 + r.val, by omega⟩ : Fin 64) (inBlock k n))
      = if k.val < 4 then part (k.val % 2) (Angles.cell (xArg m c) (wArg m c) (bArg m c)
        (rowIn (rowBlk t) (⟨s.val * 8 + r.val, by omega⟩ : Fin 64)) i.val n.val) else 0 := by
    intro k
    refine (slab_at _ s _ _).trans ?_
    show W3 m c main_v18 (((cfg1.win 1).blk t).view.emb (ix3 s (⟨i.val * 8 + r.val, by omega⟩ : Fin 64) (inBlock k n))) = _
    rw [place1_1]
    refine (left_at m c _ i r n k).trans ?_
    have e : sampleOf (⟨(rowBlk t).val * 8 + s.val, by have := (rowBlk t).isLt; omega⟩ : Fin 32) r
        = rowIn (rowBlk t) (⟨s.val * 8 + r.val, by omega⟩ : Fin 64) :=
      Fin.ext (by show ((rowBlk t).val * 8 + s.val) * 8 + r.val = (rowBlk t).val * 64 + (s.val * 8 + r.val); omega)
    rw [← e]
  exact ⟨h 0, h 1, h 2, h 3, h 4, h 5, h 6, h 7⟩

theorem right_col (c : Dev nD) (t : Fin cfg1.N) (j : Fin 8) (l : Fin 128) :
    RightCol (inBlk1 (vals (W3 m)) c 2 t) (⟨128 * j.val + l.val, by omega⟩ : Fin 1024)
      (fun n => (Angles.cell (xArg m c) (wArg m c) (bArg m c) (colIn (colBlk t) l) j.val n.val).1)
      (fun n => (Angles.cell (xArg m c) (wArg m c) (bArg m c) (colIn (colBlk t) l) j.val n.val).2) := by
  intro n
  have h : ∀ k : Fin 4, (inBlk1 (vals (W3 m)) c 2 t : FVec Ideal T1x64x1024 .bf16)
      (ix3 (0 : Fin 1) (inPart k n) (⟨128 * j.val + l.val, by omega⟩ : Fin 1024))
      = part k.val (Angles.cell (xArg m c) (wArg m c) (bArg m c) (colIn (colBlk t) l) j.val n.val) := by
    intro k
    show W3 m c main_v19 (((cfg1.win 2).blk t).view.emb (ix3 (0 : Fin 1) (inPart k n) (⟨128 * j.val + l.val, by omega⟩ : Fin 1024))) = _
    rw [place1_2]
    refine (right_at m c (colBlk t) (inPart k n) j l).trans ?_
    have e1 : (inPart k n).val / 16 = k.val := by show (16 * k.val + n.val) / 16 = k.val; omega
    have e2 : (inPart k n).val % 16 = n.val := by show (16 * k.val + n.val) % 16 = n.val; omega
    rw [e1, e2]
  exact ⟨h 0, h 1, h 2, h 3⟩

/-! ## A tile -/

theorem words (a s r b l : Nat) (ha : a < 4) (hs : s < 8) (hr : r < 8) (hb : b < 2) (hl : l < 128) :
    rowBase (BitVec.ofNat 32 a) (BitVec.ofNat 32 s) + BitVec.ofNat 32 r = Scalar.muli (BitVec.ofNat 32 b) 128#32 + BitVec.ofNat 32 l
      ↔ a * 64 + (s * 8 + r) = b * 128 + l := by
  have e1 : rowBase (BitVec.ofNat 32 a) (BitVec.ofNat 32 s) + BitVec.ofNat 32 r = BitVec.ofNat 32 (a * 64 + (s * 8 + r)) := by
    show (BitVec.ofNat 32 a * 8#32 + BitVec.ofNat 32 s) * 8#32 + BitVec.ofNat 32 r = _
    apply BitVec.eq_of_toNat_eq
    simp only [BitVec.toNat_add, BitVec.toNat_mul, BitVec.toNat_ofNat]
    omega
  have e2 : Scalar.muli (BitVec.ofNat 32 b) 128#32 + BitVec.ofNat 32 l = BitVec.ofNat 32 (b * 128 + l) := by
    show BitVec.ofNat 32 b * 128#32 + BitVec.ofNat 32 l = _
    apply BitVec.eq_of_toNat_eq
    simp only [BitVec.toNat_add, BitVec.toNat_mul, BitVec.toNat_ofNat]
    omega
  rw [e1, e2]
  constructor
  · intro h
    have h2 := congrArg BitVec.toNat h
    simp only [BitVec.toNat_ofNat] at h2
    omega
  · intro h
    rw [h]

theorem tile_at (c : Dev nD) (t : Fin cfg1.N) (s r : Fin 8) (l : Fin 128) :
    tileV (inBlk1 (vals (W3 m)) c 1 t) (stackB (inBlk1 (vals (W3 m)) c 2 t)) (swapB (stackB (inBlk1 (vals (W3 m)) c 2 t)))
      (rowBase (BitVec.ofNat 32 (rowBlk t).val) (BitVec.ofNat 32 s.val)) (Scalar.muli (BitVec.ofNat 32 (colBlk t).val) 128#32) s (ix2 r l)
      = kern (xArg m c) (wArg m c) (bArg m c) (rowIn (rowBlk t) (⟨s.val * 8 + r.val, by omega⟩ : Fin 64)) (colIn (colBlk t) l) := by
  have hw := words (rowBlk t).val s.val r.val (colBlk t).val l.val (rowBlk t).isLt s.isLt r.isLt (colBlk t).isLt l.isLt
  unfold tileV kern
  by_cases h : rowIn (rowBlk t) (⟨s.val * 8 + r.val, by omega⟩ : Fin 64) = colIn (colBlk t) l
  · rw [if_pos h]
    exact kval_on r l _ _ _ _ (hw.mpr (congrArg Fin.val h))
  · rw [if_neg h]
    refine kval_off (fun i j => ?_) _ _ fun h2 => h (Fin.ext (hw.mp h2))
    exact gram_holds (left_row m c t s i r) (right_col m c t j l) (fun n => amp_holds _ _ _ _ n i) (fun n => amp_holds _ _ _ _ n j)

theorem block_at (c : Dev nD) (t : Fin cfg1.N) (p : Fin 64) (l : Fin 128) :
    outBlk1 (vals (W3 m)) c t (ix2 p l) = kern (xArg m c) (wArg m c) (bArg m c) (rowIn (rowBlk t) p) (colIn (colBlk t) l) := by
  refine (tile_at m c t (⟨p.val / 8, by omega⟩ : Fin 8) (⟨p.val % 8, by omega⟩ : Fin 8) l).trans ?_
  congr 1
  exact Fin.ext (by show (rowBlk t).val * 64 + (p.val / 8 * 8 + p.val % 8) = (rowBlk t).val * 64 + p.val; omega)

/-! ## The array -/

theorem second_at (c : Dev nD) (f : Buf (Elt Ideal) ((c : Thread nD τ).loc main_v21)) (hf : Sel m c f) (s t : Fin 256) (h : s.val ≤ t.val) :
    (f : FVec Ideal ⟨2, ![256, 256]⟩ .f32) (ix2 s t) = kern (xArg m c) (wArg m c) (bArg m c) s t := by
  obtain ⟨X, hX, hG⟩ := RDat.ArrAt.exists_exact hf
  have hd := hG (fun w' u => if hw : 3 = w' then hw ▸ X u else fun _ => Classical.arbitrary _) fun u _ _ => by rw [dif_pos rfl]
  subst hd
  refine Dat.arrAt_forall_of_cover ((D1 m c).withAfter _) 3 (fun (i : S256x256.Idx) (v : EReal) => (i 0).val ≤ (i 1).val →
    v = kern (xArg m c) (wArg m c) (bArg m c) (i 0) (i 1)) ?_ ?_ (ix2 s t : S256x256.Idx) h
  · intro u hu y
    have hm : runs (grid1.coords u) = true → X u = outBlk1 (vals (W3 m)) c u := Dat.toRRel_leaves (dat1 (vals (W3 m)) c) (fgt := held3) (Rl := meets (vals (W3 m)) c) (w := 3) rfl (hX u u.isLt hu)
    rw [place1_3]
    intro hle
    have hr : runs (grid1.coords u) = true := decide_eq_true (by
      have h1 : (rowBlk u).val * 64 + (y 0).val ≤ (colBlk u).val * 128 + (y 1).val := hle
      have h2 : (y 1).val < 128 := (y 1).isLt
      show 64 * (rowBlk u).val < 128 * ((colBlk u).val + 1)
      omega)
    show X u y = _
    rw [hm hr]
    exact (congrArg (outBlk1 (vals (W3 m)) c u) (eq_ix2 y)).trans (block_at m c u (y 0) (y 1))
  · intro i
    have h0 : (i 0).val < 256 := (i 0).isLt
    have h1 : (i 1).val < 256 := (i 1).isLt
    obtain ⟨u, e0, e1⟩ := blocks_ex ⟨(i 0).val / 64, by omega⟩ ⟨(i 1).val / 128, by omega⟩
    refine ⟨u, flush1_3 u, ?_⟩
    have hmem := ((cfg1.win 3).blk u).view.emb_mem_set (ix2 (⟨(i 0).val % 64, by omega⟩ : Fin 64) (⟨(i 1).val % 128, by omega⟩ : Fin 128))
    have e : ((cfg1.win 3).blk u).view.emb (ix2 (⟨(i 0).val % 64, by omega⟩ : Fin 64) (⟨(i 1).val % 128, by omega⟩ : Fin 128)) = i := by
      refine (place1_3 u _).trans ?_
      rw [e0, e1]
      funext a
      apply Fin.ext
      match a with
      | ⟨0, _⟩ => show (i 0).val / 64 * 64 + (i 0).val % 64 = (i 0).val; omega
      | ⟨1, _⟩ => show (i 1).val / 128 * 128 + (i 1).val % 128 = (i 1).val; omega
    rwa [e] at hmem

/-! ## The two triangles -/

theorem W6_kern (c : Dev nD) (o : Res Ideal) (ho : Sel m c (o c)) (s t : Fin 256) :
    (W6 m o c main_v30 : FVec Ideal ⟨2, ![256, 256]⟩ .f32) (ix2 s t) = kern (xArg m c) (wArg m c) (bArg m c) s t := by
  have h : W6 m o c main_v30 = select (cmpi .sle
      (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0))))
      (W4 m o c main_v21 : FVec Ideal S256x256 .f32) (transpose S256x256 [1, 0] (W4 m o c main_v21 : FVec Ideal S256x256 .f32) (by decide)) := by
    unfold W6 W5
    after_results
    rfl
  rw [h, W4_21]
  have ht : transpose S256x256 [1, 0] (o c : FVec Ideal S256x256 .f32) transposes_S256x256_S256x256_1_0 (ix2 s t) = (o c : FVec Ideal S256x256 .f32) (ix2 t s) :=
    transpose_apply _ _ _ _ (ix2 t s) fun b => by fin_cases b <;> rfl
  have hcmp : IntOp.cmpi .sle (BitVec.ofNat 32 s.val) (BitVec.ofNat 32 t.val) = 1 ↔ s.val ≤ t.val := by
    show BitVec.ofBool (BitVec.sle (BitVec.ofNat 32 s.val) (BitVec.ofNat 32 t.val)) = 1 ↔ _
    have e : BitVec.sle (BitVec.ofNat 32 s.val) (BitVec.ofNat 32 t.val) = decide (s.val ≤ t.val) := by
      rw [BitVec.sle, BitVec.toInt_eq_toNat_of_lt (by simp only [BitVec.toNat_ofNat]; omega),
        BitVec.toInt_eq_toNat_of_lt (by simp only [BitVec.toNat_ofNat]; omega)]
      simp only [BitVec.toNat_ofNat]
      rw [decide_eq_decide]
      omega
    rw [e]
    by_cases h : s.val ≤ t.val <;> simp [h]
  show (if IntOp.cmpi .sle (BitVec.ofNat 32 s.val) (BitVec.ofNat 32 t.val) = 1 then (o c : FVec Ideal S256x256 .f32) (ix2 s t)
    else transpose S256x256 [1, 0] (o c : FVec Ideal S256x256 .f32) transposes_S256x256_S256x256_1_0 (ix2 s t)) = _
  by_cases hle : s.val ≤ t.val
  · rw [if_pos (hcmp.mpr hle)]
    exact second_at m c _ ho s t hle
  · rw [if_neg fun h => hle (hcmp.mp h), ht, kern_symm]
    exact second_at m c _ ho t s (by omega)

end Cert.KernelIdeal.Run

end
-- ==== Proof.RefLayer.lean ====
/- One layer of the reference as it is printed, with the number of its blocks and its first angle as parameters,
   and what it holds at an index. -/
module

public import Idealize.ShloMosaic.Lib.Pipeline.Value
public import Idealize.ShloMosaic.Lib.ValueIdx
public import Idealize.ShloMosaic.PureOps.Ideal.Laws
public import proofs.«01_k».proof.Proof.Cells

@[expose] public section

noncomputable section

namespace Cert.RefLayer

open Idealize.ShloMosaic Idealize.ShloMosaic.ValueIdx

abbrev R2 (k : Nat) : Shape := ⟨2, ![256, k]⟩
abbrev R3 (k e : Nat) : Shape := ⟨3, ![256, k, e]⟩
abbrev R4 (k e : Nat) : Shape := ⟨4, ![256, k, e, 16]⟩

/-- The side conditions of a layer of `k` blocks on `m` rows, the blocks starting at angle `n` and row `z`. -/
structure Fits (k m n z : Nat) : Prop where
  two : m = 2 * k
  ang : (R2 60).Slices ![0, n] (R2 k)
  up : (R2 k).BroadcastsInDim (R3 k 1) ![0, 1]
  along : (R3 k 1).BroadcastsInDim (R3 k 16) ![0, 1, 2]
  lift : (R3 k 16).BroadcastsInDim (R4 k 1) ![0, 1, 3]
  split : (R3 m 16).ShapeCasts (R4 k 2)
  flat : (R4 k 1).ShapeCasts (R3 k 16)
  join : (R4 k 2).ShapeCasts (R3 m 16)
  even : (R4 k 2).Slices ![0, 0, 0, 0] (R4 k 1)
  odd : (R4 k 2).Slices ![0, 0, 1, 0] (R4 k 1)
  cat : Shape.Concatenates [R4 k 1, R4 k 1] (R4 k 2) 2
  top : (R3 16 16).Slices ![0, 0, 0] (R3 z 16)
  bot : (R3 16 16).Slices ![0, 16 - z, 0] (R3 z 16)
  pad : Shape.Concatenates [R3 z 16, R3 m 16, R3 z 16] (R3 16 16) 1

variable {k m n z : Nat} (h : Fits k m n z)

abbrev A (s : Shape) := FVec Ideal s .f32

/-- The angles' function of the layer's blocks. -/
abbrev ang (x : A (R2 60)) : A (R3 k 1) := broadcastInDim (R3 k 1) ![0, 1] h.up (extractStridedSlice (R2 k) ![0, n] x h.ang)

abbrev along (x : A (R3 k 1)) : A (R3 k 16) := broadcastInDim (R3 k 16) ![0, 1, 2] h.along x

/-- The first rows of the blocks, and the second. -/
abbrev half0 (U : A (R3 m 16)) : A (R3 k 16) :=
  shapeCast (R3 k 16) (extractStridedSlice (R4 k 1) ![0, 0, 0, 0] (shapeCast (R4 k 2) U h.split) h.even) h.flat
abbrev half1 (U : A (R3 m 16)) : A (R3 k 16) :=
  shapeCast (R3 k 16) (extractStridedSlice (R4 k 1) ![0, 0, 1, 0] (shapeCast (R4 k 2) U h.split) h.odd) h.flat

/-- The rows of the blocks put together. -/
abbrev merge (x y : A (R3 k 16)) : A (R3 m 16) :=
  shapeCast (R3 m 16) (concatenate (R4 k 2) 2 [⟨R4 k 1, broadcastInDim (R4 k 1) ![0, 1, 3] h.lift x⟩,
    ⟨R4 k 1, broadcastInDim (R4 k 1) ![0, 1, 3] h.lift y⟩] h.cat) h.join

/-- The first row and the last put back where the blocks leave them out. -/
abbrev padded (U : A (R3 16 16)) (M : A (R3 m 16)) : A (R3 16 16) :=
  concatenate (R3 16 16) 1 [⟨R3 z 16, extractStridedSlice (R3 z 16) ![0, 0, 0] U h.top⟩, ⟨R3 m 16, M⟩,
    ⟨R3 z 16, extractStridedSlice (R3 z 16) ![0, 16 - z, 0] U h.bot⟩] h.pad

variable (C0 S0 C1 S1 : A (R2 60)) (Ur Ui : A (R3 16 16)) (Mr Mi : A (R3 m 16))

/-- The real part of the layer. -/
def layerR : A (R3 16 16) :=
  padded h Ur (merge h
    (subf (subf (mulf (along h (mulf (ang h C1) (ang h C0))) (half0 h Mr)) (mulf (along h (mulf (ang h S1) (ang h C0))) (half0 h Mi)))
      (mulf (along h (ang h S0)) (half1 h Mr)))
    (addf (subf (mulf (along h (mulf (ang h C1) (ang h S0))) (half0 h Mr)) (mulf (along h (mulf (ang h S1) (ang h S0))) (half0 h Mi)))
      (mulf (along h (ang h C0)) (half1 h Mr))))

/-- The imaginary part of the layer. -/
def layerI : A (R3 16 16) :=
  padded h Ui (merge h
    (subf (addf (mulf (along h (mulf (ang h C1) (ang h C0))) (half0 h Mi)) (mulf (along h (mulf (ang h S1) (ang h C0))) (half0 h Mr)))
      (mulf (along h (ang h S0)) (half1 h Mi)))
    (addf (addf (mulf (along h (mulf (ang h C1) (ang h S0))) (half0 h Mi)) (mulf (along h (mulf (ang h S1) (ang h S0))) (half0 h Mr)))
      (mulf (along h (ang h C0)) (half1 h Mi))))

/-! ## Readings -/

theorem ang_at (x : A (R2 60)) (s : Fin 256) (p : Fin k) (o : Fin 1) (hp : n + p.val < 60) :
    ang h x (ix3 s p o) = x (ix2 s ⟨n + p.val, hp⟩) := by
  unfold ang
  rw [broadcastInDim_apply _ h.up _ _ (ix2 s p) (fun a => by
    fin_cases a
    · rfl
    · show p.val = if k = 1 then 0 else p.val
      split
      · have := p.isLt; omega
      · rfl)]
  exact extractStridedSlice_apply _ x h.ang _ _ fun a => by
    fin_cases a
    · show s.val = 0 + s.val
      omega
    · rfl

theorem along_at (x : A (R3 k 1)) (s : Fin 256) (p : Fin k) (a : Fin 16) : along h x (ix3 s p a) = x (ix3 s p 0) :=
  broadcastInDim_apply _ h.along x _ _ fun b => by
    fin_cases b
    · rfl
    · show p.val = if k = 1 then 0 else p.val
      split
      · have := p.isLt; omega
      · rfl
    · rfl

theorem half0_at (U : A (R3 m 16)) (s : Fin 256) (p : Fin k) (a : Fin 16) (hp : 2 * p.val < m) :
    half0 h U (ix3 s p a) = U (ix3 s ⟨2 * p.val, hp⟩ a) := by
  unfold half0
  rw [shapeCast_apply _ h.flat (ix3 s p a) (ix4 s p (0 : Fin 1) a) (by
      rw [Shape.rowMajor_val_three, Shape.rowMajor_val_four]
      show ((s.val * k + p.val) * 1 + 0) * 16 + a.val = (s.val * k + p.val) * 16 + a.val
      ring),
    extractStridedSlice_apply _ _ h.even _ (ix4 s p (0 : Fin 2) a) (fun b => by
      fin_cases b <;> simp)]
  refine shapeCast_apply U h.split _ _ ?_
  rw [Shape.rowMajor_val_three, Shape.rowMajor_val_four]
  show (s.val * m + 2 * p.val) * 16 + a.val = ((s.val * k + p.val) * 2 + 0) * 16 + a.val
  rw [h.two]
  ring

theorem half1_at (U : A (R3 m 16)) (s : Fin 256) (p : Fin k) (a : Fin 16) (hp : 2 * p.val + 1 < m) :
    half1 h U (ix3 s p a) = U (ix3 s ⟨2 * p.val + 1, hp⟩ a) := by
  unfold half1
  rw [shapeCast_apply _ h.flat (ix3 s p a) (ix4 s p (0 : Fin 1) a) (by
      rw [Shape.rowMajor_val_three, Shape.rowMajor_val_four]
      show ((s.val * k + p.val) * 1 + 0) * 16 + a.val = (s.val * k + p.val) * 16 + a.val
      ring),
    extractStridedSlice_apply _ _ h.odd _ (ix4 s p (1 : Fin 2) a) (fun b => by
      fin_cases b <;> simp)]
  refine shapeCast_apply U h.split _ _ ?_
  rw [Shape.rowMajor_val_three, Shape.rowMajor_val_four]
  show (s.val * m + (2 * p.val + 1)) * 16 + a.val = ((s.val * k + p.val) * 2 + 1) * 16 + a.val
  rw [h.two]
  ring

theorem lift_at (x : A (R3 k 16)) (s : Fin 256) (p : Fin k) (e : Fin 1) (a : Fin 16) :
    broadcastInDim (R4 k 1) ![0, 1, 3] h.lift x (ix4 s p e a) = x (ix3 s p a) :=
  broadcastInDim_apply _ h.lift x _ _ fun b => by
    fin_cases b
    · rfl
    · show p.val = if k = 1 then 0 else p.val
      split
      · have := p.isLt; omega
      · rfl
    · rfl

theorem merge0_at (x y : A (R3 k 16)) (s : Fin 256) (p : Fin k) (a : Fin 16) (hp : 2 * p.val < m) :
    merge h x y (ix3 s ⟨2 * p.val, hp⟩ a) = x (ix3 s p a) := by
  unfold merge
  rw [shapeCast_apply _ h.join _ (ix4 s p (0 : Fin 2) a) (by
    rw [Shape.rowMajor_val_three, Shape.rowMajor_val_four]
    show ((s.val * k + p.val) * 2 + 0) * 16 + a.val = (s.val * m + 2 * p.val) * 16 + a.val
    rw [h.two]
    ring)]
  refine (concatenate_apply_piece (t := R4 k 2) 2 _ _ _ 0 (by simp) (R4 k 1) _ (by rfl) rfl 0 (by rfl) (ix4 s p (0 : Fin 1) a)
    (fun b hb => by fin_cases b <;> first | rfl | exact absurd rfl hb) rfl).trans (lift_at h _ s p _ a)

theorem merge1_at (x y : A (R3 k 16)) (s : Fin 256) (p : Fin k) (a : Fin 16) (hp : 2 * p.val + 1 < m) :
    merge h x y (ix3 s ⟨2 * p.val + 1, hp⟩ a) = y (ix3 s p a) := by
  unfold merge
  rw [shapeCast_apply _ h.join _ (ix4 s p (1 : Fin 2) a) (by
    rw [Shape.rowMajor_val_three, Shape.rowMajor_val_four]
    show ((s.val * k + p.val) * 2 + 1) * 16 + a.val = (s.val * m + (2 * p.val + 1)) * 16 + a.val
    rw [h.two]
    ring)]
  refine (concatenate_apply_piece (t := R4 k 2) 2 _ _ _ 1 (by simp) (R4 k 1) _ (by rfl) rfl 1 (by rfl) (ix4 s p (0 : Fin 1) a)
    (fun b hb => by fin_cases b <;> first | rfl | exact absurd rfl hb) rfl).trans (lift_at h _ s p _ a)

theorem padded_mid (U : A (R3 16 16)) (M : A (R3 m 16)) (s : Fin 256) (i : Fin m) (a : Fin 16) (hi : z + i.val < 16) :
    padded h U M (ix3 s ⟨z + i.val, hi⟩ a) = M (ix3 s i a) := by
  unfold padded
  refine (concatenate_apply_piece (t := R3 16 16) 1 _ _ _ 1 (by simp) (R3 m 16) _ (by rfl) rfl z (by simp) (ix3 s i a)
    (fun b hb => by fin_cases b <;> first | rfl | exact absurd rfl hb) rfl)

theorem padded_top (U : A (R3 16 16)) (M : A (R3 m 16)) (s : Fin 256) (i : Fin z) (a : Fin 16) (hi : i.val < 16) :
    padded h U M (ix3 s ⟨i.val, hi⟩ a) = U (ix3 s ⟨i.val, hi⟩ a) := by
  unfold padded
  refine (concatenate_apply_piece (t := R3 16 16) 1 _ _ _ 0 (by simp) (R3 z 16) _ (by rfl) rfl 0 (by rfl) (ix3 s i a)
    (fun b hb => by fin_cases b <;> first | rfl | exact absurd rfl hb) (by simp)).trans ?_
  exact extractStridedSlice_apply _ U h.top _ _ fun b => by fin_cases b <;> simp

theorem padded_bot (U : A (R3 16 16)) (M : A (R3 m 16)) (s : Fin 256) (i : Fin z) (a : Fin 16) (r : Nat) (hi : r < 16)
    (hz : z + m + z = 16) (hr : r = z + m + i.val) :
    padded h U M (ix3 s ⟨r, hi⟩ a) = U (ix3 s ⟨r, hi⟩ a) := by
  subst hr
  unfold padded
  refine (concatenate_apply_piece (t := R3 16 16) 1 _ _ _ 2 (by simp) (R3 z 16) _ (by rfl) rfl (z + m) (by simp) (ix3 s i a)
    (fun b hb => by fin_cases b <;> first | rfl | exact absurd rfl hb) rfl).trans ?_
  exact extractStridedSlice_apply _ U h.bot _ _ fun b => by
    fin_cases b
    · simp
    · show z + m + i.val = 16 - z + i.val
      omega
    · simp

end Cert.RefLayer

end
-- ==== Proof.RefRows.lean ====
/- The reference's layers in terms of cells. -/
module

public import proofs.«01_k».proof.Proof.RefLayer

@[expose] public section

noncomputable section

namespace Cert.RefLayer

open Idealize.ShloMosaic Idealize.ShloMosaic.ValueIdx Cert.Cells

/-- The cells of sample `s` and column `a`. -/
def cell (Ur Ui : A (R3 16 16)) (s : Fin 256) (a : Fin 16) (i : Nat) : Cell :=
  if h : i < 16 then (Ur (ix3 s ⟨i, h⟩ a), Ui (ix3 s ⟨i, h⟩ a)) else (0, 0)

/-- The values of sample `s`, the two arrays' in turns. -/
def turn (X0 X1 : A (R2 60)) (s : Fin 256) (r : Nat) : EReal :=
  if r % 2 = 0 then X0 (ix2 s ⟨r / 2 % 60, Nat.mod_lt _ (by decide)⟩) else X1 (ix2 s ⟨r / 2 % 60, Nat.mod_lt _ (by decide)⟩)

theorem cell_lt (Ur Ui : A (R3 16 16)) (s : Fin 256) (a : Fin 16) {i : Nat} (h : i < 16) :
    cell Ur Ui s a i = (Ur (ix3 s ⟨i, h⟩ a), Ui (ix3 s ⟨i, h⟩ a)) := dif_pos h

theorem turn_even (X0 X1 : A (R2 60)) (s : Fin 256) {n : Nat} (h : n < 60) : turn X0 X1 s (2 * n) = X0 (ix2 s ⟨n, h⟩) := by
  unfold turn
  have h1 : 2 * n / 2 % 60 = n := by omega
  have h2 : 2 * n % 2 = 0 := by omega
  simp only [h1, h2, if_true]

theorem turn_odd (X0 X1 : A (R2 60)) (s : Fin 256) {n : Nat} (h : n < 60) : turn X0 X1 s (2 * n + 1) = X1 (ix2 s ⟨n, h⟩) := by
  unfold turn
  have h1 : (2 * n + 1) / 2 % 60 = n := by omega
  have h2 : ¬ (2 * n + 1) % 2 = 0 := by omega
  simp only [h1, if_neg h2]

variable {k m n z : Nat} (h : Fits k m n z) (C0 S0 C1 S1 : A (R2 60)) (Ur Ui : A (R3 16 16)) (Mr Mi : A (R3 m 16))

/-- Two rows after their block. -/
theorem layer_block (hn : n + k ≤ 60) (hz : z + m ≤ 16)
    (hr : ∀ (s : Fin 256) (i : Fin m) (a : Fin 16) (hi : z + i.val < 16), Mr (ix3 s i a) = Ur (ix3 s ⟨z + i.val, hi⟩ a))
    (hi : ∀ (s : Fin 256) (i : Fin m) (a : Fin 16) (hi : z + i.val < 16), Mi (ix3 s i a) = Ui (ix3 s ⟨z + i.val, hi⟩ a))
    (s : Fin 256) (a : Fin 16) (p : Nat) (hp : p < k) :
    let c := turn C0 C1 s
    let w := turn S0 S1 s
    let f := cell Ur Ui s a
    let g := cell (layerR h C0 S0 C1 S1 Ur Mr Mi) (layerI h C0 S0 C1 S1 Ui Mr Mi) s a
    g (z + 2 * p) = block0 (c (2 * (n + p))) (w (2 * (n + p))) (c (2 * (n + p) + 1)) (w (2 * (n + p) + 1))
        (f (z + 2 * p)) (f (z + (2 * p + 1)))
      ∧ g (z + (2 * p + 1)) = block1 (c (2 * (n + p))) (w (2 * (n + p))) (c (2 * (n + p) + 1)) (w (2 * (n + p) + 1))
        (f (z + 2 * p)) (f (z + (2 * p + 1))) := by
  have h2 := h.two
  have q0 : 2 * p < m := by omega
  have q1 : 2 * p + 1 < m := by omega
  have z0 : z + 2 * p < 16 := by omega
  have z1 : z + (2 * p + 1) < 16 := by omega
  have hnp : n + p < 60 := by omega
  have A0 := fun x : A (R2 60) => ang_at h x s ⟨p, hp⟩ 0 hnp
  have M0 := fun x y : A (R3 k 16) => merge0_at h x y s ⟨p, hp⟩ a q0
  have M1 := fun x y : A (R3 k 16) => merge1_at h x y s ⟨p, hp⟩ a q1
  have P0 := fun U M => padded_mid h U M s ⟨2 * p, q0⟩ a z0
  have P1 := fun U M => padded_mid h U M s ⟨2 * p + 1, q1⟩ a z1
  have L := fun x : A (R3 k 1) => along_at h x s ⟨p, hp⟩ a
  have H0 := fun U : A (R3 m 16) => half0_at h U s ⟨p, hp⟩ a q0
  have H1 := fun U : A (R3 m 16) => half1_at h U s ⟨p, hp⟩ a q1
  have r0 := hr s ⟨2 * p, q0⟩ a z0
  have r1 := hr s ⟨2 * p + 1, q1⟩ a z1
  have i0 := hi s ⟨2 * p, q0⟩ a z0
  have i1 := hi s ⟨2 * p + 1, q1⟩ a z1
  intro c w f g
  simp only [c, w, f, g, cell_lt _ _ _ _ z0, cell_lt _ _ _ _ z1, turn_even _ _ _ hnp, turn_odd _ _ _ hnp, block0, block1, layerR, layerI]
  simp only at P0 P1 M0 M1 H0 H1 r0 r1 i0 i1
  refine ⟨Prod.ext ?_ ?_, Prod.ext ?_ ?_⟩
  · refine (P0 _ _).trans ((M0 _ _).trans ?_)
    simp only [subf, addf, mulf, L, A0, H0, H1, r0, r1, i0, i1]
    rfl
  · refine (P0 _ _).trans ((M0 _ _).trans ?_)
    simp only [subf, addf, mulf, L, A0, H0, H1, r0, r1, i0, i1]
    rfl
  · refine (P1 _ _).trans ((M1 _ _).trans ?_)
    simp only [subf, addf, mulf, L, A0, H0, H1, r0, r1, i0, i1]
    rfl
  · refine (P1 _ _).trans ((M1 _ _).trans ?_)
    simp only [subf, addf, mulf, L, A0, H0, H1, r0, r1, i0, i1]
    rfl

/-- A layer without rows left out. -/
theorem even_layer (h : Fits 8 16 n 0) (hn : n + 8 ≤ 60) (s : Fin 256) (a : Fin 16) :
    tab (cell (layerR h C0 S0 C1 S1 Ur Ur Ui) (layerI h C0 S0 C1 S1 Ui Ur Ui) s a) 0 16
      = sweep (turn C0 C1 s) (turn S0 S1 s) n (tab (cell Ur Ui s a) 0 16) :=
  (sweep_tab _ _ _ _ 0 (by decide) 8 n 0
    (fun p hp => layer_block h C0 S0 C1 S1 Ur Ui Ur Ui hn (by decide)
      (fun s i a hi => by congr 2; exact Fin.ext (Nat.zero_add _).symm)
      (fun s i a hi => by congr 2; exact Fin.ext (Nat.zero_add _).symm) s a p hp)
    (fun q hq => absurd hq (Nat.not_lt_zero _))).symm

theorem inner : (R3 16 16).Slices ![0, 1, 0] (R3 14 16) := by decide

/-- The rows but for the first and the last. -/
abbrev cut (U : A (R3 16 16)) : A (R3 14 16) := extractStridedSlice (R3 14 16) ![0, 1, 0] U inner

theorem cut_at (U : A (R3 16 16)) (s : Fin 256) (i : Fin 14) (a : Fin 16) (hi : 1 + i.val < 16) :
    cut U (ix3 s i a) = U (ix3 s ⟨1 + i.val, hi⟩ a) :=
  extractStridedSlice_apply _ U inner _ _ fun b => by fin_cases b <;> simp

/-- A layer that leaves out the first row and the last. -/
theorem odd_layer (h : Fits 7 14 n 1) (hn : n + 7 ≤ 60) (s : Fin 256) (a : Fin 16) :
    tab (cell (layerR h C0 S0 C1 S1 Ur (cut Ur) (cut Ui)) (layerI h C0 S0 C1 S1 Ui (cut Ur) (cut Ui)) s a) 0 16
      = oddSweep (turn C0 C1 s) (turn S0 S1 s) n (tab (cell Ur Ui s a) 0 16) := by
  have e0 : cell (layerR h C0 S0 C1 S1 Ur (cut Ur) (cut Ui)) (layerI h C0 S0 C1 S1 Ui (cut Ur) (cut Ui)) s a 0 = cell Ur Ui s a 0 := by
    rw [cell_lt _ _ _ _ (by decide), cell_lt _ _ _ _ (by decide)]
    unfold layerR layerI
    exact Prod.ext (padded_top h Ur _ s (0 : Fin 1) a (by decide)) (padded_top h Ui _ s (0 : Fin 1) a (by decide))
  have e1 : cell (layerR h C0 S0 C1 S1 Ur (cut Ur) (cut Ui)) (layerI h C0 S0 C1 S1 Ui (cut Ur) (cut Ui)) s a 15 = cell Ur Ui s a 15 := by
    rw [cell_lt _ _ _ _ (by decide), cell_lt _ _ _ _ (by decide)]
    unfold layerR layerI
    refine Prod.ext ?_ ?_
    · dsimp only
      exact padded_bot h Ur _ s (0 : Fin 1) a 15 (by decide) rfl rfl
    · dsimp only
      exact padded_bot h Ui _ s (0 : Fin 1) a 15 (by decide) rfl rfl
  show _ :: tab _ 1 (1 + 2 * 7) = cell Ur Ui s a 0 :: sweep _ _ n (tab _ 1 (1 + 2 * 7))
  rw [e0, sweep_tab _ _ _ _ 1 (by decide) 7 n 1
    (fun p hp => layer_block h C0 S0 C1 S1 Ur Ui (cut Ur) (cut Ui) hn (by decide)
      (fun s i a hi => cut_at Ur s i a hi) (fun s i a hi => cut_at Ui s i a hi) s a p hp)
    (fun q hq => by
      obtain rfl : q = 0 := by omega
      exact e1)]

end Cert.RefLayer

end
-- ==== Proof.RefCircuit.lean ====
/- The reference's sixteen rows after all its layers, in terms of cells. -/
module

public import proofs.«01_k».proof.Proof.RefRows
public import proofs.«01_k».proof.Proof.Angles
public import proofs.«01_k».proof.Proof.Gen.ReferenceIdeal.Read

@[expose] public section

noncomputable section

namespace Cert.RefCircuit

open Idealize.ShloMosaic Idealize.ShloMosaic.ValueIdx Cert.Cells Cert.RefLayer Cert.ReferenceIdeal.Read

theorem fits8 {n : Nat} (h : (R2 60).Slices ![0, n] (R2 8)) : Fits 8 16 n 0 :=
  ⟨rfl, h, by decide, by decide, by decide, by decide, by decide, by decide, by decide, by decide, by decide, by decide, by decide, by decide⟩

theorem fits7 {n : Nat} (h : (R2 60).Slices ![0, n] (R2 7)) : Fits 7 14 n 1 :=
  ⟨rfl, h, by decide, by decide, by decide, by decide, by decide, by decide, by decide, by decide, by decide, by decide, by decide, by decide⟩

variable (x0 : FVec Ideal ⟨2, ![256, 64]⟩ .f32) (x1 : FVec Ideal ⟨2, ![120, 64]⟩ .f32) (x2 : FVec Ideal ⟨1, ![120]⟩ .f32)

abbrev ct : A (R2 60) := val_main_v20 (F := Ideal) x0 x1 x2
abbrev st : A (R2 60) := val_main_v21 (F := Ideal) x0 x1 x2
abbrev cp : A (R2 60) := val_main_v22 (F := Ideal) x0 x1 x2
abbrev sp : A (R2 60) := val_main_v23 (F := Ideal) x0 x1 x2

/-- One layer without rows left out, and one with. -/
abbrev evenR (n : Nat) (h : (R2 60).Slices ![0, n] (R2 8)) (Ur Ui : A (R3 16 16)) : A (R3 16 16) :=
  layerR (fits8 h) (ct x0 x1 x2) (st x0 x1 x2) (cp x0 x1 x2) (sp x0 x1 x2) Ur Ur Ui
abbrev evenI (n : Nat) (h : (R2 60).Slices ![0, n] (R2 8)) (Ur Ui : A (R3 16 16)) : A (R3 16 16) :=
  layerI (fits8 h) (ct x0 x1 x2) (st x0 x1 x2) (cp x0 x1 x2) (sp x0 x1 x2) Ui Ur Ui
abbrev oddR (n : Nat) (h : (R2 60).Slices ![0, n] (R2 7)) (Ur Ui : A (R3 16 16)) : A (R3 16 16) :=
  layerR (fits7 h) (ct x0 x1 x2) (st x0 x1 x2) (cp x0 x1 x2) (sp x0 x1 x2) Ur (cut Ur) (cut Ui)
abbrev oddI (n : Nat) (h : (R2 60).Slices ![0, n] (R2 7)) (Ur Ui : A (R3 16 16)) : A (R3 16 16) :=
  layerI (fits7 h) (ct x0 x1 x2) (st x0 x1 x2) (cp x0 x1 x2) (sp x0 x1 x2) Ui (cut Ur) (cut Ui)

theorem layer0R : val_main_v100 (F := Ideal) x0 x1 x2 =
    evenR x0 x1 x2 0 (by decide) (val_main_v30 (F := Ideal)) (val_main_v31 (F := Ideal)) := rfl

theorem layer0I : val_main_v103 (F := Ideal) x0 x1 x2 =
    evenI x0 x1 x2 0 (by decide) (val_main_v30 (F := Ideal)) (val_main_v31 (F := Ideal)) := rfl

theorem layer1R : val_main_v174 (F := Ideal) x0 x1 x2 =
    oddR x0 x1 x2 8 (by decide) (val_main_v100 (F := Ideal) x0 x1 x2) (val_main_v103 (F := Ideal) x0 x1 x2) := rfl

theorem layer1I : val_main_v177 (F := Ideal) x0 x1 x2 =
    oddI x0 x1 x2 8 (by decide) (val_main_v100 (F := Ideal) x0 x1 x2) (val_main_v103 (F := Ideal) x0 x1 x2) := rfl

theorem layer2R : val_main_v246 (F := Ideal) x0 x1 x2 =
    evenR x0 x1 x2 15 (by decide) (val_main_v174 (F := Ideal) x0 x1 x2) (val_main_v177 (F := Ideal) x0 x1 x2) := rfl

theorem layer2I : val_main_v249 (F := Ideal) x0 x1 x2 =
    evenI x0 x1 x2 15 (by decide) (val_main_v174 (F := Ideal) x0 x1 x2) (val_main_v177 (F := Ideal) x0 x1 x2) := rfl

theorem layer3R : val_main_v320 (F := Ideal) x0 x1 x2 =
    oddR x0 x1 x2 23 (by decide) (val_main_v246 (F := Ideal) x0 x1 x2) (val_main_v249 (F := Ideal) x0 x1 x2) := rfl

theorem layer3I : val_main_v323 (F := Ideal) x0 x1 x2 =
    oddI x0 x1 x2 23 (by decide) (val_main_v246 (F := Ideal) x0 x1 x2) (val_main_v249 (F := Ideal) x0 x1 x2) := rfl

theorem layer4R : val_main_v392 (F := Ideal) x0 x1 x2 =
    evenR x0 x1 x2 30 (by decide) (val_main_v320 (F := Ideal) x0 x1 x2) (val_main_v323 (F := Ideal) x0 x1 x2) := rfl

theorem layer4I : val_main_v395 (F := Ideal) x0 x1 x2 =
    evenI x0 x1 x2 30 (by decide) (val_main_v320 (F := Ideal) x0 x1 x2) (val_main_v323 (F := Ideal) x0 x1 x2) := rfl

theorem layer5R : val_main_v466 (F := Ideal) x0 x1 x2 =
    oddR x0 x1 x2 38 (by decide) (val_main_v392 (F := Ideal) x0 x1 x2) (val_main_v395 (F := Ideal) x0 x1 x2) := rfl

theorem layer5I : val_main_v469 (F := Ideal) x0 x1 x2 =
    oddI x0 x1 x2 38 (by decide) (val_main_v392 (F := Ideal) x0 x1 x2) (val_main_v395 (F := Ideal) x0 x1 x2) := rfl

theorem layer6R : val_main_v538 (F := Ideal) x0 x1 x2 =
    evenR x0 x1 x2 45 (by decide) (val_main_v466 (F := Ideal) x0 x1 x2) (val_main_v469 (F := Ideal) x0 x1 x2) := rfl

theorem layer6I : val_main_v541 (F := Ideal) x0 x1 x2 =
    evenI x0 x1 x2 45 (by decide) (val_main_v466 (F := Ideal) x0 x1 x2) (val_main_v469 (F := Ideal) x0 x1 x2) := rfl

theorem layer7R : val_main_v612 (F := Ideal) x0 x1 x2 =
    oddR x0 x1 x2 53 (by decide) (val_main_v538 (F := Ideal) x0 x1 x2) (val_main_v541 (F := Ideal) x0 x1 x2) := rfl

theorem layer7I : val_main_v615 (F := Ideal) x0 x1 x2 =
    oddI x0 x1 x2 53 (by decide) (val_main_v538 (F := Ideal) x0 x1 x2) (val_main_v541 (F := Ideal) x0 x1 x2) := rfl

/-- The first result is the embedding. -/
theorem emb_at (s : Fin 256) (r : Fin 120) : val_main_v10 (F := Ideal) x0 x1 x2 (ix2 s r) = Angles.emb x0 x1 x2 s r := by
  rw [val_main_v10_apply, val_main_v8_apply, val_main_v6_apply, val_main_v5_apply, val_main_v4_apply, val_main_v1_apply,
    val_main_v3_apply, val_main_v2_apply, val_main_v9_apply, val_main_v7_apply]
  show Ideal.div (Ideal.ofBits .f32 0x3F800000#32) (Ideal.ofBits .f32 0x3F800000#32 + Ideal.exp (-(_ + _))) = Ideal.div 1 (1 + Ideal.exp (-(_ + _)))
  rw [Ideal.ofBits_one_f32]
  congr 5
  · refine Finset.sum_congr rfl fun k _ => ?_
    rw [val_main_v0_apply, mul_comm]
    congr 2
    · funext b
      fin_cases b <;> rfl
    · funext b
      fin_cases b <;> rfl
  · refine congrArg x2 (funext fun b => ?_)
    fin_cases b
    rfl

theorem theta_at (s : Fin 256) (n : Fin 60) (h : 2 * n.val < 120) :
    val_main_v13 (F := Ideal) x0 x1 x2 (ix2 s n) = Angles.emb x0 x1 x2 s ⟨2 * n.val, h⟩ := by
  rw [val_main_v13_apply, val_main_v12_apply, val_main_v11_apply, ← emb_at]
  congr 1
  funext b
  have hn := n.isLt
  fin_cases b
  · apply Fin.ext
    show ((((s.val * 60 + n.val) / 60) * 60 + (s.val * 60 + n.val) / 1 % 60) * 2 + 0) / 120 = s.val
    omega
  · apply Fin.ext
    show ((((s.val * 60 + n.val) / 60) * 60 + (s.val * 60 + n.val) / 1 % 60) * 2 + 0) % 120 = 2 * n.val
    omega

theorem phi_at (s : Fin 256) (n : Fin 60) (h : 2 * n.val + 1 < 120) :
    val_main_v17 (F := Ideal) x0 x1 x2 (ix2 s n) = Angles.emb x0 x1 x2 s ⟨2 * n.val + 1, h⟩ := by
  rw [val_main_v17_apply, val_main_v16_apply, val_main_v11_apply, ← emb_at]
  congr 1
  funext b
  have hn := n.isLt
  fin_cases b
  · apply Fin.ext
    show ((((s.val * 60 + n.val) / 60) * 60 + (s.val * 60 + n.val) / 1 % 60) * 2 + (1 + 0)) / 120 = s.val
    omega
  · apply Fin.ext
    show ((((s.val * 60 + n.val) / 60) * 60 + (s.val * 60 + n.val) / 1 % 60) * 2 + (1 + 0)) % 120 = 2 * n.val + 1
    omega

/-- The functions of the angles, two per block. -/
theorem turn_cos (s : Fin 256) : turn (ct x0 x1 x2) (cp x0 x1 x2) s = Angles.cosOf (Angles.emb x0 x1 x2 s) := by
  funext r
  unfold turn Angles.cosOf Angles.angle
  split
  · rename_i h
    show Ideal.cos (val_main_v13 (F := Ideal) x0 x1 x2 _ * Ideal.ofBits .f32 0x3FC90FDB#32) = _
    rw [theta_at x0 x1 x2 s _ (by have : r / 2 % 60 < 60 := Nat.mod_lt _ (by decide); show 2 * (r / 2 % 60) < 120; omega)]
    congr 3
    apply Fin.ext
    show 2 * (r / 2 % 60) = r % 120
    omega
  · rename_i h
    show Ideal.cos (val_main_v17 (F := Ideal) x0 x1 x2 _ * Ideal.ofBits .f32 0x40C90FDB#32) = _
    rw [phi_at x0 x1 x2 s _ (by have : r / 2 % 60 < 60 := Nat.mod_lt _ (by decide); show 2 * (r / 2 % 60) + 1 < 120; omega)]
    congr 3
    apply Fin.ext
    show 2 * (r / 2 % 60) + 1 = r % 120
    omega

theorem turn_sin (s : Fin 256) : turn (st x0 x1 x2) (sp x0 x1 x2) s = Angles.sinOf (Angles.emb x0 x1 x2 s) := by
  funext r
  unfold turn Angles.sinOf Angles.angle
  split
  · rename_i h
    show Ideal.sin (val_main_v13 (F := Ideal) x0 x1 x2 _ * Ideal.ofBits .f32 0x3FC90FDB#32) = _
    rw [theta_at x0 x1 x2 s _ (by have : r / 2 % 60 < 60 := Nat.mod_lt _ (by decide); show 2 * (r / 2 % 60) < 120; omega)]
    congr 3
    apply Fin.ext
    show 2 * (r / 2 % 60) = r % 120
    omega
  · rename_i h
    show Ideal.sin (val_main_v17 (F := Ideal) x0 x1 x2 _ * Ideal.ofBits .f32 0x40C90FDB#32) = _
    rw [phi_at x0 x1 x2 s _ (by have : r / 2 % 60 < 60 := Nat.mod_lt _ (by decide); show 2 * (r / 2 % 60) + 1 < 120; omega)]
    congr 3
    apply Fin.ext
    show 2 * (r / 2 % 60) + 1 = r % 120
    omega

theorem eye_at (s : Fin 256) (a : Fin 16) (i : Nat) (hi : i < 16) :
    cell (val_main_v30 (F := Ideal)) (val_main_v31 (F := Ideal)) s a i = first a.val i := by
  rw [cell_lt _ _ _ _ hi]
  refine Prod.ext ?_ ?_
  · show val_main_v30 (F := Ideal) (ix3 s ⟨i, hi⟩ a) = if i = a.val then 1 else 0
    rw [val_main_v30_apply, val_main_v29_apply]
    have e : ∀ i a : Fin 16, IntOp.cmpi .eq (IntOp.addi (BitVec.ofNat 32 i.val) (0#32)) (BitVec.ofNat 32 a.val)
        = if i.val = a.val then 1#1 else 0#1 := by decide
    have e' : val_main_v28 (F := Ideal) (idx_main_v30 (ix3 s ⟨i, hi⟩ a)) = if i = a.val then 1#1 else 0#1 := e ⟨i, hi⟩ a
    rw [e']
    show (((if i = a.val then 1#1 else 0#1 : BitVec 1).toNat : ℝ) : EReal) = _
    split <;> simp
  · show val_main_v31 (F := Ideal) (ix3 s ⟨i, hi⟩ a) = 0
    rw [val_main_v31_apply]
    exact Ideal.ofBits_zero_f32

theorem rows_at (s : Fin 256) (a m : Fin 16) :
    (val_main_v612 (F := Ideal) x0 x1 x2 (ix3 s m a), val_main_v615 (F := Ideal) x0 x1 x2 (ix3 s m a))
      = out (Angles.cosOf (Angles.emb x0 x1 x2 s)) (Angles.sinOf (Angles.emb x0 x1 x2 s)) a.val m.val := by
  have hc : (val_main_v612 (F := Ideal) x0 x1 x2 (ix3 s m a), val_main_v615 (F := Ideal) x0 x1 x2 (ix3 s m a))
      = (tab (cell (val_main_v612 (F := Ideal) x0 x1 x2) (val_main_v615 (F := Ideal) x0 x1 x2) s a) 0 16).getD m.val (0, 0) := by
    rw [tab_getD _ _ _ _ _ m.isLt, Nat.zero_add, cell_lt _ _ _ _ m.isLt]
  rw [hc, layer7R, layer7I, odd_layer _ _ _ _ _ _ _ (by decide), layer6R, layer6I, even_layer _ _ _ _ _ _ _ (by decide),
    layer5R, layer5I, odd_layer _ _ _ _ _ _ _ (by decide), layer4R, layer4I, even_layer _ _ _ _ _ _ _ (by decide),
    layer3R, layer3I, odd_layer _ _ _ _ _ _ _ (by decide), layer2R, layer2I, even_layer _ _ _ _ _ _ _ (by decide),
    layer1R, layer1I, odd_layer _ _ _ _ _ _ _ (by decide), layer0R, layer0I, even_layer _ _ _ _ _ _ _ (by decide)]
  rw [tab_congr _ (first a.val) 16 0 fun i hi => by rw [Nat.zero_add]; exact eye_at s a i hi]
  show _ = (layers _ _ 4 0 _).getD _ _
  rw [← turn_cos, ← turn_sin]
  rfl

end Cert.RefCircuit

end
-- ==== Proof.RefGram.lean ====
/- The reference's Gram arrays, at two samples. -/
module

public import proofs.«01_k».proof.Proof.RefCircuit
public import proofs.«01_k».proof.Proof.Overlap

@[expose] public section

noncomputable section

namespace Cert.RefKernel

open Idealize.ShloMosaic Idealize.ShloMosaic.ValueIdx Cert.Pairs Cert.Overlap Cert.ReferenceIdeal.Read

variable (x0 : FVec Ideal ⟨2, ![256, 64]⟩ .f32) (x1 : FVec Ideal ⟨2, ![120, 64]⟩ .f32) (x2 : FVec Ideal ⟨1, ![120]⟩ .f32)

/-- The first eight columns. -/
theorem re_at (s : Fin 256) (n : Fin 16) (i : Fin 8) :
    val_main_v616 (F := Ideal) x0 x1 x2 (ix3 s n i) = (Angles.cell x0 x1 x2 s i.val n.val).1 := by
  have h := congrArg Prod.fst (RefCircuit.rows_at x0 x1 x2 s (⟨i.val, by omega⟩ : Fin 16) n)
  refine Eq.trans ?_ h
  unfold val_main_v616
  exact extractStridedSlice_apply _ _ _ _ (ix3 s n (⟨i.val, by omega⟩ : Fin 16)) fun a => by fin_cases a <;> exact (Nat.zero_add _).symm

theorem im_at (s : Fin 256) (n : Fin 16) (i : Fin 8) :
    val_main_v617 (F := Ideal) x0 x1 x2 (ix3 s n i) = (Angles.cell x0 x1 x2 s i.val n.val).2 := by
  have h := congrArg Prod.snd (RefCircuit.rows_at x0 x1 x2 s (⟨i.val, by omega⟩ : Fin 16) n)
  refine Eq.trans ?_ h
  unfold val_main_v617
  exact extractStridedSlice_apply _ _ _ _ (ix3 s n (⟨i.val, by omega⟩ : Fin 16)) fun a => by fin_cases a <;> exact (Nat.zero_add _).symm

/-- A value read at an index known coordinate by coordinate. -/
theorem at_same {d : ℕ} {size : Fin d → ℕ} {v : FVec Ideal ⟨d, size⟩ .f32} {i k : Shape.Idx ⟨d, size⟩} {y : EReal} (h : v k = y)
    (e : ∀ b, i b = k b) : v i = y := (congrArg v (funext e)).trans h

theorem rr_at (s t : Fin 256) (i j : Fin 8) : val_main_v619 (F := Ideal) x0 x1 x2 (ix4 s t i j)
    = ∑ n : Fin 16, (Angles.cell x0 x1 x2 t j.val n.val).1 * (Angles.cell x0 x1 x2 s i.val n.val).1 := by
  rw [val_main_v619_apply, val_main_v618_apply]
  exact Finset.sum_congr rfl fun n _ => congrArg₂ (· * ·) (at_same (re_at x0 x1 x2 t n j) fun b => by fin_cases b <;> rfl)
    (at_same (re_at x0 x1 x2 s n i) fun b => by fin_cases b <;> rfl)

theorem ii_at (s t : Fin 256) (i j : Fin 8) : val_main_v621 (F := Ideal) x0 x1 x2 (ix4 s t i j)
    = ∑ n : Fin 16, (Angles.cell x0 x1 x2 t j.val n.val).2 * (Angles.cell x0 x1 x2 s i.val n.val).2 := by
  rw [val_main_v621_apply, val_main_v620_apply]
  exact Finset.sum_congr rfl fun n _ => congrArg₂ (· * ·) (at_same (im_at x0 x1 x2 t n j) fun b => by fin_cases b <;> rfl)
    (at_same (im_at x0 x1 x2 s n i) fun b => by fin_cases b <;> rfl)

theorem ir_at (s t : Fin 256) (i j : Fin 8) : val_main_v624 (F := Ideal) x0 x1 x2 (ix4 s t i j)
    = ∑ n : Fin 16, (Angles.cell x0 x1 x2 t j.val n.val).2 * (Angles.cell x0 x1 x2 s i.val n.val).1 := by
  rw [val_main_v624_apply, val_main_v623_apply]
  exact Finset.sum_congr rfl fun n _ => congrArg₂ (· * ·) (at_same (im_at x0 x1 x2 t n j) fun b => by fin_cases b <;> rfl)
    (at_same (re_at x0 x1 x2 s n i) fun b => by fin_cases b <;> rfl)

theorem ri_at (s t : Fin 256) (i j : Fin 8) : val_main_v626 (F := Ideal) x0 x1 x2 (ix4 s t i j)
    = ∑ n : Fin 16, (Angles.cell x0 x1 x2 t j.val n.val).1 * (Angles.cell x0 x1 x2 s i.val n.val).2 := by
  rw [val_main_v626_apply, val_main_v625_apply]
  exact Finset.sum_congr rfl fun n _ => congrArg₂ (· * ·) (at_same (re_at x0 x1 x2 t n j) fun b => by fin_cases b <;> rfl)
    (at_same (im_at x0 x1 x2 s n i) fun b => by fin_cases b <;> rfl)

/-- One number times the real part of another, and the parts of it times the imaginary part, exchanged. -/
theorem holds_by_re {a b c d : EReal} {z w : ℂ} (h : Holds a b z) (k : Holds c d w) : Holds (c * a) (d * a) ⟨w.re * z.re, w.im * z.re⟩ := by
  obtain ⟨rfl, rfl⟩ := h
  obtain ⟨rfl, rfl⟩ := k
  exact ⟨(EReal.coe_mul _ _).symm, (EReal.coe_mul _ _).symm⟩
theorem holds_by_im {a b c d : EReal} {z w : ℂ} (h : Holds a b z) (k : Holds c d w) : Holds (d * b) (c * b) ⟨w.im * z.im, w.re * z.im⟩ := by
  obtain ⟨rfl, rfl⟩ := h
  obtain ⟨rfl, rfl⟩ := k
  exact ⟨(EReal.coe_mul _ _).symm, (EReal.coe_mul _ _).symm⟩

theorem holds_add_conj {a b c d : EReal} {z w : ℂ} (h : Holds a b z) (k : Holds c d w) : Holds (a + c) (b - d) (z + (starRingEnd ℂ) w) := by
  obtain ⟨rfl, rfl⟩ := h
  obtain ⟨rfl, rfl⟩ := k
  exact ⟨by rw [Complex.add_re, Complex.conj_re, EReal.coe_add], by rw [Complex.add_im, Complex.conj_im, ← sub_eq_add_neg, EReal.coe_sub]⟩

/-- The Gram array of two samples. -/
theorem gram_at (s t : Fin 256) (i j : Fin 8) :
    Holds (val_main_v622 (F := Ideal) x0 x1 x2 (ix4 s t i j)) (val_main_v627 (F := Ideal) x0 x1 x2 (ix4 s t i j)) (gram x0 x1 x2 s t i j) := by
  rw [val_main_v622_apply, val_main_v627_apply, rr_at, ii_at, ir_at, ri_at]
  have h := holds_add_conj
    (Holds.sum fun n : Fin 16 => holds_by_re (amp_holds x0 x1 x2 s n i) (amp_holds x0 x1 x2 t n j))
    (Holds.sum fun n : Fin 16 => holds_by_im (amp_holds x0 x1 x2 s n i) (amp_holds x0 x1 x2 t n j))
  have e : gram x0 x1 x2 s t i j = (∑ n : Fin 16, (⟨(amp x0 x1 x2 t n j).re * (amp x0 x1 x2 s n i).re,
      (amp x0 x1 x2 t n j).im * (amp x0 x1 x2 s n i).re⟩ : ℂ)) + (starRingEnd ℂ) (∑ n : Fin 16,
        (⟨(amp x0 x1 x2 t n j).im * (amp x0 x1 x2 s n i).im, (amp x0 x1 x2 t n j).re * (amp x0 x1 x2 s n i).im⟩ : ℂ)) := by
    unfold gram
    rw [map_sum, ← Finset.sum_add_distrib]
    refine Finset.sum_congr rfl fun n _ => ?_
    apply Complex.ext
    · simp [Complex.mul_re]
      ring
    · simp [Complex.mul_im]
      ring
  rw [e]
  exact h

/-- Two samples as one number. -/
abbrev both (s t : Fin 256) : Fin 65536 := ⟨s.val * 256 + t.val, by omega⟩

theorem flat_at (v : FVec Ideal ⟨4, ![256, 256, 8, 8]⟩ .f32) (h) (s t : Fin 256) (i j : Fin 8) :
    shapeCast (⟨3, ![65536, 8, 8]⟩ : Shape) v h (ix3 (both s t) i j) = v (ix4 s t i j) := by
  refine shapeCast_apply _ _ _ _ ?_
  rw [Shape.rowMajor_val_four, Shape.rowMajor_val_three]
  rfl

end Cert.RefKernel

end
-- ==== Proof.RefSigns.lean ====
/- The subsets and signs of the reference's inclusion-exclusion: whole-number words, read off. -/
module

public import proofs.«01_k».proof.Proof.Permanent
public import proofs.«01_k».proof.Proof.Gen.ReferenceIdeal.Read
public import Idealize.ShloMosaic.Lib.IdealHost

@[expose] public section

noncomputable section

namespace Cert.RefKernel

open Idealize.ShloMosaic Idealize.ShloMosaic.ValueIdx Cert.Permanent Cert.ReferenceIdeal.Read

/-- Membership of column `j` in subset `d`. -/
def has (d : ℕ) (j : Fin 8) : Bool := d.testBit j.val

/-- The word the reference forms for it. -/
def maskWord (k : Fin 255) (j : Fin 8) : BitVec 32 :=
  IntOp.andi (IntOp.shrsi .host (IntOp.addi 1#32 (BitVec.ofNat 32 k.val)) (BitVec.ofNat 32 j.val)) 1#32

/-- The word of a subset's sign. -/
def signWord (k : Fin 255) : BitVec 32 :=
  IntOp.subi 1#32 (IntOp.muli 2#32 (IntOp.andi (IntOp.subi 8#32 ((Finset.univ : Finset (Fin 8)).fold IntOp.addi 0#32 (maskWord k))) 1#32))

theorem mask_int : ∀ k j, (maskWord k j).toInt = if has (k.val + 1) j then 1 else 0 := by decide +kernel
theorem sign_int : ∀ k, (signWord k).toInt = ((List.finRange 8).map fun j => if has (k.val + 1) j then (1 : ℤ) else -1).prod := by decide +kernel

theorem mask_at (k : Fin 255) (j : Fin 8) : val_main_v638 (F := Ideal) (ix2 k j) = maskWord k j := by
  rw [val_main_v638_apply, val_main_v636_apply, val_main_v634_apply, val_main_v631_apply, val_main_v635_apply, val_main_v633_apply, val_main_v637_apply]
  rfl

theorem count_at (k : Fin 255) : val_main_v639 (F := Ideal) (ix1 k) = (Finset.univ : Finset (Fin 8)).fold IntOp.addi 0#32 (maskWord k) := by
  unfold val_main_v639
  rw [Host.reduce_eq_fold_single IntOp.addi _ _ _ (by decide)]
  refine Finset.fold_congr fun j _ => ?_
  refine Eq.trans (congrArg (val_main_v638 (F := Ideal)) (funext fun b => ?_)) (mask_at k j)
  fin_cases b <;> rfl

theorem sign_at (k : Fin 255) : val_main_v647 (F := Ideal) (ix1 k) = signWord k := by
  rw [val_main_v647_apply, val_main_v646_apply, val_main_v645_apply, val_main_v644_apply, val_main_v643_apply, val_main_v642_apply, val_main_v641_apply,
    val_main_v640_apply, count_at]
  rfl

/-- The subsets are the eight-bit numbers. -/
theorem has_bijective : Function.Bijective (fun d : Fin 256 => has d.val) := by
  rw [Fintype.bijective_iff_injective_and_card]
  refine ⟨fun a b h => Fin.ext (Nat.eq_of_testBit_eq fun i => ?_), by simp⟩
  by_cases hi : i < 8
  · exact congrFun h ⟨i, hi⟩
  · have hp : (256 : ℕ) ≤ 2 ^ i := by
      calc (256 : ℕ) = 2 ^ 8 := by norm_num
        _ ≤ 2 ^ i := Nat.pow_le_pow_right (by norm_num) (by omega)
    rw [Nat.testBit_lt_two_pow (lt_of_lt_of_le a.isLt hp), Nat.testBit_lt_two_pow (lt_of_lt_of_le b.isLt hp)]

theorem mask_value (k : Fin 255) (j : Fin 8) : (((maskWord k j).toInt : ℝ) : ℂ) = rv (has (k.val + 1) j) := by
  rw [mask_int, rv]
  split <;> simp

theorem sign_value (k : Fin 255) : (((signWord k).toInt : ℝ) : ℂ) = ∏ j, rw' (has (k.val + 1) j) := by
  rw [sign_int, ← Fin.prod_univ_def]
  push_cast
  refine Finset.prod_congr rfl fun j _ => ?_
  rw [rw']
  split <;> simp

/-- Summed over the non-empty subsets, the signed products of row sums are the permanent: the empty one adds nothing. -/
theorem subsets_sum (A : Fin 8 → Fin 8 → ℂ) :
    ∑ k : Fin 255, (((signWord k).toInt : ℝ) : ℂ) * ∏ i, ∑ j, (((maskWord k j).toInt : ℝ) : ℂ) * A i j = perm A := by
  rw [← ryser A, weighted, ← Fintype.sum_bijective (fun d : Fin 256 => has d.val) has_bijective
    (fun d => (∏ j, rw' (has d.val j)) * ∏ i, ∑ j, rv (has d.val j) * A i j) _ (fun _ => rfl), Fin.sum_univ_succ (n := 255)]
  have h0 : ∏ i : Fin 8, ∑ j, rv (has (0 : Fin 256).val j) * A i j = 0 :=
    Finset.prod_eq_zero (Finset.mem_univ 0) (Finset.sum_eq_zero fun j _ => by simp [has, rv])
  rw [h0, mul_zero, zero_add]
  refine Finset.sum_congr rfl fun k _ => ?_
  rw [sign_value]
  simp only [mask_value]
  rfl

end Cert.RefKernel

end
-- ==== Proof.RefKernel.lean ====
/- The reference's second result, entry by entry. -/
module

public import proofs.«01_k».proof.Proof.RefGram
public import proofs.«01_k».proof.Proof.RefSigns

@[expose] public section

noncomputable section

namespace Cert.RefKernel

open Idealize.ShloMosaic Idealize.ShloMosaic.ValueIdx Cert.Pairs Cert.Overlap Cert.Permanent Cert.ReferenceIdeal.Read

/-- Row sums: pair, subset, row. -/
abbrev Sums := FVec Ideal ⟨3, ![65536, 255, 8]⟩ .f32
/-- Products: pair, subset. -/
abbrev Prods := FVec Ideal ⟨2, ![65536, 255]⟩ .f32

/-- One row's sums out of all. -/
def pick (v : Sums) (o : ℕ) (h : (⟨3, ![65536, 255, 8]⟩ : Shape).Slices ![0, 0, o] ⟨3, ![65536, 255, 1]⟩) : Prods :=
  shapeCast _ (extractStridedSlice ⟨3, ![65536, 255, 1]⟩ ![0, 0, o] v h) Cert.ReferenceIdeal.Gen.shapeCasts_S65536x255x1_S65536x255

theorem pick_at (v : Sums) (o : Fin 8) (h) (c : Fin 65536) (k : Fin 255) : pick v o.val h (ix2 c k) = v (ix3 c k o) := by
  unfold pick
  refine (shapeCast_apply _ _ _ (ix3 c k (0 : Fin 1)) ?_).trans ?_
  · rw [Shape.rowMajor_val_two, Shape.rowMajor_val_three]
    show (c.val * 255 + k.val) * 1 + 0 = c.val * 255 + k.val
    omega
  · refine extractStridedSlice_apply _ _ _ _ _ fun b => ?_
    fin_cases b
    · exact (Nat.zero_add _).symm
    · exact (Nat.zero_add _).symm
    · rfl

/-- The first row alone. -/
theorem first_holds {sr si : Sums} (o : Fin 8) (h) {c : Fin 65536} {k : Fin 255} {w : ℂ}
    (hs : Holds (sr (ix3 c k o)) (si (ix3 c k o)) w) : Holds (pick sr o.val h (ix2 c k)) (pick si o.val h (ix2 c k)) w := by
  rw [pick_at, pick_at]
  exact hs

/-- One more row taken into the product. -/
theorem next_holds {pr pi : Prods} {sr si : Sums} (o : Fin 8) (h) {c : Fin 65536} {k : Fin 255} {z w : ℂ}
    (hp : Holds (pr (ix2 c k)) (pi (ix2 c k)) z) (hs : Holds (sr (ix3 c k o)) (si (ix3 c k o)) w) :
    Holds (subf (mulf pr (pick sr o.val h)) (mulf pi (pick si o.val h)) (ix2 c k))
      (addf (mulf pr (pick si o.val h)) (mulf pi (pick sr o.val h)) (ix2 c k)) (z * w) :=
  hp.mul (first_holds o h hs)

variable (x0 : FVec Ideal ⟨2, ![256, 64]⟩ .f32) (x1 : FVec Ideal ⟨2, ![120, 64]⟩ .f32) (x2 : FVec Ideal ⟨1, ![120]⟩ .f32)

/-- A subset's sum over one row of the Gram array. -/
def rowSum (s t : Fin 256) (k : Fin 255) (i : Fin 8) : ℂ := ∑ j, (((maskWord k j).toInt : ℝ) : ℂ) * gram x0 x1 x2 s t i j

theorem sums_at (s t : Fin 256) (k : Fin 255) (i : Fin 8) :
    Holds (val_main_v652 (F := Ideal) x0 x1 x2 (ix3 (both s t) k i)) (val_main_v655 (F := Ideal) x0 x1 x2 (ix3 (both s t) k i))
      (rowSum x0 x1 x2 s t k i) := by
  have e := Holds.sum fun j : Fin 8 => (gram_at x0 x1 x2 s t i j).scale ((maskWord k j).toInt : ℝ)
  have m : ∀ j : Fin 8, val_main_v649 (F := Ideal) (ix2 k j) = (((maskWord k j).toInt : ℝ) : EReal) := fun j => by
    rw [val_main_v649_apply, mask_at]
    rfl
  rw [val_main_v652_apply, val_main_v651_apply, val_main_v655_apply, val_main_v654_apply]
  refine Eq.mp (congrArg₂ (fun a b => Holds a b (rowSum x0 x1 x2 s t k i)) ?_ ?_) e
  · exact Finset.sum_congr rfl fun j _ => congrArg₂ (· * ·) (at_same (m j) fun b => by fin_cases b <;> rfl).symm
      (at_same (flat_at (val_main_v622 (F := Ideal) x0 x1 x2) _ s t i j) fun b => by fin_cases b <;> rfl).symm
  · exact Finset.sum_congr rfl fun j _ => congrArg₂ (· * ·) (at_same (m j) fun b => by fin_cases b <;> rfl).symm
      (at_same (flat_at (val_main_v627 (F := Ideal) x0 x1 x2) _ s t i j) fun b => by fin_cases b <;> rfl).symm

/-- Two arrays of products, at a pair and a subset. -/
def At (s t : Fin 256) (k : Fin 255) (p q : Prods) (z : ℂ) : Prop := Holds (p (ix2 (both s t) k)) (q (ix2 (both s t) k)) z

theorem product_at (s t : Fin 256) (k : Fin 255) :
    At s t k (val_main_v750 (F := Ideal) x0 x1 x2) (val_main_v757 (F := Ideal) x0 x1 x2) (∏ i, rowSum x0 x1 x2 s t k i) := by
  have hs := sums_at x0 x1 x2 s t k
  rw [Fin.prod_univ_eight]
  generalize rowSum x0 x1 x2 s t k = z at hs ⊢
  have h0 : At s t k (val_main_v657 (F := Ideal) x0 x1 x2) (val_main_v659 (F := Ideal) x0 x1 x2) (z 0) :=
    first_holds 0 Cert.ReferenceIdeal.Gen.slices_S65536x255x8_S65536x255x1_0_0_0 (hs 0)
  have h1 : At s t k (val_main_v666 (F := Ideal) x0 x1 x2) (val_main_v673 (F := Ideal) x0 x1 x2) (z 0 * z 1) :=
    next_holds 1 Cert.ReferenceIdeal.Gen.slices_S65536x255x8_S65536x255x1_0_0_1 h0 (hs 1)
  have h2 : At s t k (val_main_v680 (F := Ideal) x0 x1 x2) (val_main_v687 (F := Ideal) x0 x1 x2) (z 0 * z 1 * z 2) :=
    next_holds 2 Cert.ReferenceIdeal.Gen.slices_S65536x255x8_S65536x255x1_0_0_2 h1 (hs 2)
  have h3 : At s t k (val_main_v694 (F := Ideal) x0 x1 x2) (val_main_v701 (F := Ideal) x0 x1 x2) (z 0 * z 1 * z 2 * z 3) :=
    next_holds 3 Cert.ReferenceIdeal.Gen.slices_S65536x255x8_S65536x255x1_0_0_3 h2 (hs 3)
  have h4 : At s t k (val_main_v708 (F := Ideal) x0 x1 x2) (val_main_v715 (F := Ideal) x0 x1 x2) (z 0 * z 1 * z 2 * z 3 * z 4) :=
    next_holds 4 Cert.ReferenceIdeal.Gen.slices_S65536x255x8_S65536x255x1_0_0_4 h3 (hs 4)
  have h5 : At s t k (val_main_v722 (F := Ideal) x0 x1 x2) (val_main_v729 (F := Ideal) x0 x1 x2) (z 0 * z 1 * z 2 * z 3 * z 4 * z 5) :=
    next_holds 5 Cert.ReferenceIdeal.Gen.slices_S65536x255x8_S65536x255x1_0_0_5 h4 (hs 5)
  have h6 : At s t k (val_main_v736 (F := Ideal) x0 x1 x2) (val_main_v743 (F := Ideal) x0 x1 x2) (z 0 * z 1 * z 2 * z 3 * z 4 * z 5 * z 6) :=
    next_holds 6 Cert.ReferenceIdeal.Gen.slices_S65536x255x8_S65536x255x1_0_0_6 h5 (hs 6)
  exact next_holds 7 Cert.ReferenceIdeal.Gen.slices_S65536x255x8_S65536x255x1_0_0_7 h6 (hs 7)

theorem perm_at (s t : Fin 256) :
    Holds (val_main_v761 (F := Ideal) x0 x1 x2 (ix1 (both s t))) (val_main_v765 (F := Ideal) x0 x1 x2 (ix1 (both s t))) (perm (gram x0 x1 x2 s t)) := by
  have e := Holds.sum fun k : Fin 255 => Holds.scale (h := product_at x0 x1 x2 s t k) ((signWord k).toInt : ℝ)
  have g : ∀ k : Fin 255, val_main_v648 (F := Ideal) (ix1 k) = (((signWord k).toInt : ℝ) : EReal) := fun k => by
    rw [val_main_v648_apply, sign_at]
    rfl
  have g1 : ∀ k : Fin 255, val_main_v759 (F := Ideal) (ix2 (both s t) k) = (((signWord k).toInt : ℝ) : EReal) := fun k => by
    rw [val_main_v759_apply, val_main_v758_apply]
    exact at_same (g k) fun b => by fin_cases b; rfl
  have g2 : ∀ k : Fin 255, val_main_v763 (F := Ideal) (ix2 (both s t) k) = (((signWord k).toInt : ℝ) : EReal) := fun k => by
    rw [val_main_v763_apply, val_main_v762_apply]
    exact at_same (g k) fun b => by fin_cases b; rfl
  have e1 : val_main_v761 (F := Ideal) x0 x1 x2 (ix1 (both s t))
      = ∑ k : Fin 255, (((signWord k).toInt : ℝ) : EReal) * val_main_v750 (F := Ideal) x0 x1 x2 (ix2 (both s t) k) := by
    rw [val_main_v761_apply]
    refine Eq.trans (congrArg (· + _) Ideal.ofBits_zero_f32) ((zero_add _).trans (Finset.sum_congr rfl fun k _ => ?_))
    refine at_same (k := ix2 (both s t) k) ?_ fun b => by fin_cases b <;> rfl
    rw [val_main_v760_apply, g1]
    exact mul_comm _ _
  have e2 : val_main_v765 (F := Ideal) x0 x1 x2 (ix1 (both s t))
      = ∑ k : Fin 255, (((signWord k).toInt : ℝ) : EReal) * val_main_v757 (F := Ideal) x0 x1 x2 (ix2 (both s t) k) := by
    rw [val_main_v765_apply]
    refine Eq.trans (congrArg (· + _) Ideal.ofBits_zero_f32) ((zero_add _).trans (Finset.sum_congr rfl fun k _ => ?_))
    refine at_same (k := ix2 (both s t) k) ?_ fun b => by fin_cases b <;> rfl
    rw [val_main_v764_apply, g2]
    exact mul_comm _ _
  rw [e1, e2, ← subsets_sum]
  exact e

/-- The second result. -/
theorem kern_at (s t : Fin 256) : val_main_v777 (F := Ideal) x0 x1 x2 (ix2 s t) = kern x0 x1 x2 s t := by
  have hv : val_main_v769 (F := Ideal) x0 x1 x2 (ix2 s t) = ((Complex.normSq (perm (gram x0 x1 x2 s t)) : ℝ) : EReal) := by
    refine Eq.trans ?_ (perm_at x0 x1 x2 s t).normSq
    unfold val_main_v769
    refine (shapeCast_apply _ _ _ (ix1 (both s t)) ?_).trans rfl
    rw [Shape.rowMajor_val_two, Shape.rowMajor_val_one]
    rfl
  have hm : val_main_v776 (F := Ideal) (ix2 s t) = IntOp.cmpi .eq (BitVec.ofNat 32 s.val) (BitVec.ofNat 32 t.val) := by
    rw [val_main_v776_apply, val_main_v774_apply, val_main_v771_apply, val_main_v775_apply, val_main_v773_apply]
    rfl
  have h1 : val_main_call0_v1 (F := Ideal) (ix2 s t) = 1 := by
    rw [val_main_call0_v1_apply]
    exact Ideal.ofBits_one_f32
  have hw : BitVec.ofNat 32 s.val = BitVec.ofNat 32 t.val ↔ s = t := by
    refine ⟨fun h => Fin.ext ?_, fun h => by rw [h]⟩
    have h' := congrArg BitVec.toNat h
    have a := s.isLt
    have b := t.isLt
    rw [BitVec.toNat_ofNat, BitVec.toNat_ofNat] at h'
    omega
  rw [val_main_v777_apply, hv, hm, h1, kern]
  by_cases h : s = t
  · subst h
    simp [Scalar.select, IntOp.cmpi]
  · simp [Scalar.select, IntOp.cmpi, h, beq_eq_false_iff_ne.mpr (mt hw.mp h)]

end Cert.RefKernel

end
-- ==== Proof.Values.lean ====
/- The value claim: kernel and reference end with the same two arrays. -/
module

public import proofs.«01_k».proof.Defs
public import proofs.«01_k».proof.Proof.RunKernelIdeal
public import proofs.«01_k».proof.Proof.KernelSecond
public import proofs.«01_k».proof.Proof.RefKernel
public import proofs.«01_k».proof.Proof.Gen.ReferenceIdeal.Run

@[expose] public section

noncomputable section

namespace Cert.Values

open Idealize.ShloMosaic Idealize.SL.Sem Idealize.ShloMosaic.ValueIdx

/-- Two-axis arrays equal entry by entry. -/
theorem same_two {a b : ℕ} {v w : FVec Ideal ⟨2, ![a, b]⟩ .f32} (h : ∀ s t, v (ix2 s t) = w (ix2 s t)) : v = w := by
  funext i
  rw [eq_ix2 i]
  exact h _ _

section
open Cert.KernelIdeal Cert.KernelIdeal.Run Idealize.ShloMosaic.TcCoe
variable (m : (ℓ : Loc nD τ sig) → Buf (Elt Ideal) ℓ) (c : Dev nD)

/-- The embedding of the launch's arguments. -/
def embed : FVec Ideal ⟨2, ![256, 120]⟩ .f32 := fun i => Angles.emb (xArg m c) (wArg m c) (bArg m c) (i 0) (i 1)
/-- The kernel matrix of the launch's arguments. -/
def matrix : FVec Ideal ⟨2, ![256, 256]⟩ .f32 := fun i => Overlap.kern (xArg m c) (wArg m c) (bArg m c) (i 0) (i 1)

theorem kernel_embed : (W3 m c main_v3 : FVec Ideal ⟨2, ![256, 120]⟩ .f32) = embed m c := same_two (W3_emb m c)
theorem kernel_matrix (o : Res Ideal) (ho : Sel m c (o c)) : (W6 m o c main_v30 : FVec Ideal ⟨2, ![256, 256]⟩ .f32) = matrix m c :=
  same_two (W6_kern m c o ho)
end

theorem values : algebraic_KernelIdeal_ReferenceIdeal (hKernelIdeal := Cert.KernelIdeal.Gen.facts) (hReferenceIdeal := Cert.ReferenceIdeal.Gen.facts) :=
  fun m g m' g' _ he => ⟨fun c => embed m c, fun c => matrix m c,
    (θ_run Cert.KernelIdeal.defs _ _).mono
      (fun _ h c => let ⟨o, ho, h3, h30, h0, h1, h2⟩ := h.1 c
        ⟨h3.trans (kernel_embed m c), h30.trans (kernel_matrix m c o ho), h0, h1, h2⟩)
      (Cert.KernelIdeal.Run.run (F := Ideal) m g),
    (θ_run Cert.ReferenceIdeal.defs _ _).mono
      (fun _ h c => by
        obtain ⟨h10, h777, hargs⟩ := h c
        obtain ⟨e0, e1, e2⟩ := he c
        have r10 : Cert.ReferenceIdeal.Read.val_main_v10 (F := Ideal) (Cert.KernelIdeal.Run.xArg m c) (Cert.KernelIdeal.Run.wArg m c)
            (Cert.KernelIdeal.Run.bArg m c) = embed m c := same_two fun s r => RefCircuit.emb_at _ _ _ s r
        have r777 : Cert.ReferenceIdeal.Read.val_main_v777 (F := Ideal) (Cert.KernelIdeal.Run.xArg m c) (Cert.KernelIdeal.Run.wArg m c)
            (Cert.KernelIdeal.Run.bArg m c) = matrix m c := same_two fun s t => RefKernel.kern_at _ _ _ s t
        rw [Cert.ReferenceIdeal.Read.val_main_v10_eq] at h10
        rw [Cert.ReferenceIdeal.Read.val_main_v777_eq] at h777
        refine ⟨h10.trans (Eq.trans ?_ r10), h777.trans (Eq.trans ?_ r777), hargs⟩
        · exact congr (congr (congrArg (Cert.ReferenceIdeal.Read.val_main_v10 (F := Ideal)) e0) e1) e2
        · exact congr (congr (congrArg (Cert.ReferenceIdeal.Read.val_main_v777 (F := Ideal)) e0) e1) e2)
      (Cert.ReferenceIdeal.Value.run (F := Ideal) m' g')⟩

end Cert.Values

end
-- ==== Proof.lean ====
module

public import proofs.«01_k».proof.Defs
public import proofs.«01_k».proof.Proof.Gen.Kernel
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- The frames, that the idealization preserves the kernel, and that kernel and reference end with the same values. -/
theorem claim : Cert.Claim := ⟨Cert.Kernel.Gen.facts, Cert.KernelIdeal.Gen.facts, Cert.ReferenceIdeal.Gen.facts,
  Cert.Frames.kernel, Cert.Frames.ideal, Cert.Frames.reference, trivial, Cert.Values.values⟩

end Cert.Proof

end
